-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_GwGateUp (m : (ℓ : Loc Cert.GwGateUp.nD Cert.GwGateUp.τ Cert.GwGateUp.sig) → Buf (Elt Bits) ℓ) : Prop :=
  True

def Pre_GwGateUpIdeal (m : (ℓ : Loc Cert.GwGateUpIdeal.nD Cert.GwGateUpIdeal.τ Cert.GwGateUpIdeal.sig) → Buf (Elt Ideal) ℓ) : Prop :=
  True

def Pre_GwGateUpRefIdeal (m : (ℓ : Loc Cert.GwGateUpRefIdeal.nD Cert.GwGateUpRefIdeal.τ Cert.GwGateUpRefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_GwBranch (m : (ℓ : Loc Cert.GwBranch.nD Cert.GwBranch.τ Cert.GwBranch.sig) → Buf (Elt Bits) ℓ) : Prop :=
  True

def Pre_GwBranchIdeal (m : (ℓ : Loc Cert.GwBranchIdeal.nD Cert.GwBranchIdeal.τ Cert.GwBranchIdeal.sig) → Buf (Elt Ideal) ℓ) : Prop :=
  True

def Pre_GwBranchRefIdeal (m : (ℓ : Loc Cert.GwBranchRefIdeal.nD Cert.GwBranchRefIdeal.τ Cert.GwBranchRefIdeal.sig) → Buf (Elt Ideal) ℓ) : Prop :=
  True

def Pre_DhRms (m : (ℓ : Loc Cert.DhRms.nD Cert.DhRms.τ Cert.DhRms.sig) → Buf (Elt Bits) ℓ) : Prop :=
  True

def Pre_DhRmsIdeal (m : (ℓ : Loc Cert.DhRmsIdeal.nD Cert.DhRmsIdeal.τ Cert.DhRmsIdeal.sig) → Buf (Elt Ideal) ℓ) : Prop :=
  True

def Pre_DhRmsRefIdeal (m : (ℓ : Loc Cert.DhRmsRefIdeal.nD Cert.DhRmsRefIdeal.τ Cert.DhRmsRefIdeal.sig) → Buf (Elt Ideal) ℓ) : Prop :=
  True

def Pre_FfnDh2 (m : (ℓ : Loc Cert.FfnDh2.nD Cert.FfnDh2.τ Cert.FfnDh2.sig) → Buf (Elt Bits) ℓ) : Prop :=
  True

def Pre_FfnDh2Ideal (m : (ℓ : Loc Cert.FfnDh2Ideal.nD Cert.FfnDh2Ideal.τ Cert.FfnDh2Ideal.sig) → Buf (Elt Ideal) ℓ) : Prop :=
  True

def Pre_FfnDh2RefIdeal (m : (ℓ : Loc Cert.FfnDh2RefIdeal.nD Cert.FfnDh2RefIdeal.τ Cert.FfnDh2RefIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRefIdeal (m : (ℓ : Loc Cert.GwDownRefIdeal.nD Cert.GwDownRefIdeal.τ Cert.GwDownRefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_BranchMerge (m : (ℓ : Loc Cert.BranchMerge.nD Cert.BranchMerge.τ Cert.BranchMerge.sig) → Buf (Elt Bits) ℓ) : Prop :=
  True

def Pre_BranchMergeIdeal (m : (ℓ : Loc Cert.BranchMergeIdeal.nD Cert.BranchMergeIdeal.τ Cert.BranchMergeIdeal.sig) → Buf (Elt Ideal) ℓ) : Prop :=
  True

def Pre_BranchMergeRefIdeal (m : (ℓ : Loc Cert.BranchMergeRefIdeal.nD Cert.BranchMergeRefIdeal.τ Cert.BranchMergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactIdeal_finite [hPre_finite : Cert.Pre_finite.Facts] (m : (ℓ : Loc Cert.FfnDactIdeal.nD Cert.FfnDactIdeal.τ Cert.FfnDactIdeal.sig) → Buf (Elt Ideal) ℓ) : Prop :=
  ∀ c : Dev Cert.FfnDactIdeal.nD,
    (Cert.Pre_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))).1 = (fun _ => 1#1)
    ∧ (Cert.Pre_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))).2.1 = (fun _ => 1#1)
    ∧ (Cert.Pre_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))).2.2 = (fun _ => 1#1)

def Pre_FfnDactRefIdeal (m : (ℓ : Loc Cert.FfnDactRefIdeal.nD Cert.FfnDactRefIdeal.τ Cert.FfnDactRefIdeal.sig) → Buf (Elt Ideal) ℓ) : Prop :=
  True

def Pre_FfnDactRefIdeal_finite [hPre_finite : Cert.Pre_finite.Facts] (m : (ℓ : Loc Cert.FfnDactRefIdeal.nD Cert.FfnDactRefIdeal.τ Cert.FfnDactRefIdeal.sig) → Buf (Elt Ideal) ℓ) : Prop :=
  ∀ c : Dev Cert.FfnDactRefIdeal.nD,
    (Cert.Pre_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))).1 = (fun _ => 1#1)
    ∧ (Cert.Pre_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))).2.1 = (fun _ => 1#1)
    ∧ (Cert.Pre_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))).2.2 = (fun _ => 1#1)

def Pre_FfnDownLoss (m : (ℓ : Loc Cert.FfnDownLoss.nD Cert.FfnDownLoss.τ Cert.FfnDownLoss.sig) → Buf (Elt Bits) ℓ) : Prop :=
  True

def Pre_FfnDownLossIdeal (m : (ℓ : Loc Cert.FfnDownLossIdeal.nD Cert.FfnDownLossIdeal.τ Cert.FfnDownLossIdeal.sig) → Buf (Elt Ideal) ℓ) : Prop :=
  True

def Pre_FfnDownLossRefIdeal (m : (ℓ : Loc Cert.FfnDownLossRefIdeal.nD Cert.FfnDownLossRefIdeal.τ Cert.FfnDownLossRefIdeal.sig) → Buf (Elt Ideal) ℓ) : Prop :=
  True

def Pre_DnPostBwd (m : (ℓ : Loc Cert.DnPostBwd.nD Cert.DnPostBwd.τ Cert.DnPostBwd.sig) → Buf (Elt Bits) ℓ) : Prop :=
  True

def Pre_DnPostBwdIdeal (m : (ℓ : Loc Cert.DnPostBwdIdeal.nD Cert.DnPostBwdIdeal.τ Cert.DnPostBwdIdeal.sig) → Buf (Elt Ideal) ℓ) : Prop :=
  True

def Pre_DnPostBwdRefIdeal (m : (ℓ : Loc Cert.DnPostBwdRefIdeal.nD Cert.DnPostBwdRefIdeal.τ Cert.DnPostBwdRefIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_finite_logits [hPre_finite_logits : Cert.Pre_finite_logits.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_finite_logits.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))).1 = (fun _ => 1#1)
    ∧ (Cert.Pre_finite_logits.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))).2.1 = (fun _ => 1#1)
    ∧ (Cert.Pre_finite_logits.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))).2.2.1 = (fun _ => 1#1)
    ∧ (Cert.Pre_finite_logits.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))).2.2.2.1 = (fun _ => 1#1)
    ∧ (Cert.Pre_finite_logits.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))).2.2.2.2 = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_finite_logits [hPre_finite_logits : Cert.Pre_finite_logits.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_finite_logits.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))).1 = (fun _ => 1#1)
    ∧ (Cert.Pre_finite_logits.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))).2.1 = (fun _ => 1#1)
    ∧ (Cert.Pre_finite_logits.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))).2.2.1 = (fun _ => 1#1)
    ∧ (Cert.Pre_finite_logits.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))).2.2.2.1 = (fun _ => 1#1)
    ∧ (Cert.Pre_finite_logits.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))).2.2.2.2 = (fun _ => 1#1)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_GwGateUp [hGwGateUp : Cert.GwGateUp.Facts] : Prop :=
  ∀ (m : (ℓ : Loc Cert.GwGateUp.nD Cert.GwGateUp.τ Cert.GwGateUp.sig) → Buf (Elt Bits) ℓ) (g : Dev Cert.GwGateUp.nD → PrngReg), Pre_GwGateUp m →
    θ_run (Cert.GwGateUp.defs (F := Bits)) (onTc (τ := Cert.GwGateUp.τ) (Cert.GwGateUp.main (F := Bits))) ⟨m, fun _ => 0, g⟩ (fun r => (∀ c : Dev Cert.GwGateUp.nD,
      r.2.mem ((c.tc : Thread Cert.GwGateUp.nD Cert.GwGateUp.τ).loc Cert.GwGateUp.main_arg0) = m ((c.tc : Thread Cert.GwGateUp.nD Cert.GwGateUp.τ).loc Cert.GwGateUp.main_arg0)
      ∧ r.2.mem ((c.tc : Thread Cert.GwGateUp.nD Cert.GwGateUp.τ).loc Cert.GwGateUp.main_arg1) = m ((c.tc : Thread Cert.GwGateUp.nD Cert.GwGateUp.τ).loc Cert.GwGateUp.main_arg1)
      ∧ r.2.mem ((c.tc : Thread Cert.GwGateUp.nD Cert.GwGateUp.τ).loc Cert.GwGateUp.main_arg2) = m ((c.tc : Thread Cert.GwGateUp.nD Cert.GwGateUp.τ).loc Cert.GwGateUp.main_arg2))
      ∧ r.2.sem = fun _ => 0)

def quiescent_GwGateUpIdeal [hGwGateUpIdeal : Cert.GwGateUpIdeal.Facts] : Prop :=
  ∀ (m : (ℓ : Loc Cert.GwGateUpIdeal.nD Cert.GwGateUpIdeal.τ Cert.GwGateUpIdeal.sig) → Buf (Elt Ideal) ℓ) (g : Dev Cert.GwGateUpIdeal.nD → PrngReg), Pre_GwGateUpIdeal m →
    θ_run (Cert.GwGateUpIdeal.defs (F := Ideal)) (onTc (τ := Cert.GwGateUpIdeal.τ) (Cert.GwGateUpIdeal.main (F := Ideal))) ⟨m, fun _ => 0, g⟩ (fun r => (∀ c : Dev Cert.GwGateUpIdeal.nD,
      r.2.mem ((c.tc : Thread Cert.GwGateUpIdeal.nD Cert.GwGateUpIdeal.τ).loc Cert.GwGateUpIdeal.main_arg0) = m ((c.tc : Thread Cert.GwGateUpIdeal.nD Cert.GwGateUpIdeal.τ).loc Cert.GwGateUpIdeal.main_arg0)
      ∧ r.2.mem ((c.tc : Thread Cert.GwGateUpIdeal.nD Cert.GwGateUpIdeal.τ).loc Cert.GwGateUpIdeal.main_arg1) = m ((c.tc : Thread Cert.GwGateUpIdeal.nD Cert.GwGateUpIdeal.τ).loc Cert.GwGateUpIdeal.main_arg1)
      ∧ r.2.mem ((c.tc : Thread Cert.GwGateUpIdeal.nD Cert.GwGateUpIdeal.τ).loc Cert.GwGateUpIdeal.main_arg2) = m ((c.tc : Thread Cert.GwGateUpIdeal.nD Cert.GwGateUpIdeal.τ).loc Cert.GwGateUpIdeal.main_arg2))
      ∧ r.2.sem = fun _ => 0)

def quiescent_GwGateUpRefIdeal [hGwGateUpRefIdeal : Cert.GwGateUpRefIdeal.Facts] : Prop :=
  ∀ (m : (ℓ : Loc Cert.GwGateUpRefIdeal.nD Cert.GwGateUpRefIdeal.τ Cert.GwGateUpRefIdeal.sig) → Buf (Elt Ideal) ℓ) (g : Dev Cert.GwGateUpRefIdeal.nD → PrngReg), Pre_GwGateUpRefIdeal m →
    θ_run (Cert.GwGateUpRefIdeal.defs (F := Ideal)) (onTc (τ := Cert.GwGateUpRefIdeal.τ) (Cert.GwGateUpRefIdeal.main (F := Ideal))) ⟨m, fun _ => 0, g⟩ (fun r => (∀ c : Dev Cert.GwGateUpRefIdeal.nD,
      r.2.mem ((c.tc : Thread Cert.GwGateUpRefIdeal.nD Cert.GwGateUpRefIdeal.τ).loc Cert.GwGateUpRefIdeal.main_arg0) = m ((c.tc : Thread Cert.GwGateUpRefIdeal.nD Cert.GwGateUpRefIdeal.τ).loc Cert.GwGateUpRefIdeal.main_arg0)
      ∧ r.2.mem ((c.tc : Thread Cert.GwGateUpRefIdeal.nD Cert.GwGateUpRefIdeal.τ).loc Cert.GwGateUpRefIdeal.main_arg1) = m ((c.tc : Thread Cert.GwGateUpRefIdeal.nD Cert.GwGateUpRefIdeal.τ).loc Cert.GwGateUpRefIdeal.main_arg1)
      ∧ r.2.mem ((c.tc : Thread Cert.GwGateUpRefIdeal.nD Cert.GwGateUpRefIdeal.τ).loc Cert.GwGateUpRefIdeal.main_arg2) = m ((c.tc : Thread Cert.GwGateUpRefIdeal.nD Cert.GwGateUpRefIdeal.τ).loc Cert.GwGateUpRefIdeal.main_arg2))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1)
      ∧ r.2.mem ((c.tc : Thread Cert.DBranch.nD Cert.DBranch.τ).loc Cert.DBranch.main_arg2) = m ((c.tc : Thread Cert.DBranch.nD Cert.DBranch.τ).loc Cert.DBranch.main_arg2)
      ∧ r.2.mem ((c.tc : Thread Cert.DBranch.nD Cert.DBranch.τ).loc Cert.DBranch.main_arg3) = m ((c.tc : Thread Cert.DBranch.nD Cert.DBranch.τ).loc Cert.DBranch.main_arg3))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1)
      ∧ r.2.mem ((c.tc : Thread Cert.DBranchIdeal.nD Cert.DBranchIdeal.τ).loc Cert.DBranchIdeal.main_arg2) = m ((c.tc : Thread Cert.DBranchIdeal.nD Cert.DBranchIdeal.τ).loc Cert.DBranchIdeal.main_arg2)
      ∧ r.2.mem ((c.tc : Thread Cert.DBranchIdeal.nD Cert.DBranchIdeal.τ).loc Cert.DBranchIdeal.main_arg3) = m ((c.tc : Thread Cert.DBranchIdeal.nD Cert.DBranchIdeal.τ).loc Cert.DBranchIdeal.main_arg3))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1)
      ∧ r.2.mem ((c.tc : Thread Cert.DBranchRefIdeal.nD Cert.DBranchRefIdeal.τ).loc Cert.DBranchRefIdeal.main_arg2) = m ((c.tc : Thread Cert.DBranchRefIdeal.nD Cert.DBranchRefIdeal.τ).loc Cert.DBranchRefIdeal.main_arg2)
      ∧ r.2.mem ((c.tc : Thread Cert.DBranchRefIdeal.nD Cert.DBranchRefIdeal.τ).loc Cert.DBranchRefIdeal.main_arg3) = m ((c.tc : Thread Cert.DBranchRefIdeal.nD Cert.DBranchRefIdeal.τ).loc Cert.DBranchRefIdeal.main_arg3))
      ∧ r.2.sem = fun _ => 0)

def quiescent_GwBranch [hGwBranch : Cert.GwBranch.Facts] : Prop :=
  ∀ (m : (ℓ : Loc Cert.GwBranch.nD Cert.GwBranch.τ Cert.GwBranch.sig) → Buf (Elt Bits) ℓ) (g : Dev Cert.GwBranch.nD → PrngReg), Pre_GwBranch m →
    θ_run (Cert.GwBranch.defs (F := Bits)) (onTc (τ := Cert.GwBranch.τ) (Cert.GwBranch.main (F := Bits))) ⟨m, fun _ => 0, g⟩ (fun r => (∀ c : Dev Cert.GwBranch.nD,
      r.2.mem ((c.tc : Thread Cert.GwBranch.nD Cert.GwBranch.τ).loc Cert.GwBranch.main_arg0) = m ((c.tc : Thread Cert.GwBranch.nD Cert.GwBranch.τ).loc Cert.GwBranch.main_arg0)
      ∧ r.2.mem ((c.tc : Thread Cert.GwBranch.nD Cert.GwBranch.τ).loc Cert.GwBranch.main_arg1) = m ((c.tc : Thread Cert.GwBranch.nD Cert.GwBranch.τ).loc Cert.GwBranch.main_arg1)
      ∧ r.2.mem ((c.tc : Thread Cert.GwBranch.nD Cert.GwBranch.τ).loc Cert.GwBranch.main_arg2) = m ((c.tc : Thread Cert.GwBranch.nD Cert.GwBranch.τ).loc Cert.GwBranch.main_arg2)
      ∧ r.2.mem ((c.tc : Thread Cert.GwBranch.nD Cert.GwBranch.τ).loc Cert.GwBranch.main_arg3) = m ((c.tc : Thread Cert.GwBranch.nD Cert.GwBranch.τ).loc Cert.GwBranch.main_arg3))
      ∧ r.2.sem = fun _ => 0)

def quiescent_GwBranchIdeal [hGwBranchIdeal : Cert.GwBranchIdeal.Facts] : Prop :=
  ∀ (m : (ℓ : Loc Cert.GwBranchIdeal.nD Cert.GwBranchIdeal.τ Cert.GwBranchIdeal.sig) → Buf (Elt Ideal) ℓ) (g : Dev Cert.GwBranchIdeal.nD → PrngReg), Pre_GwBranchIdeal m →
    θ_run (Cert.GwBranchIdeal.defs (F := Ideal)) (onTc (τ := Cert.GwBranchIdeal.τ) (Cert.GwBranchIdeal.main (F := Ideal))) ⟨m, fun _ => 0, g⟩ (fun r => (∀ c : Dev Cert.GwBranchIdeal.nD,
      r.2.mem ((c.tc : Thread Cert.GwBranchIdeal.nD Cert.GwBranchIdeal.τ).loc Cert.GwBranchIdeal.main_arg0) = m ((c.tc : Thread Cert.GwBranchIdeal.nD Cert.GwBranchIdeal.τ).loc Cert.GwBranchIdeal.main_arg0)
      ∧ r.2.mem ((c.tc : Thread Cert.GwBranchIdeal.nD Cert.GwBranchIdeal.τ).loc Cert.GwBranchIdeal.main_arg1) = m ((c.tc : Thread Cert.GwBranchIdeal.nD Cert.GwBranchIdeal.τ).loc Cert.GwBranchIdeal.main_arg1)
      ∧ r.2.mem ((c.tc : Thread Cert.GwBranchIdeal.nD Cert.GwBranchIdeal.τ).loc Cert.GwBranchIdeal.main_arg2) = m ((c.tc : Thread Cert.GwBranchIdeal.nD Cert.GwBranchIdeal.τ).loc Cert.GwBranchIdeal.main_arg2)
      ∧ r.2.mem ((c.tc : Thread Cert.GwBranchIdeal.nD Cert.GwBranchIdeal.τ).loc Cert.GwBranchIdeal.main_arg3) = m ((c.tc : Thread Cert.GwBranchIdeal.nD Cert.GwBranchIdeal.τ).loc Cert.GwBranchIdeal.main_arg3))
      ∧ r.2.sem = fun _ => 0)

def quiescent_GwBranchRefIdeal [hGwBranchRefIdeal : Cert.GwBranchRefIdeal.Facts] : Prop :=
  ∀ (m : (ℓ : Loc Cert.GwBranchRefIdeal.nD Cert.GwBranchRefIdeal.τ Cert.GwBranchRefIdeal.sig) → Buf (Elt Ideal) ℓ) (g : Dev Cert.GwBranchRefIdeal.nD → PrngReg), Pre_GwBranchRefIdeal m →
    θ_run (Cert.GwBranchRefIdeal.defs (F := Ideal)) (onTc (τ := Cert.GwBranchRefIdeal.τ) (Cert.GwBranchRefIdeal.main (F := Ideal))) ⟨m, fun _ => 0, g⟩ (fun r => (∀ c : Dev Cert.GwBranchRefIdeal.nD,
      r.2.mem ((c.tc : Thread Cert.GwBranchRefIdeal.nD Cert.GwBranchRefIdeal.τ).loc Cert.GwBranchRefIdeal.main_arg0) = m ((c.tc : Thread Cert.GwBranchRefIdeal.nD Cert.GwBranchRefIdeal.τ).loc Cert.GwBranchRefIdeal.main_arg0)
      ∧ r.2.mem ((c.tc : Thread Cert.GwBranchRefIdeal.nD Cert.GwBranchRefIdeal.τ).loc Cert.GwBranchRefIdeal.main_arg1) = m ((c.tc : Thread Cert.GwBranchRefIdeal.nD Cert.GwBranchRefIdeal.τ).loc Cert.GwBranchRefIdeal.main_arg1)
      ∧ r.2.mem ((c.tc : Thread Cert.GwBranchRefIdeal.nD Cert.GwBranchRefIdeal.τ).loc Cert.GwBranchRefIdeal.main_arg2) = m ((c.tc : Thread Cert.GwBranchRefIdeal.nD Cert.GwBranchRefIdeal.τ).loc Cert.GwBranchRefIdeal.main_arg2)
      ∧ r.2.mem ((c.tc : Thread Cert.GwBranchRefIdeal.nD Cert.GwBranchRefIdeal.τ).loc Cert.GwBranchRefIdeal.main_arg3) = m ((c.tc : Thread Cert.GwBranchRefIdeal.nD Cert.GwBranchRefIdeal.τ).loc Cert.GwBranchRefIdeal.main_arg3))
      ∧ r.2.sem = fun _ => 0)

def quiescent_DhRms [hDhRms : Cert.DhRms.Facts] : Prop :=
  ∀ (m : (ℓ : Loc Cert.DhRms.nD Cert.DhRms.τ Cert.DhRms.sig) → Buf (Elt Bits) ℓ) (g : Dev Cert.DhRms.nD → PrngReg), Pre_DhRms m →
    θ_run (Cert.DhRms.defs (F := Bits)) (onTc (τ := Cert.DhRms.τ) (Cert.DhRms.main (F := Bits))) ⟨m, fun _ => 0, g⟩ (fun r => (∀ c : Dev Cert.DhRms.nD,
      r.2.mem ((c.tc : Thread Cert.DhRms.nD Cert.DhRms.τ).loc Cert.DhRms.main_arg0) = m ((c.tc : Thread Cert.DhRms.nD Cert.DhRms.τ).loc Cert.DhRms.main_arg0)
      ∧ r.2.mem ((c.tc : Thread Cert.DhRms.nD Cert.DhRms.τ).loc Cert.DhRms.main_arg1) = m ((c.tc : Thread Cert.DhRms.nD Cert.DhRms.τ).loc Cert.DhRms.main_arg1)
      ∧ r.2.mem ((c.tc : Thread Cert.DhRms.nD Cert.DhRms.τ).loc Cert.DhRms.main_arg2) = m ((c.tc : Thread Cert.DhRms.nD Cert.DhRms.τ).loc Cert.DhRms.main_arg2)
      ∧ r.2.mem ((c.tc : Thread Cert.DhRms.nD Cert.DhRms.τ).loc Cert.DhRms.main_arg3) = m ((c.tc : Thread Cert.DhRms.nD Cert.DhRms.τ).loc Cert.DhRms.main_arg3)
      ∧ r.2.mem ((c.tc : Thread Cert.DhRms.nD Cert.DhRms.τ).loc Cert.DhRms.main_arg4) = m ((c.tc : Thread Cert.DhRms.nD Cert.DhRms.τ).loc Cert.DhRms.main_arg4))
      ∧ r.2.sem = fun _ => 0)

def quiescent_DhRmsIdeal [hDhRmsIdeal : Cert.DhRmsIdeal.Facts] : Prop :=
  ∀ (m : (ℓ : Loc Cert.DhRmsIdeal.nD Cert.DhRmsIdeal.τ Cert.DhRmsIdeal.sig) → Buf (Elt Ideal) ℓ) (g : Dev Cert.DhRmsIdeal.nD → PrngReg), Pre_DhRmsIdeal m →
    θ_run (Cert.DhRmsIdeal.defs (F := Ideal)) (onTc (τ := Cert.DhRmsIdeal.τ) (Cert.DhRmsIdeal.main (F := Ideal))) ⟨m, fun _ => 0, g⟩ (fun r => (∀ c : Dev Cert.DhRmsIdeal.nD,
      r.2.mem ((c.tc : Thread Cert.DhRmsIdeal.nD Cert.DhRmsIdeal.τ).loc Cert.DhRmsIdeal.main_arg0) = m ((c.tc : Thread Cert.DhRmsIdeal.nD Cert.DhRmsIdeal.τ).loc Cert.DhRmsIdeal.main_arg0)
      ∧ r.2.mem ((c.tc : Thread Cert.DhRmsIdeal.nD Cert.DhRmsIdeal.τ).loc Cert.DhRmsIdeal.main_arg1) = m ((c.tc : Thread Cert.DhRmsIdeal.nD Cert.DhRmsIdeal.τ).loc Cert.DhRmsIdeal.main_arg1)
      ∧ r.2.mem ((c.tc : Thread Cert.DhRmsIdeal.nD Cert.DhRmsIdeal.τ).loc Cert.DhRmsIdeal.main_arg2) = m ((c.tc : Thread Cert.DhRmsIdeal.nD Cert.DhRmsIdeal.τ).loc Cert.DhRmsIdeal.main_arg2)
      ∧ r.2.mem ((c.tc : Thread Cert.DhRmsIdeal.nD Cert.DhRmsIdeal.τ).loc Cert.DhRmsIdeal.main_arg3) = m ((c.tc : Thread Cert.DhRmsIdeal.nD Cert.DhRmsIdeal.τ).loc Cert.DhRmsIdeal.main_arg3)
      ∧ r.2.mem ((c.tc : Thread Cert.DhRmsIdeal.nD Cert.DhRmsIdeal.τ).loc Cert.DhRmsIdeal.main_arg4) = m ((c.tc : Thread Cert.DhRmsIdeal.nD Cert.DhRmsIdeal.τ).loc Cert.DhRmsIdeal.main_arg4))
      ∧ r.2.sem = fun _ => 0)

def quiescent_DhRmsRefIdeal [hDhRmsRefIdeal : Cert.DhRmsRefIdeal.Facts] : Prop :=
  ∀ (m : (ℓ : Loc Cert.DhRmsRefIdeal.nD Cert.DhRmsRefIdeal.τ Cert.DhRmsRefIdeal.sig) → Buf (Elt Ideal) ℓ) (g : Dev Cert.DhRmsRefIdeal.nD → PrngReg), Pre_DhRmsRefIdeal m →
    θ_run (Cert.DhRmsRefIdeal.defs (F := Ideal)) (onTc (τ := Cert.DhRmsRefIdeal.τ) (Cert.DhRmsRefIdeal.main (F := Ideal))) ⟨m, fun _ => 0, g⟩ (fun r => (∀ c : Dev Cert.DhRmsRefIdeal.nD,
      r.2.mem ((c.tc : Thread Cert.DhRmsRefIdeal.nD Cert.DhRmsRefIdeal.τ).loc Cert.DhRmsRefIdeal.main_arg0) = m ((c.tc : Thread Cert.DhRmsRefIdeal.nD Cert.DhRmsRefIdeal.τ).loc Cert.DhRmsRefIdeal.main_arg0)
      ∧ r.2.mem ((c.tc : Thread Cert.DhRmsRefIdeal.nD Cert.DhRmsRefIdeal.τ).loc Cert.DhRmsRefIdeal.main_arg1) = m ((c.tc : Thread Cert.DhRmsRefIdeal.nD Cert.DhRmsRefIdeal.τ).loc Cert.DhRmsRefIdeal.main_arg1)
      ∧ r.2.mem ((c.tc : Thread Cert.DhRmsRefIdeal.nD Cert.DhRmsRefIdeal.τ).loc Cert.DhRmsRefIdeal.main_arg2) = m ((c.tc : Thread Cert.DhRmsRefIdeal.nD Cert.DhRmsRefIdeal.τ).loc Cert.DhRmsRefIdeal.main_arg2)
      ∧ r.2.mem ((c.tc : Thread Cert.DhRmsRefIdeal.nD Cert.DhRmsRefIdeal.τ).loc Cert.DhRmsRefIdeal.main_arg3) = m ((c.tc : Thread Cert.DhRmsRefIdeal.nD Cert.DhRmsRefIdeal.τ).loc Cert.DhRmsRefIdeal.main_arg3)
      ∧ r.2.mem ((c.tc : Thread Cert.DhRmsRefIdeal.nD Cert.DhRmsRefIdeal.τ).loc Cert.DhRmsRefIdeal.main_arg4) = m ((c.tc : Thread Cert.DhRmsRefIdeal.nD Cert.DhRmsRefIdeal.τ).loc Cert.DhRmsRefIdeal.main_arg4))
      ∧ r.2.sem = fun _ => 0)

def quiescent_FfnDh2 [hFfnDh2 : Cert.FfnDh2.Facts] : Prop :=
  ∀ (m : (ℓ : Loc Cert.FfnDh2.nD Cert.FfnDh2.τ Cert.FfnDh2.sig) → Buf (Elt Bits) ℓ) (g : Dev Cert.FfnDh2.nD → PrngReg), Pre_FfnDh2 m →
    θ_run (Cert.FfnDh2.defs (F := Bits)) (onTc (τ := Cert.FfnDh2.τ) (Cert.FfnDh2.main (F := Bits))) ⟨m, fun _ => 0, g⟩ (fun r => (∀ c : Dev Cert.FfnDh2.nD,
      r.2.mem ((c.tc : Thread Cert.FfnDh2.nD Cert.FfnDh2.τ).loc Cert.FfnDh2.main_arg0) = m ((c.tc : Thread Cert.FfnDh2.nD Cert.FfnDh2.τ).loc Cert.FfnDh2.main_arg0)
      ∧ r.2.mem ((c.tc : Thread Cert.FfnDh2.nD Cert.FfnDh2.τ).loc Cert.FfnDh2.main_arg1) = m ((c.tc : Thread Cert.FfnDh2.nD Cert.FfnDh2.τ).loc Cert.FfnDh2.main_arg1)
      ∧ r.2.mem ((c.tc : Thread Cert.FfnDh2.nD Cert.FfnDh2.τ).loc Cert.FfnDh2.main_arg2) = m ((c.tc : Thread Cert.FfnDh2.nD Cert.FfnDh2.τ).loc Cert.FfnDh2.main_arg2)
      ∧ r.2.mem ((c.tc : Thread Cert.FfnDh2.nD Cert.FfnDh2.τ).loc Cert.FfnDh2.main_arg3) = m ((c.tc : Thread Cert.FfnDh2.nD Cert.FfnDh2.τ).loc Cert.FfnDh2.main_arg3)
      ∧ r.2.mem ((c.tc : Thread Cert.FfnDh2.nD Cert.FfnDh2.τ).loc Cert.FfnDh2.main_arg4) = m ((c.tc : Thread Cert.FfnDh2.nD Cert.FfnDh2.τ).loc Cert.FfnDh2.main_arg4)
      ∧ r.2.mem ((c.tc : Thread Cert.FfnDh2.nD Cert.FfnDh2.τ).loc Cert.FfnDh2.main_arg5) = m ((c.tc : Thread Cert.FfnDh2.nD Cert.FfnDh2.τ).loc Cert.FfnDh2.main_arg5)
      ∧ r.2.mem ((c.tc : Thread Cert.FfnDh2.nD Cert.FfnDh2.τ).loc Cert.FfnDh2.main_arg6) = m ((c.tc : Thread Cert.FfnDh2.nD Cert.FfnDh2.τ).loc Cert.FfnDh2.main_arg6))
      ∧ r.2.sem = fun _ => 0)

def quiescent_FfnDh2Ideal [hFfnDh2Ideal : Cert.FfnDh2Ideal.Facts] : Prop :=
  ∀ (m : (ℓ : Loc Cert.FfnDh2Ideal.nD Cert.FfnDh2Ideal.τ Cert.FfnDh2Ideal.sig) → Buf (Elt Ideal) ℓ) (g : Dev Cert.FfnDh2Ideal.nD → PrngReg), Pre_FfnDh2Ideal m →
    θ_run (Cert.FfnDh2Ideal.defs (F := Ideal)) (onTc (τ := Cert.FfnDh2Ideal.τ) (Cert.FfnDh2Ideal.main (F := Ideal))) ⟨m, fun _ => 0, g⟩ (fun r => (∀ c : Dev Cert.FfnDh2Ideal.nD,
      r.2.mem ((c.tc : Thread Cert.FfnDh2Ideal.nD Cert.FfnDh2Ideal.τ).loc Cert.FfnDh2Ideal.main_arg0) = m ((c.tc : Thread Cert.FfnDh2Ideal.nD Cert.FfnDh2Ideal.τ).loc Cert.FfnDh2Ideal.main_arg0)
      ∧ r.2.mem ((c.tc : Thread Cert.FfnDh2Ideal.nD Cert.FfnDh2Ideal.τ).loc Cert.FfnDh2Ideal.main_arg1) = m ((c.tc : Thread Cert.FfnDh2Ideal.nD Cert.FfnDh2Ideal.τ).loc Cert.FfnDh2Ideal.main_arg1)
      ∧ r.2.mem ((c.tc : Thread Cert.FfnDh2Ideal.nD Cert.FfnDh2Ideal.τ).loc Cert.FfnDh2Ideal.main_arg2) = m ((c.tc : Thread Cert.FfnDh2Ideal.nD Cert.FfnDh2Ideal.τ).loc Cert.FfnDh2Ideal.main_arg2)
      ∧ r.2.mem ((c.tc : Thread Cert.FfnDh2Ideal.nD Cert.FfnDh2Ideal.τ).loc Cert.FfnDh2Ideal.main_arg3) = m ((c.tc : Thread Cert.FfnDh2Ideal.nD Cert.FfnDh2Ideal.τ).loc Cert.FfnDh2Ideal.main_arg3)
      ∧ r.2.mem ((c.tc : Thread Cert.FfnDh2Ideal.nD Cert.FfnDh2Ideal.τ).loc Cert.FfnDh2Ideal.main_arg4) = m ((c.tc : Thread Cert.FfnDh2Ideal.nD Cert.FfnDh2Ideal.τ).loc Cert.FfnDh2Ideal.main_arg4)
      ∧ r.2.mem ((c.tc : Thread Cert.FfnDh2Ideal.nD Cert.FfnDh2Ideal.τ).loc Cert.FfnDh2Ideal.main_arg5) = m ((c.tc : Thread Cert.FfnDh2Ideal.nD Cert.FfnDh2Ideal.τ).loc Cert.FfnDh2Ideal.main_arg5)
      ∧ r.2.mem ((c.tc : Thread Cert.FfnDh2Ideal.nD Cert.FfnDh2Ideal.τ).loc Cert.FfnDh2Ideal.main_arg6) = m ((c.tc : Thread Cert.FfnDh2Ideal.nD Cert.FfnDh2Ideal.τ).loc Cert.FfnDh2Ideal.main_arg6))
      ∧ r.2.sem = fun _ => 0)

def quiescent_FfnDh2RefIdeal [hFfnDh2RefIdeal : Cert.FfnDh2RefIdeal.Facts] : Prop :=
  ∀ (m : (ℓ : Loc Cert.FfnDh2RefIdeal.nD Cert.FfnDh2RefIdeal.τ Cert.FfnDh2RefIdeal.sig) → Buf (Elt Ideal) ℓ) (g : Dev Cert.FfnDh2RefIdeal.nD → PrngReg), Pre_FfnDh2RefIdeal m →
    θ_run (Cert.FfnDh2RefIdeal.defs (F := Ideal)) (onTc (τ := Cert.FfnDh2RefIdeal.τ) (Cert.FfnDh2RefIdeal.main (F := Ideal))) ⟨m, fun _ => 0, g⟩ (fun r => (∀ c : Dev Cert.FfnDh2RefIdeal.nD,
      r.2.mem ((c.tc : Thread Cert.FfnDh2RefIdeal.nD Cert.FfnDh2RefIdeal.τ).loc Cert.FfnDh2RefIdeal.main_arg0) = m ((c.tc : Thread Cert.FfnDh2RefIdeal.nD Cert.FfnDh2RefIdeal.τ).loc Cert.FfnDh2RefIdeal.main_arg0)
      ∧ r.2.mem ((c.tc : Thread Cert.FfnDh2RefIdeal.nD Cert.FfnDh2RefIdeal.τ).loc Cert.FfnDh2RefIdeal.main_arg1) = m ((c.tc : Thread Cert.FfnDh2RefIdeal.nD Cert.FfnDh2RefIdeal.τ).loc Cert.FfnDh2RefIdeal.main_arg1)
      ∧ r.2.mem ((c.tc : Thread Cert.FfnDh2RefIdeal.nD Cert.FfnDh2RefIdeal.τ).loc Cert.FfnDh2RefIdeal.main_arg2) = m ((c.tc : Thread Cert.FfnDh2RefIdeal.nD Cert.FfnDh2RefIdeal.τ).loc Cert.FfnDh2RefIdeal.main_arg2)
      ∧ r.2.mem ((c.tc : Thread Cert.FfnDh2RefIdeal.nD Cert.FfnDh2RefIdeal.τ).loc Cert.FfnDh2RefIdeal.main_arg3) = m ((c.tc : Thread Cert.FfnDh2RefIdeal.nD Cert.FfnDh2RefIdeal.τ).loc Cert.FfnDh2RefIdeal.main_arg3)
      ∧ r.2.mem ((c.tc : Thread Cert.FfnDh2RefIdeal.nD Cert.FfnDh2RefIdeal.τ).loc Cert.FfnDh2RefIdeal.main_arg4) = m ((c.tc : Thread Cert.FfnDh2RefIdeal.nD Cert.FfnDh2RefIdeal.τ).loc Cert.FfnDh2RefIdeal.main_arg4)
      ∧ r.2.mem ((c.tc : Thread Cert.FfnDh2RefIdeal.nD Cert.FfnDh2RefIdeal.τ).loc Cert.FfnDh2RefIdeal.main_arg5) = m ((c.tc : Thread Cert.FfnDh2RefIdeal.nD Cert.FfnDh2RefIdeal.τ).loc Cert.FfnDh2RefIdeal.main_arg5)
      ∧ r.2.mem ((c.tc : Thread Cert.FfnDh2RefIdeal.nD Cert.FfnDh2RefIdeal.τ).loc Cert.FfnDh2RefIdeal.main_arg6) = m ((c.tc : Thread Cert.FfnDh2RefIdeal.nD Cert.FfnDh2RefIdeal.τ).loc Cert.FfnDh2RefIdeal.main_arg6))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRefIdeal [hGwDownRefIdeal : Cert.GwDownRefIdeal.Facts] : Prop :=
  ∀ (m : (ℓ : Loc Cert.GwDownRefIdeal.nD Cert.GwDownRefIdeal.τ Cert.GwDownRefIdeal.sig) → Buf (Elt Ideal) ℓ) (g : Dev Cert.GwDownRefIdeal.nD → PrngReg), Pre_GwDownRefIdeal m →
    θ_run (Cert.GwDownRefIdeal.defs (F := Ideal)) (onTc (τ := Cert.GwDownRefIdeal.τ) (Cert.GwDownRefIdeal.main (F := Ideal))) ⟨m, fun _ => 0, g⟩ (fun r => (∀ c : Dev Cert.GwDownRefIdeal.nD,
      r.2.mem ((c.tc : Thread Cert.GwDownRefIdeal.nD Cert.GwDownRefIdeal.τ).loc Cert.GwDownRefIdeal.main_arg0) = m ((c.tc : Thread Cert.GwDownRefIdeal.nD Cert.GwDownRefIdeal.τ).loc Cert.GwDownRefIdeal.main_arg0)
      ∧ r.2.mem ((c.tc : Thread Cert.GwDownRefIdeal.nD Cert.GwDownRefIdeal.τ).loc Cert.GwDownRefIdeal.main_arg1) = m ((c.tc : Thread Cert.GwDownRefIdeal.nD Cert.GwDownRefIdeal.τ).loc Cert.GwDownRefIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_BranchMerge [hBranchMerge : Cert.BranchMerge.Facts] : Prop :=
  ∀ (m : (ℓ : Loc Cert.BranchMerge.nD Cert.BranchMerge.τ Cert.BranchMerge.sig) → Buf (Elt Bits) ℓ) (g : Dev Cert.BranchMerge.nD → PrngReg), Pre_BranchMerge m →
    θ_run (Cert.BranchMerge.defs (F := Bits)) (onTc (τ := Cert.BranchMerge.τ) (Cert.BranchMerge.main (F := Bits))) ⟨m, fun _ => 0, g⟩ (fun r => (∀ c : Dev Cert.BranchMerge.nD,
      r.2.mem ((c.tc : Thread Cert.BranchMerge.nD Cert.BranchMerge.τ).loc Cert.BranchMerge.main_arg0) = m ((c.tc : Thread Cert.BranchMerge.nD Cert.BranchMerge.τ).loc Cert.BranchMerge.main_arg0)
      ∧ r.2.mem ((c.tc : Thread Cert.BranchMerge.nD Cert.BranchMerge.τ).loc Cert.BranchMerge.main_arg1) = m ((c.tc : Thread Cert.BranchMerge.nD Cert.BranchMerge.τ).loc Cert.BranchMerge.main_arg1)
      ∧ r.2.mem ((c.tc : Thread Cert.BranchMerge.nD Cert.BranchMerge.τ).loc Cert.BranchMerge.main_arg2) = m ((c.tc : Thread Cert.BranchMerge.nD Cert.BranchMerge.τ).loc Cert.BranchMerge.main_arg2)
      ∧ r.2.mem ((c.tc : Thread Cert.BranchMerge.nD Cert.BranchMerge.τ).loc Cert.BranchMerge.main_arg3) = m ((c.tc : Thread Cert.BranchMerge.nD Cert.BranchMerge.τ).loc Cert.BranchMerge.main_arg3)
      ∧ r.2.mem ((c.tc : Thread Cert.BranchMerge.nD Cert.BranchMerge.τ).loc Cert.BranchMerge.main_arg4) = m ((c.tc : Thread Cert.BranchMerge.nD Cert.BranchMerge.τ).loc Cert.BranchMerge.main_arg4))
      ∧ r.2.sem = fun _ => 0)

def quiescent_BranchMergeIdeal [hBranchMergeIdeal : Cert.BranchMergeIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg), Pre_BranchMergeIdeal m →
    θ_run (Cert.BranchMergeIdeal.defs (F := Ideal)) (onTc (τ := Cert.BranchMergeIdeal.τ) (Cert.BranchMergeIdeal.main (F := Ideal))) ⟨m, fun _ => 0, g⟩ (fun r => (∀ c : Dev Cert.BranchMergeIdeal.nD,
      r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
      ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
      ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
      ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
      ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4))
      ∧ r.2.sem = fun _ => 0)

def quiescent_BranchMergeRefIdeal [hBranchMergeRefIdeal : Cert.BranchMergeRefIdeal.Facts] : Prop :=
  ∀ (m : (ℓ : Loc Cert.BranchMergeRefIdeal.nD Cert.BranchMergeRefIdeal.τ Cert.BranchMergeRefIdeal.sig) → Buf (Elt Ideal) ℓ) (g : Dev Cert.BranchMergeRefIdeal.nD → PrngReg), Pre_BranchMergeRefIdeal m →
    θ_run (Cert.BranchMergeRefIdeal.defs (F := Ideal)) (onTc (τ := Cert.BranchMergeRefIdeal.τ) (Cert.BranchMergeRefIdeal.main (F := Ideal))) ⟨m, fun _ => 0, g⟩ (fun r => (∀ c : Dev Cert.BranchMergeRefIdeal.nD,
      r.2.mem ((c.tc : Thread Cert.BranchMergeRefIdeal.nD Cert.BranchMergeRefIdeal.τ).loc Cert.BranchMergeRefIdeal.main_arg0) = m ((c.tc : Thread Cert.BranchMergeRefIdeal.nD Cert.BranchMergeRefIdeal.τ).loc Cert.BranchMergeRefIdeal.main_arg0)
      ∧ r.2.mem ((c.tc : Thread Cert.BranchMergeRefIdeal.nD Cert.BranchMergeRefIdeal.τ).loc Cert.BranchMergeRefIdeal.main_arg1) = m ((c.tc : Thread Cert.BranchMergeRefIdeal.nD Cert.BranchMergeRefIdeal.τ).loc Cert.BranchMergeRefIdeal.main_arg1)
      ∧ r.2.mem ((c.tc : Thread Cert.BranchMergeRefIdeal.nD Cert.BranchMergeRefIdeal.τ).loc Cert.BranchMergeRefIdeal.main_arg2) = m ((c.tc : Thread Cert.BranchMergeRefIdeal.nD Cert.BranchMergeRefIdeal.τ).loc Cert.BranchMergeRefIdeal.main_arg2)
      ∧ r.2.mem ((c.tc : Thread Cert.BranchMergeRefIdeal.nD Cert.BranchMergeRefIdeal.τ).loc Cert.BranchMergeRefIdeal.main_arg3) = m ((c.tc : Thread Cert.BranchMergeRefIdeal.nD Cert.BranchMergeRefIdeal.τ).loc Cert.BranchMergeRefIdeal.main_arg3)
      ∧ r.2.mem ((c.tc : Thread Cert.BranchMergeRefIdeal.nD Cert.BranchMergeRefIdeal.τ).loc Cert.BranchMergeRefIdeal.main_arg4) = m ((c.tc : Thread Cert.BranchMergeRefIdeal.nD Cert.BranchMergeRefIdeal.τ).loc Cert.BranchMergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2)
      ∧ r.2.mem ((c.tc : Thread Cert.FfnDact.nD Cert.FfnDact.τ).loc Cert.FfnDact.main_arg3) = m ((c.tc : Thread Cert.FfnDact.nD Cert.FfnDact.τ).loc Cert.FfnDact.main_arg3))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactIdeal_pre_finite [hFfnDactIdeal : Cert.FfnDactIdeal.Facts] [hPre_finite : Cert.Pre_finite.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal_finite m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_FfnDactRefIdeal_pre_finite [hFfnDactRefIdeal : Cert.FfnDactRefIdeal.Facts] [hPre_finite : Cert.Pre_finite.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal_finite m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_FfnDownLoss [hFfnDownLoss : Cert.FfnDownLoss.Facts] : Prop :=
  ∀ (m : (ℓ : Loc Cert.FfnDownLoss.nD Cert.FfnDownLoss.τ Cert.FfnDownLoss.sig) → Buf (Elt Bits) ℓ) (g : Dev Cert.FfnDownLoss.nD → PrngReg), Pre_FfnDownLoss m →
    θ_run (Cert.FfnDownLoss.defs (F := Bits)) (onTc (τ := Cert.FfnDownLoss.τ) (Cert.FfnDownLoss.main (F := Bits))) ⟨m, fun _ => 0, g⟩ (fun r => (∀ c : Dev Cert.FfnDownLoss.nD,
      r.2.mem ((c.tc : Thread Cert.FfnDownLoss.nD Cert.FfnDownLoss.τ).loc Cert.FfnDownLoss.main_arg0) = m ((c.tc : Thread Cert.FfnDownLoss.nD Cert.FfnDownLoss.τ).loc Cert.FfnDownLoss.main_arg0)
      ∧ r.2.mem ((c.tc : Thread Cert.FfnDownLoss.nD Cert.FfnDownLoss.τ).loc Cert.FfnDownLoss.main_arg1) = m ((c.tc : Thread Cert.FfnDownLoss.nD Cert.FfnDownLoss.τ).loc Cert.FfnDownLoss.main_arg1)
      ∧ r.2.mem ((c.tc : Thread Cert.FfnDownLoss.nD Cert.FfnDownLoss.τ).loc Cert.FfnDownLoss.main_arg2) = m ((c.tc : Thread Cert.FfnDownLoss.nD Cert.FfnDownLoss.τ).loc Cert.FfnDownLoss.main_arg2)
      ∧ r.2.mem ((c.tc : Thread Cert.FfnDownLoss.nD Cert.FfnDownLoss.τ).loc Cert.FfnDownLoss.main_arg3) = m ((c.tc : Thread Cert.FfnDownLoss.nD Cert.FfnDownLoss.τ).loc Cert.FfnDownLoss.main_arg3))
      ∧ r.2.sem = fun _ => 0)

def quiescent_FfnDownLossIdeal [hFfnDownLossIdeal : Cert.FfnDownLossIdeal.Facts] : Prop :=
  ∀ (m : (ℓ : Loc Cert.FfnDownLossIdeal.nD Cert.FfnDownLossIdeal.τ Cert.FfnDownLossIdeal.sig) → Buf (Elt Ideal) ℓ) (g : Dev Cert.FfnDownLossIdeal.nD → PrngReg), Pre_FfnDownLossIdeal m →
    θ_run (Cert.FfnDownLossIdeal.defs (F := Ideal)) (onTc (τ := Cert.FfnDownLossIdeal.τ) (Cert.FfnDownLossIdeal.main (F := Ideal))) ⟨m, fun _ => 0, g⟩ (fun r => (∀ c : Dev Cert.FfnDownLossIdeal.nD,
      r.2.mem ((c.tc : Thread Cert.FfnDownLossIdeal.nD Cert.FfnDownLossIdeal.τ).loc Cert.FfnDownLossIdeal.main_arg0) = m ((c.tc : Thread Cert.FfnDownLossIdeal.nD Cert.FfnDownLossIdeal.τ).loc Cert.FfnDownLossIdeal.main_arg0)
      ∧ r.2.mem ((c.tc : Thread Cert.FfnDownLossIdeal.nD Cert.FfnDownLossIdeal.τ).loc Cert.FfnDownLossIdeal.main_arg1) = m ((c.tc : Thread Cert.FfnDownLossIdeal.nD Cert.FfnDownLossIdeal.τ).loc Cert.FfnDownLossIdeal.main_arg1)
      ∧ r.2.mem ((c.tc : Thread Cert.FfnDownLossIdeal.nD Cert.FfnDownLossIdeal.τ).loc Cert.FfnDownLossIdeal.main_arg2) = m ((c.tc : Thread Cert.FfnDownLossIdeal.nD Cert.FfnDownLossIdeal.τ).loc Cert.FfnDownLossIdeal.main_arg2)
      ∧ r.2.mem ((c.tc : Thread Cert.FfnDownLossIdeal.nD Cert.FfnDownLossIdeal.τ).loc Cert.FfnDownLossIdeal.main_arg3) = m ((c.tc : Thread Cert.FfnDownLossIdeal.nD Cert.FfnDownLossIdeal.τ).loc Cert.FfnDownLossIdeal.main_arg3))
      ∧ r.2.sem = fun _ => 0)

def quiescent_FfnDownLossRefIdeal [hFfnDownLossRefIdeal : Cert.FfnDownLossRefIdeal.Facts] : Prop :=
  ∀ (m : (ℓ : Loc Cert.FfnDownLossRefIdeal.nD Cert.FfnDownLossRefIdeal.τ Cert.FfnDownLossRefIdeal.sig) → Buf (Elt Ideal) ℓ) (g : Dev Cert.FfnDownLossRefIdeal.nD → PrngReg), Pre_FfnDownLossRefIdeal m →
    θ_run (Cert.FfnDownLossRefIdeal.defs (F := Ideal)) (onTc (τ := Cert.FfnDownLossRefIdeal.τ) (Cert.FfnDownLossRefIdeal.main (F := Ideal))) ⟨m, fun _ => 0, g⟩ (fun r => (∀ c : Dev Cert.FfnDownLossRefIdeal.nD,
      r.2.mem ((c.tc : Thread Cert.FfnDownLossRefIdeal.nD Cert.FfnDownLossRefIdeal.τ).loc Cert.FfnDownLossRefIdeal.main_arg0) = m ((c.tc : Thread Cert.FfnDownLossRefIdeal.nD Cert.FfnDownLossRefIdeal.τ).loc Cert.FfnDownLossRefIdeal.main_arg0)
      ∧ r.2.mem ((c.tc : Thread Cert.FfnDownLossRefIdeal.nD Cert.FfnDownLossRefIdeal.τ).loc Cert.FfnDownLossRefIdeal.main_arg1) = m ((c.tc : Thread Cert.FfnDownLossRefIdeal.nD Cert.FfnDownLossRefIdeal.τ).loc Cert.FfnDownLossRefIdeal.main_arg1)
      ∧ r.2.mem ((c.tc : Thread Cert.FfnDownLossRefIdeal.nD Cert.FfnDownLossRefIdeal.τ).loc Cert.FfnDownLossRefIdeal.main_arg2) = m ((c.tc : Thread Cert.FfnDownLossRefIdeal.nD Cert.FfnDownLossRefIdeal.τ).loc Cert.FfnDownLossRefIdeal.main_arg2)
      ∧ r.2.mem ((c.tc : Thread Cert.FfnDownLossRefIdeal.nD Cert.FfnDownLossRefIdeal.τ).loc Cert.FfnDownLossRefIdeal.main_arg3) = m ((c.tc : Thread Cert.FfnDownLossRefIdeal.nD Cert.FfnDownLossRefIdeal.τ).loc Cert.FfnDownLossRefIdeal.main_arg3))
      ∧ r.2.sem = fun _ => 0)

def quiescent_DnPostBwd [hDnPostBwd : Cert.DnPostBwd.Facts] : Prop :=
  ∀ (m : (ℓ : Loc Cert.DnPostBwd.nD Cert.DnPostBwd.τ Cert.DnPostBwd.sig) → Buf (Elt Bits) ℓ) (g : Dev Cert.DnPostBwd.nD → PrngReg), Pre_DnPostBwd m →
    θ_run (Cert.DnPostBwd.defs (F := Bits)) (onTc (τ := Cert.DnPostBwd.τ) (Cert.DnPostBwd.main (F := Bits))) ⟨m, fun _ => 0, g⟩ (fun r => (∀ c : Dev Cert.DnPostBwd.nD,
      r.2.mem ((c.tc : Thread Cert.DnPostBwd.nD Cert.DnPostBwd.τ).loc Cert.DnPostBwd.main_arg0) = m ((c.tc : Thread Cert.DnPostBwd.nD Cert.DnPostBwd.τ).loc Cert.DnPostBwd.main_arg0)
      ∧ r.2.mem ((c.tc : Thread Cert.DnPostBwd.nD Cert.DnPostBwd.τ).loc Cert.DnPostBwd.main_arg1) = m ((c.tc : Thread Cert.DnPostBwd.nD Cert.DnPostBwd.τ).loc Cert.DnPostBwd.main_arg1)
      ∧ r.2.mem ((c.tc : Thread Cert.DnPostBwd.nD Cert.DnPostBwd.τ).loc Cert.DnPostBwd.main_arg2) = m ((c.tc : Thread Cert.DnPostBwd.nD Cert.DnPostBwd.τ).loc Cert.DnPostBwd.main_arg2)
      ∧ r.2.mem ((c.tc : Thread Cert.DnPostBwd.nD Cert.DnPostBwd.τ).loc Cert.DnPostBwd.main_arg3) = m ((c.tc : Thread Cert.DnPostBwd.nD Cert.DnPostBwd.τ).loc Cert.DnPostBwd.main_arg3))
      ∧ r.2.sem = fun _ => 0)

def quiescent_DnPostBwdIdeal [hDnPostBwdIdeal : Cert.DnPostBwdIdeal.Facts] : Prop :=
  ∀ (m : (ℓ : Loc Cert.DnPostBwdIdeal.nD Cert.DnPostBwdIdeal.τ Cert.DnPostBwdIdeal.sig) → Buf (Elt Ideal) ℓ) (g : Dev Cert.DnPostBwdIdeal.nD → PrngReg), Pre_DnPostBwdIdeal m →
    θ_run (Cert.DnPostBwdIdeal.defs (F := Ideal)) (onTc (τ := Cert.DnPostBwdIdeal.τ) (Cert.DnPostBwdIdeal.main (F := Ideal))) ⟨m, fun _ => 0, g⟩ (fun r => (∀ c : Dev Cert.DnPostBwdIdeal.nD,
      r.2.mem ((c.tc : Thread Cert.DnPostBwdIdeal.nD Cert.DnPostBwdIdeal.τ).loc Cert.DnPostBwdIdeal.main_arg0) = m ((c.tc : Thread Cert.DnPostBwdIdeal.nD Cert.DnPostBwdIdeal.τ).loc Cert.DnPostBwdIdeal.main_arg0)
      ∧ r.2.mem ((c.tc : Thread Cert.DnPostBwdIdeal.nD Cert.DnPostBwdIdeal.τ).loc Cert.DnPostBwdIdeal.main_arg1) = m ((c.tc : Thread Cert.DnPostBwdIdeal.nD Cert.DnPostBwdIdeal.τ).loc Cert.DnPostBwdIdeal.main_arg1)
      ∧ r.2.mem ((c.tc : Thread Cert.DnPostBwdIdeal.nD Cert.DnPostBwdIdeal.τ).loc Cert.DnPostBwdIdeal.main_arg2) = m ((c.tc : Thread Cert.DnPostBwdIdeal.nD Cert.DnPostBwdIdeal.τ).loc Cert.DnPostBwdIdeal.main_arg2)
      ∧ r.2.mem ((c.tc : Thread Cert.DnPostBwdIdeal.nD Cert.DnPostBwdIdeal.τ).loc Cert.DnPostBwdIdeal.main_arg3) = m ((c.tc : Thread Cert.DnPostBwdIdeal.nD Cert.DnPostBwdIdeal.τ).loc Cert.DnPostBwdIdeal.main_arg3))
      ∧ r.2.sem = fun _ => 0)

def quiescent_DnPostBwdRefIdeal [hDnPostBwdRefIdeal : Cert.DnPostBwdRefIdeal.Facts] : Prop :=
  ∀ (m : (ℓ : Loc Cert.DnPostBwdRefIdeal.nD Cert.DnPostBwdRefIdeal.τ Cert.DnPostBwdRefIdeal.sig) → Buf (Elt Ideal) ℓ) (g : Dev Cert.DnPostBwdRefIdeal.nD → PrngReg), Pre_DnPostBwdRefIdeal m →
    θ_run (Cert.DnPostBwdRefIdeal.defs (F := Ideal)) (onTc (τ := Cert.DnPostBwdRefIdeal.τ) (Cert.DnPostBwdRefIdeal.main (F := Ideal))) ⟨m, fun _ => 0, g⟩ (fun r => (∀ c : Dev Cert.DnPostBwdRefIdeal.nD,
      r.2.mem ((c.tc : Thread Cert.DnPostBwdRefIdeal.nD Cert.DnPostBwdRefIdeal.τ).loc Cert.DnPostBwdRefIdeal.main_arg0) = m ((c.tc : Thread Cert.DnPostBwdRefIdeal.nD Cert.DnPostBwdRefIdeal.τ).loc Cert.DnPostBwdRefIdeal.main_arg0)
      ∧ r.2.mem ((c.tc : Thread Cert.DnPostBwdRefIdeal.nD Cert.DnPostBwdRefIdeal.τ).loc Cert.DnPostBwdRefIdeal.main_arg1) = m ((c.tc : Thread Cert.DnPostBwdRefIdeal.nD Cert.DnPostBwdRefIdeal.τ).loc Cert.DnPostBwdRefIdeal.main_arg1)
      ∧ r.2.mem ((c.tc : Thread Cert.DnPostBwdRefIdeal.nD Cert.DnPostBwdRefIdeal.τ).loc Cert.DnPostBwdRefIdeal.main_arg2) = m ((c.tc : Thread Cert.DnPostBwdRefIdeal.nD Cert.DnPostBwdRefIdeal.τ).loc Cert.DnPostBwdRefIdeal.main_arg2)
      ∧ r.2.mem ((c.tc : Thread Cert.DnPostBwdRefIdeal.nD Cert.DnPostBwdRefIdeal.τ).loc Cert.DnPostBwdRefIdeal.main_arg3) = m ((c.tc : Thread Cert.DnPostBwdRefIdeal.nD Cert.DnPostBwdRefIdeal.τ).loc Cert.DnPostBwdRefIdeal.main_arg3))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2)
      ∧ r.2.mem ((c.tc : Thread Cert.SwaFwd.nD Cert.SwaFwd.τ).loc Cert.SwaFwd.main_arg3) = m ((c.tc : Thread Cert.SwaFwd.nD Cert.SwaFwd.τ).loc Cert.SwaFwd.main_arg3)
      ∧ r.2.mem ((c.tc : Thread Cert.SwaFwd.nD Cert.SwaFwd.τ).loc Cert.SwaFwd.main_arg4) = m ((c.tc : Thread Cert.SwaFwd.nD Cert.SwaFwd.τ).loc Cert.SwaFwd.main_arg4))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
      ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4))
      ∧ r.2.sem = fun _ => 0)

def quiescent_SwaFwdIdeal_pre_finite_logits [hSwaFwdIdeal : Cert.SwaFwdIdeal.Facts] [hPre_finite_logits : Cert.Pre_finite_logits.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_finite_logits m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
      ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3)
      ∧ r.2.mem ((c.tc : Thread Cert.SwaFwdRefIdeal.nD Cert.SwaFwdRefIdeal.τ).loc Cert.SwaFwdRefIdeal.main_arg4) = m ((c.tc : Thread Cert.SwaFwdRefIdeal.nD Cert.SwaFwdRefIdeal.τ).loc Cert.SwaFwdRefIdeal.main_arg4))
      ∧ r.2.sem = fun _ => 0)

def quiescent_SwaFwdRefIdeal_pre_finite_logits [hSwaFwdRefIdeal : Cert.SwaFwdRefIdeal.Facts] [hPre_finite_logits : Cert.Pre_finite_logits.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_finite_logits m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3)
      ∧ r.2.mem ((c.tc : Thread Cert.SwaFwdRefIdeal.nD Cert.SwaFwdRefIdeal.τ).loc Cert.SwaFwdRefIdeal.main_arg4) = m ((c.tc : Thread Cert.SwaFwdRefIdeal.nD Cert.SwaFwdRefIdeal.τ).loc Cert.SwaFwdRefIdeal.main_arg4))
      ∧ r.2.sem = fun _ => 0)

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v35) = v0 c
          ∧ r.2.mem ((c.tc : Thread Cert.MergeBwdRefIdeal.nD Cert.MergeBwdRefIdeal.τ).loc Cert.MergeBwdRefIdeal.main_v36) = v1 c
          ∧ r.2.mem ((c.tc : Thread Cert.MergeBwdRefIdeal.nD Cert.MergeBwdRefIdeal.τ).loc Cert.MergeBwdRefIdeal.main_v37) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_GwGateUp_GwGateUpIdeal : Prop :=
  True

def algebraic_GwGateUpIdeal_GwGateUpRefIdeal [hGwGateUpIdeal : Cert.GwGateUpIdeal.Facts] [hGwGateUpRefIdeal : Cert.GwGateUpRefIdeal.Facts] : Prop :=
  ∀ (m : (ℓ : Loc Cert.GwGateUpIdeal.nD Cert.GwGateUpIdeal.τ Cert.GwGateUpIdeal.sig) → Buf (Elt Ideal) ℓ) (g : Dev Cert.GwGateUpIdeal.nD → PrngReg)
    (m' : (ℓ : Loc Cert.GwGateUpRefIdeal.nD Cert.GwGateUpRefIdeal.τ Cert.GwGateUpRefIdeal.sig) → Buf (Elt Ideal) ℓ) (g' : Dev Cert.GwGateUpRefIdeal.nD → PrngReg), Pre_GwGateUpIdeal m →
    (∀ c : Dev Cert.GwGateUpIdeal.nD,
      m' ((c.tc : Thread Cert.GwGateUpRefIdeal.nD Cert.GwGateUpRefIdeal.τ).loc Cert.GwGateUpRefIdeal.main_arg0) = m ((c.tc : Thread Cert.GwGateUpIdeal.nD Cert.GwGateUpIdeal.τ).loc Cert.GwGateUpIdeal.main_arg0)
      ∧ m' ((c.tc : Thread Cert.GwGateUpRefIdeal.nD Cert.GwGateUpRefIdeal.τ).loc Cert.GwGateUpRefIdeal.main_arg1) = m ((c.tc : Thread Cert.GwGateUpIdeal.nD Cert.GwGateUpIdeal.τ).loc Cert.GwGateUpIdeal.main_arg1)
      ∧ m' ((c.tc : Thread Cert.GwGateUpRefIdeal.nD Cert.GwGateUpRefIdeal.τ).loc Cert.GwGateUpRefIdeal.main_arg2) = m ((c.tc : Thread Cert.GwGateUpIdeal.nD Cert.GwGateUpIdeal.τ).loc Cert.GwGateUpIdeal.main_arg2)) →
    ∃ (v0 : (c : Dev Cert.GwGateUpIdeal.nD) → Buf (Elt Ideal) ((c.tc : Thread Cert.GwGateUpIdeal.nD Cert.GwGateUpIdeal.τ).loc Cert.GwGateUpIdeal.main_v0_0)) (v1 : (c : Dev Cert.GwGateUpIdeal.nD) → Buf (Elt Ideal) ((c.tc : Thread Cert.GwGateUpIdeal.nD Cert.GwGateUpIdeal.τ).loc Cert.GwGateUpIdeal.main_v0_1)),
      θ_run (Cert.GwGateUpIdeal.defs (F := Ideal)) (onTc (τ := Cert.GwGateUpIdeal.τ) (Cert.GwGateUpIdeal.main (F := Ideal))) ⟨m, fun _ => 0, g⟩ (fun r => ∀ c : Dev Cert.GwGateUpIdeal.nD,
          r.2.mem ((c.tc : Thread Cert.GwGateUpIdeal.nD Cert.GwGateUpIdeal.τ).loc Cert.GwGateUpIdeal.main_v0_0) = v0 c
          ∧ r.2.mem ((c.tc : Thread Cert.GwGateUpIdeal.nD Cert.GwGateUpIdeal.τ).loc Cert.GwGateUpIdeal.main_v0_1) = v1 c
          ∧ r.2.mem ((c.tc : Thread Cert.GwGateUpIdeal.nD Cert.GwGateUpIdeal.τ).loc Cert.GwGateUpIdeal.main_arg0) = m ((c.tc : Thread Cert.GwGateUpIdeal.nD Cert.GwGateUpIdeal.τ).loc Cert.GwGateUpIdeal.main_arg0)
          ∧ r.2.mem ((c.tc : Thread Cert.GwGateUpIdeal.nD Cert.GwGateUpIdeal.τ).loc Cert.GwGateUpIdeal.main_arg1) = m ((c.tc : Thread Cert.GwGateUpIdeal.nD Cert.GwGateUpIdeal.τ).loc Cert.GwGateUpIdeal.main_arg1)
          ∧ r.2.mem ((c.tc : Thread Cert.GwGateUpIdeal.nD Cert.GwGateUpIdeal.τ).loc Cert.GwGateUpIdeal.main_arg2) = m ((c.tc : Thread Cert.GwGateUpIdeal.nD Cert.GwGateUpIdeal.τ).loc Cert.GwGateUpIdeal.main_arg2))
      ∧ θ_run (Cert.GwGateUpRefIdeal.defs (F := Ideal)) (onTc (τ := Cert.GwGateUpRefIdeal.τ) (Cert.GwGateUpRefIdeal.main (F := Ideal))) ⟨m', fun _ => 0, g'⟩ (fun r => ∀ c : Dev Cert.GwGateUpRefIdeal.nD,
          r.2.mem ((c.tc : Thread Cert.GwGateUpRefIdeal.nD Cert.GwGateUpRefIdeal.τ).loc Cert.GwGateUpRefIdeal.main_v16) = v0 c
          ∧ r.2.mem ((c.tc : Thread Cert.GwGateUpRefIdeal.nD Cert.GwGateUpRefIdeal.τ).loc Cert.GwGateUpRefIdeal.main_v19) = v1 c
          ∧ r.2.mem ((c.tc : Thread Cert.GwGateUpRefIdeal.nD Cert.GwGateUpRefIdeal.τ).loc Cert.GwGateUpRefIdeal.main_arg0) = m' ((c.tc : Thread Cert.GwGateUpRefIdeal.nD Cert.GwGateUpRefIdeal.τ).loc Cert.GwGateUpRefIdeal.main_arg0)
          ∧ r.2.mem ((c.tc : Thread Cert.GwGateUpRefIdeal.nD Cert.GwGateUpRefIdeal.τ).loc Cert.GwGateUpRefIdeal.main_arg1) = m' ((c.tc : Thread Cert.GwGateUpRefIdeal.nD Cert.GwGateUpRefIdeal.τ).loc Cert.GwGateUpRefIdeal.main_arg1)
          ∧ r.2.mem ((c.tc : Thread Cert.GwGateUpRefIdeal.nD Cert.GwGateUpRefIdeal.τ).loc Cert.GwGateUpRefIdeal.main_arg2) = m' ((c.tc : Thread Cert.GwGateUpRefIdeal.nD Cert.GwGateUpRefIdeal.τ).loc Cert.GwGateUpRefIdeal.main_arg2))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v6) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)
      ∧ m' ((c.tc : Thread Cert.DBranchRefIdeal.nD Cert.DBranchRefIdeal.τ).loc Cert.DBranchRefIdeal.main_arg2) = m ((c.tc : Thread Cert.DBranchIdeal.nD Cert.DBranchIdeal.τ).loc Cert.DBranchIdeal.main_arg2)
      ∧ m' ((c.tc : Thread Cert.DBranchRefIdeal.nD Cert.DBranchRefIdeal.τ).loc Cert.DBranchRefIdeal.main_arg3) = m ((c.tc : Thread Cert.DBranchIdeal.nD Cert.DBranchIdeal.τ).loc Cert.DBranchIdeal.main_arg3)) →
    ∃ (v0 : (c : Dev Cert.DBranchIdeal.nD) → Buf (Elt Ideal) ((c.tc : Thread Cert.DBranchIdeal.nD Cert.DBranchIdeal.τ).loc Cert.DBranchIdeal.main_v0_0)) (v1 : (c : Dev Cert.DBranchIdeal.nD) → Buf (Elt Ideal) ((c.tc : Thread Cert.DBranchIdeal.nD Cert.DBranchIdeal.τ).loc Cert.DBranchIdeal.main_v0_1)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v0_0) = v0 c
          ∧ r.2.mem ((c.tc : Thread Cert.DBranchIdeal.nD Cert.DBranchIdeal.τ).loc Cert.DBranchIdeal.main_v0_1) = v1 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1)
          ∧ r.2.mem ((c.tc : Thread Cert.DBranchIdeal.nD Cert.DBranchIdeal.τ).loc Cert.DBranchIdeal.main_arg2) = m ((c.tc : Thread Cert.DBranchIdeal.nD Cert.DBranchIdeal.τ).loc Cert.DBranchIdeal.main_arg2)
          ∧ r.2.mem ((c.tc : Thread Cert.DBranchIdeal.nD Cert.DBranchIdeal.τ).loc Cert.DBranchIdeal.main_arg3) = m ((c.tc : Thread Cert.DBranchIdeal.nD Cert.DBranchIdeal.τ).loc Cert.DBranchIdeal.main_arg3))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v12) = v0 c
          ∧ r.2.mem ((c.tc : Thread Cert.DBranchRefIdeal.nD Cert.DBranchRefIdeal.τ).loc Cert.DBranchRefIdeal.main_v11) = v1 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1)
          ∧ r.2.mem ((c.tc : Thread Cert.DBranchRefIdeal.nD Cert.DBranchRefIdeal.τ).loc Cert.DBranchRefIdeal.main_arg2) = m' ((c.tc : Thread Cert.DBranchRefIdeal.nD Cert.DBranchRefIdeal.τ).loc Cert.DBranchRefIdeal.main_arg2)
          ∧ r.2.mem ((c.tc : Thread Cert.DBranchRefIdeal.nD Cert.DBranchRefIdeal.τ).loc Cert.DBranchRefIdeal.main_arg3) = m' ((c.tc : Thread Cert.DBranchRefIdeal.nD Cert.DBranchRefIdeal.τ).loc Cert.DBranchRefIdeal.main_arg3))

def preserves_GwBranch_GwBranchIdeal : Prop :=
  True

def algebraic_GwBranchIdeal_GwBranchRefIdeal [hGwBranchIdeal : Cert.GwBranchIdeal.Facts] [hGwBranchRefIdeal : Cert.GwBranchRefIdeal.Facts] : Prop :=
  ∀ (m : (ℓ : Loc Cert.GwBranchIdeal.nD Cert.GwBranchIdeal.τ Cert.GwBranchIdeal.sig) → Buf (Elt Ideal) ℓ) (g : Dev Cert.GwBranchIdeal.nD → PrngReg)
    (m' : (ℓ : Loc Cert.GwBranchRefIdeal.nD Cert.GwBranchRefIdeal.τ Cert.GwBranchRefIdeal.sig) → Buf (Elt Ideal) ℓ) (g' : Dev Cert.GwBranchRefIdeal.nD → PrngReg), Pre_GwBranchIdeal m →
    (∀ c : Dev Cert.GwBranchIdeal.nD,
      m' ((c.tc : Thread Cert.GwBranchRefIdeal.nD Cert.GwBranchRefIdeal.τ).loc Cert.GwBranchRefIdeal.main_arg0) = m ((c.tc : Thread Cert.GwBranchIdeal.nD Cert.GwBranchIdeal.τ).loc Cert.GwBranchIdeal.main_arg0)
      ∧ m' ((c.tc : Thread Cert.GwBranchRefIdeal.nD Cert.GwBranchRefIdeal.τ).loc Cert.GwBranchRefIdeal.main_arg1) = m ((c.tc : Thread Cert.GwBranchIdeal.nD Cert.GwBranchIdeal.τ).loc Cert.GwBranchIdeal.main_arg1)
      ∧ m' ((c.tc : Thread Cert.GwBranchRefIdeal.nD Cert.GwBranchRefIdeal.τ).loc Cert.GwBranchRefIdeal.main_arg2) = m ((c.tc : Thread Cert.GwBranchIdeal.nD Cert.GwBranchIdeal.τ).loc Cert.GwBranchIdeal.main_arg2)
      ∧ m' ((c.tc : Thread Cert.GwBranchRefIdeal.nD Cert.GwBranchRefIdeal.τ).loc Cert.GwBranchRefIdeal.main_arg3) = m ((c.tc : Thread Cert.GwBranchIdeal.nD Cert.GwBranchIdeal.τ).loc Cert.GwBranchIdeal.main_arg3)) →
    ∃ (v0 : (c : Dev Cert.GwBranchIdeal.nD) → Buf (Elt Ideal) ((c.tc : Thread Cert.GwBranchIdeal.nD Cert.GwBranchIdeal.τ).loc Cert.GwBranchIdeal.main_v0_0)) (v1 : (c : Dev Cert.GwBranchIdeal.nD) → Buf (Elt Ideal) ((c.tc : Thread Cert.GwBranchIdeal.nD Cert.GwBranchIdeal.τ).loc Cert.GwBranchIdeal.main_v0_1)),
      θ_run (Cert.GwBranchIdeal.defs (F := Ideal)) (onTc (τ := Cert.GwBranchIdeal.τ) (Cert.GwBranchIdeal.main (F := Ideal))) ⟨m, fun _ => 0, g⟩ (fun r => ∀ c : Dev Cert.GwBranchIdeal.nD,
          r.2.mem ((c.tc : Thread Cert.GwBranchIdeal.nD Cert.GwBranchIdeal.τ).loc Cert.GwBranchIdeal.main_v0_0) = v0 c
          ∧ r.2.mem ((c.tc : Thread Cert.GwBranchIdeal.nD Cert.GwBranchIdeal.τ).loc Cert.GwBranchIdeal.main_v0_1) = v1 c
          ∧ r.2.mem ((c.tc : Thread Cert.GwBranchIdeal.nD Cert.GwBranchIdeal.τ).loc Cert.GwBranchIdeal.main_arg0) = m ((c.tc : Thread Cert.GwBranchIdeal.nD Cert.GwBranchIdeal.τ).loc Cert.GwBranchIdeal.main_arg0)
          ∧ r.2.mem ((c.tc : Thread Cert.GwBranchIdeal.nD Cert.GwBranchIdeal.τ).loc Cert.GwBranchIdeal.main_arg1) = m ((c.tc : Thread Cert.GwBranchIdeal.nD Cert.GwBranchIdeal.τ).loc Cert.GwBranchIdeal.main_arg1)
          ∧ r.2.mem ((c.tc : Thread Cert.GwBranchIdeal.nD Cert.GwBranchIdeal.τ).loc Cert.GwBranchIdeal.main_arg2) = m ((c.tc : Thread Cert.GwBranchIdeal.nD Cert.GwBranchIdeal.τ).loc Cert.GwBranchIdeal.main_arg2)
          ∧ r.2.mem ((c.tc : Thread Cert.GwBranchIdeal.nD Cert.GwBranchIdeal.τ).loc Cert.GwBranchIdeal.main_arg3) = m ((c.tc : Thread Cert.GwBranchIdeal.nD Cert.GwBranchIdeal.τ).loc Cert.GwBranchIdeal.main_arg3))
      ∧ θ_run (Cert.GwBranchRefIdeal.defs (F := Ideal)) (onTc (τ := Cert.GwBranchRefIdeal.τ) (Cert.GwBranchRefIdeal.main (F := Ideal))) ⟨m', fun _ => 0, g'⟩ (fun r => ∀ c : Dev Cert.GwBranchRefIdeal.nD,
          r.2.mem ((c.tc : Thread Cert.GwBranchRefIdeal.nD Cert.GwBranchRefIdeal.τ).loc Cert.GwBranchRefIdeal.main_v13) = v0 c
          ∧ r.2.mem ((c.tc : Thread Cert.GwBranchRefIdeal.nD Cert.GwBranchRefIdeal.τ).loc Cert.GwBranchRefIdeal.main_v16) = v1 c
          ∧ r.2.mem ((c.tc : Thread Cert.GwBranchRefIdeal.nD Cert.GwBranchRefIdeal.τ).loc Cert.GwBranchRefIdeal.main_arg0) = m' ((c.tc : Thread Cert.GwBranchRefIdeal.nD Cert.GwBranchRefIdeal.τ).loc Cert.GwBranchRefIdeal.main_arg0)
          ∧ r.2.mem ((c.tc : Thread Cert.GwBranchRefIdeal.nD Cert.GwBranchRefIdeal.τ).loc Cert.GwBranchRefIdeal.main_arg1) = m' ((c.tc : Thread Cert.GwBranchRefIdeal.nD Cert.GwBranchRefIdeal.τ).loc Cert.GwBranchRefIdeal.main_arg1)
          ∧ r.2.mem ((c.tc : Thread Cert.GwBranchRefIdeal.nD Cert.GwBranchRefIdeal.τ).loc Cert.GwBranchRefIdeal.main_arg2) = m' ((c.tc : Thread Cert.GwBranchRefIdeal.nD Cert.GwBranchRefIdeal.τ).loc Cert.GwBranchRefIdeal.main_arg2)
          ∧ r.2.mem ((c.tc : Thread Cert.GwBranchRefIdeal.nD Cert.GwBranchRefIdeal.τ).loc Cert.GwBranchRefIdeal.main_arg3) = m' ((c.tc : Thread Cert.GwBranchRefIdeal.nD Cert.GwBranchRefIdeal.τ).loc Cert.GwBranchRefIdeal.main_arg3))

def preserves_DhRms_DhRmsIdeal : Prop :=
  True

def algebraic_DhRmsIdeal_DhRmsRefIdeal [hDhRmsIdeal : Cert.DhRmsIdeal.Facts] [hDhRmsRefIdeal : Cert.DhRmsRefIdeal.Facts] : Prop :=
  ∀ (m : (ℓ : Loc Cert.DhRmsIdeal.nD Cert.DhRmsIdeal.τ Cert.DhRmsIdeal.sig) → Buf (Elt Ideal) ℓ) (g : Dev Cert.DhRmsIdeal.nD → PrngReg)
    (m' : (ℓ : Loc Cert.DhRmsRefIdeal.nD Cert.DhRmsRefIdeal.τ Cert.DhRmsRefIdeal.sig) → Buf (Elt Ideal) ℓ) (g' : Dev Cert.DhRmsRefIdeal.nD → PrngReg), Pre_DhRmsIdeal m →
    (∀ c : Dev Cert.DhRmsIdeal.nD,
      m' ((c.tc : Thread Cert.DhRmsRefIdeal.nD Cert.DhRmsRefIdeal.τ).loc Cert.DhRmsRefIdeal.main_arg0) = m ((c.tc : Thread Cert.DhRmsIdeal.nD Cert.DhRmsIdeal.τ).loc Cert.DhRmsIdeal.main_arg0)
      ∧ m' ((c.tc : Thread Cert.DhRmsRefIdeal.nD Cert.DhRmsRefIdeal.τ).loc Cert.DhRmsRefIdeal.main_arg1) = m ((c.tc : Thread Cert.DhRmsIdeal.nD Cert.DhRmsIdeal.τ).loc Cert.DhRmsIdeal.main_arg1)
      ∧ m' ((c.tc : Thread Cert.DhRmsRefIdeal.nD Cert.DhRmsRefIdeal.τ).loc Cert.DhRmsRefIdeal.main_arg2) = m ((c.tc : Thread Cert.DhRmsIdeal.nD Cert.DhRmsIdeal.τ).loc Cert.DhRmsIdeal.main_arg2)
      ∧ m' ((c.tc : Thread Cert.DhRmsRefIdeal.nD Cert.DhRmsRefIdeal.τ).loc Cert.DhRmsRefIdeal.main_arg3) = m ((c.tc : Thread Cert.DhRmsIdeal.nD Cert.DhRmsIdeal.τ).loc Cert.DhRmsIdeal.main_arg3)
      ∧ m' ((c.tc : Thread Cert.DhRmsRefIdeal.nD Cert.DhRmsRefIdeal.τ).loc Cert.DhRmsRefIdeal.main_arg4) = m ((c.tc : Thread Cert.DhRmsIdeal.nD Cert.DhRmsIdeal.τ).loc Cert.DhRmsIdeal.main_arg4)) →
    ∃ (v0 : (c : Dev Cert.DhRmsIdeal.nD) → Buf (Elt Ideal) ((c.tc : Thread Cert.DhRmsIdeal.nD Cert.DhRmsIdeal.τ).loc Cert.DhRmsIdeal.main_v0_0)) (v1 : (c : Dev Cert.DhRmsIdeal.nD) → Buf (Elt Ideal) ((c.tc : Thread Cert.DhRmsIdeal.nD Cert.DhRmsIdeal.τ).loc Cert.DhRmsIdeal.main_v0_1)),
      θ_run (Cert.DhRmsIdeal.defs (F := Ideal)) (onTc (τ := Cert.DhRmsIdeal.τ) (Cert.DhRmsIdeal.main (F := Ideal))) ⟨m, fun _ => 0, g⟩ (fun r => ∀ c : Dev Cert.DhRmsIdeal.nD,
          r.2.mem ((c.tc : Thread Cert.DhRmsIdeal.nD Cert.DhRmsIdeal.τ).loc Cert.DhRmsIdeal.main_v0_0) = v0 c
          ∧ r.2.mem ((c.tc : Thread Cert.DhRmsIdeal.nD Cert.DhRmsIdeal.τ).loc Cert.DhRmsIdeal.main_v0_1) = v1 c
          ∧ r.2.mem ((c.tc : Thread Cert.DhRmsIdeal.nD Cert.DhRmsIdeal.τ).loc Cert.DhRmsIdeal.main_arg0) = m ((c.tc : Thread Cert.DhRmsIdeal.nD Cert.DhRmsIdeal.τ).loc Cert.DhRmsIdeal.main_arg0)
          ∧ r.2.mem ((c.tc : Thread Cert.DhRmsIdeal.nD Cert.DhRmsIdeal.τ).loc Cert.DhRmsIdeal.main_arg1) = m ((c.tc : Thread Cert.DhRmsIdeal.nD Cert.DhRmsIdeal.τ).loc Cert.DhRmsIdeal.main_arg1)
          ∧ r.2.mem ((c.tc : Thread Cert.DhRmsIdeal.nD Cert.DhRmsIdeal.τ).loc Cert.DhRmsIdeal.main_arg2) = m ((c.tc : Thread Cert.DhRmsIdeal.nD Cert.DhRmsIdeal.τ).loc Cert.DhRmsIdeal.main_arg2)
          ∧ r.2.mem ((c.tc : Thread Cert.DhRmsIdeal.nD Cert.DhRmsIdeal.τ).loc Cert.DhRmsIdeal.main_arg3) = m ((c.tc : Thread Cert.DhRmsIdeal.nD Cert.DhRmsIdeal.τ).loc Cert.DhRmsIdeal.main_arg3)
          ∧ r.2.mem ((c.tc : Thread Cert.DhRmsIdeal.nD Cert.DhRmsIdeal.τ).loc Cert.DhRmsIdeal.main_arg4) = m ((c.tc : Thread Cert.DhRmsIdeal.nD Cert.DhRmsIdeal.τ).loc Cert.DhRmsIdeal.main_arg4))
      ∧ θ_run (Cert.DhRmsRefIdeal.defs (F := Ideal)) (onTc (τ := Cert.DhRmsRefIdeal.τ) (Cert.DhRmsRefIdeal.main (F := Ideal))) ⟨m', fun _ => 0, g'⟩ (fun r => ∀ c : Dev Cert.DhRmsRefIdeal.nD,
          r.2.mem ((c.tc : Thread Cert.DhRmsRefIdeal.nD Cert.DhRmsRefIdeal.τ).loc Cert.DhRmsRefIdeal.main_v41) = v0 c
          ∧ r.2.mem ((c.tc : Thread Cert.DhRmsRefIdeal.nD Cert.DhRmsRefIdeal.τ).loc Cert.DhRmsRefIdeal.main_v42) = v1 c
          ∧ r.2.mem ((c.tc : Thread Cert.DhRmsRefIdeal.nD Cert.DhRmsRefIdeal.τ).loc Cert.DhRmsRefIdeal.main_arg0) = m' ((c.tc : Thread Cert.DhRmsRefIdeal.nD Cert.DhRmsRefIdeal.τ).loc Cert.DhRmsRefIdeal.main_arg0)
          ∧ r.2.mem ((c.tc : Thread Cert.DhRmsRefIdeal.nD Cert.DhRmsRefIdeal.τ).loc Cert.DhRmsRefIdeal.main_arg1) = m' ((c.tc : Thread Cert.DhRmsRefIdeal.nD Cert.DhRmsRefIdeal.τ).loc Cert.DhRmsRefIdeal.main_arg1)
          ∧ r.2.mem ((c.tc : Thread Cert.DhRmsRefIdeal.nD Cert.DhRmsRefIdeal.τ).loc Cert.DhRmsRefIdeal.main_arg2) = m' ((c.tc : Thread Cert.DhRmsRefIdeal.nD Cert.DhRmsRefIdeal.τ).loc Cert.DhRmsRefIdeal.main_arg2)
          ∧ r.2.mem ((c.tc : Thread Cert.DhRmsRefIdeal.nD Cert.DhRmsRefIdeal.τ).loc Cert.DhRmsRefIdeal.main_arg3) = m' ((c.tc : Thread Cert.DhRmsRefIdeal.nD Cert.DhRmsRefIdeal.τ).loc Cert.DhRmsRefIdeal.main_arg3)
          ∧ r.2.mem ((c.tc : Thread Cert.DhRmsRefIdeal.nD Cert.DhRmsRefIdeal.τ).loc Cert.DhRmsRefIdeal.main_arg4) = m' ((c.tc : Thread Cert.DhRmsRefIdeal.nD Cert.DhRmsRefIdeal.τ).loc Cert.DhRmsRefIdeal.main_arg4))

def preserves_FfnDh2_FfnDh2Ideal : Prop :=
  True

def algebraic_FfnDh2Ideal_FfnDh2RefIdeal [hFfnDh2Ideal : Cert.FfnDh2Ideal.Facts] [hFfnDh2RefIdeal : Cert.FfnDh2RefIdeal.Facts] : Prop :=
  ∀ (m : (ℓ : Loc Cert.FfnDh2Ideal.nD Cert.FfnDh2Ideal.τ Cert.FfnDh2Ideal.sig) → Buf (Elt Ideal) ℓ) (g : Dev Cert.FfnDh2Ideal.nD → PrngReg)
    (m' : (ℓ : Loc Cert.FfnDh2RefIdeal.nD Cert.FfnDh2RefIdeal.τ Cert.FfnDh2RefIdeal.sig) → Buf (Elt Ideal) ℓ) (g' : Dev Cert.FfnDh2RefIdeal.nD → PrngReg), Pre_FfnDh2Ideal m →
    (∀ c : Dev Cert.FfnDh2Ideal.nD,
      m' ((c.tc : Thread Cert.FfnDh2RefIdeal.nD Cert.FfnDh2RefIdeal.τ).loc Cert.FfnDh2RefIdeal.main_arg0) = m ((c.tc : Thread Cert.FfnDh2Ideal.nD Cert.FfnDh2Ideal.τ).loc Cert.FfnDh2Ideal.main_arg0)
      ∧ m' ((c.tc : Thread Cert.FfnDh2RefIdeal.nD Cert.FfnDh2RefIdeal.τ).loc Cert.FfnDh2RefIdeal.main_arg1) = m ((c.tc : Thread Cert.FfnDh2Ideal.nD Cert.FfnDh2Ideal.τ).loc Cert.FfnDh2Ideal.main_arg1)
      ∧ m' ((c.tc : Thread Cert.FfnDh2RefIdeal.nD Cert.FfnDh2RefIdeal.τ).loc Cert.FfnDh2RefIdeal.main_arg2) = m ((c.tc : Thread Cert.FfnDh2Ideal.nD Cert.FfnDh2Ideal.τ).loc Cert.FfnDh2Ideal.main_arg2)
      ∧ m' ((c.tc : Thread Cert.FfnDh2RefIdeal.nD Cert.FfnDh2RefIdeal.τ).loc Cert.FfnDh2RefIdeal.main_arg3) = m ((c.tc : Thread Cert.FfnDh2Ideal.nD Cert.FfnDh2Ideal.τ).loc Cert.FfnDh2Ideal.main_arg3)
      ∧ m' ((c.tc : Thread Cert.FfnDh2RefIdeal.nD Cert.FfnDh2RefIdeal.τ).loc Cert.FfnDh2RefIdeal.main_arg4) = m ((c.tc : Thread Cert.FfnDh2Ideal.nD Cert.FfnDh2Ideal.τ).loc Cert.FfnDh2Ideal.main_arg4)
      ∧ m' ((c.tc : Thread Cert.FfnDh2RefIdeal.nD Cert.FfnDh2RefIdeal.τ).loc Cert.FfnDh2RefIdeal.main_arg5) = m ((c.tc : Thread Cert.FfnDh2Ideal.nD Cert.FfnDh2Ideal.τ).loc Cert.FfnDh2Ideal.main_arg5)
      ∧ m' ((c.tc : Thread Cert.FfnDh2RefIdeal.nD Cert.FfnDh2RefIdeal.τ).loc Cert.FfnDh2RefIdeal.main_arg6) = m ((c.tc : Thread Cert.FfnDh2Ideal.nD Cert.FfnDh2Ideal.τ).loc Cert.FfnDh2Ideal.main_arg6)) →
    ∃ (v0 : (c : Dev Cert.FfnDh2Ideal.nD) → Buf (Elt Ideal) ((c.tc : Thread Cert.FfnDh2Ideal.nD Cert.FfnDh2Ideal.τ).loc Cert.FfnDh2Ideal.main_v0_0)) (v1 : (c : Dev Cert.FfnDh2Ideal.nD) → Buf (Elt Ideal) ((c.tc : Thread Cert.FfnDh2Ideal.nD Cert.FfnDh2Ideal.τ).loc Cert.FfnDh2Ideal.main_v0_1)) (v2 : (c : Dev Cert.FfnDh2Ideal.nD) → Buf (Elt Ideal) ((c.tc : Thread Cert.FfnDh2Ideal.nD Cert.FfnDh2Ideal.τ).loc Cert.FfnDh2Ideal.main_v0_2)),
      θ_run (Cert.FfnDh2Ideal.defs (F := Ideal)) (onTc (τ := Cert.FfnDh2Ideal.τ) (Cert.FfnDh2Ideal.main (F := Ideal))) ⟨m, fun _ => 0, g⟩ (fun r => ∀ c : Dev Cert.FfnDh2Ideal.nD,
          r.2.mem ((c.tc : Thread Cert.FfnDh2Ideal.nD Cert.FfnDh2Ideal.τ).loc Cert.FfnDh2Ideal.main_v0_0) = v0 c
          ∧ r.2.mem ((c.tc : Thread Cert.FfnDh2Ideal.nD Cert.FfnDh2Ideal.τ).loc Cert.FfnDh2Ideal.main_v0_1) = v1 c
          ∧ r.2.mem ((c.tc : Thread Cert.FfnDh2Ideal.nD Cert.FfnDh2Ideal.τ).loc Cert.FfnDh2Ideal.main_v0_2) = v2 c
          ∧ r.2.mem ((c.tc : Thread Cert.FfnDh2Ideal.nD Cert.FfnDh2Ideal.τ).loc Cert.FfnDh2Ideal.main_arg0) = m ((c.tc : Thread Cert.FfnDh2Ideal.nD Cert.FfnDh2Ideal.τ).loc Cert.FfnDh2Ideal.main_arg0)
          ∧ r.2.mem ((c.tc : Thread Cert.FfnDh2Ideal.nD Cert.FfnDh2Ideal.τ).loc Cert.FfnDh2Ideal.main_arg1) = m ((c.tc : Thread Cert.FfnDh2Ideal.nD Cert.FfnDh2Ideal.τ).loc Cert.FfnDh2Ideal.main_arg1)
          ∧ r.2.mem ((c.tc : Thread Cert.FfnDh2Ideal.nD Cert.FfnDh2Ideal.τ).loc Cert.FfnDh2Ideal.main_arg2) = m ((c.tc : Thread Cert.FfnDh2Ideal.nD Cert.FfnDh2Ideal.τ).loc Cert.FfnDh2Ideal.main_arg2)
          ∧ r.2.mem ((c.tc : Thread Cert.FfnDh2Ideal.nD Cert.FfnDh2Ideal.τ).loc Cert.FfnDh2Ideal.main_arg3) = m ((c.tc : Thread Cert.FfnDh2Ideal.nD Cert.FfnDh2Ideal.τ).loc Cert.FfnDh2Ideal.main_arg3)
          ∧ r.2.mem ((c.tc : Thread Cert.FfnDh2Ideal.nD Cert.FfnDh2Ideal.τ).loc Cert.FfnDh2Ideal.main_arg4) = m ((c.tc : Thread Cert.FfnDh2Ideal.nD Cert.FfnDh2Ideal.τ).loc Cert.FfnDh2Ideal.main_arg4)
          ∧ r.2.mem ((c.tc : Thread Cert.FfnDh2Ideal.nD Cert.FfnDh2Ideal.τ).loc Cert.FfnDh2Ideal.main_arg5) = m ((c.tc : Thread Cert.FfnDh2Ideal.nD Cert.FfnDh2Ideal.τ).loc Cert.FfnDh2Ideal.main_arg5)
          ∧ r.2.mem ((c.tc : Thread Cert.FfnDh2Ideal.nD Cert.FfnDh2Ideal.τ).loc Cert.FfnDh2Ideal.main_arg6) = m ((c.tc : Thread Cert.FfnDh2Ideal.nD Cert.FfnDh2Ideal.τ).loc Cert.FfnDh2Ideal.main_arg6))
      ∧ θ_run (Cert.FfnDh2RefIdeal.defs (F := Ideal)) (onTc (τ := Cert.FfnDh2RefIdeal.τ) (Cert.FfnDh2RefIdeal.main (F := Ideal))) ⟨m', fun _ => 0, g'⟩ (fun r => ∀ c : Dev Cert.FfnDh2RefIdeal.nD,
          r.2.mem ((c.tc : Thread Cert.FfnDh2RefIdeal.nD Cert.FfnDh2RefIdeal.τ).loc Cert.FfnDh2RefIdeal.main_v54) = v0 c
          ∧ r.2.mem ((c.tc : Thread Cert.FfnDh2RefIdeal.nD Cert.FfnDh2RefIdeal.τ).loc Cert.FfnDh2RefIdeal.main_v55) = v1 c
          ∧ r.2.mem ((c.tc : Thread Cert.FfnDh2RefIdeal.nD Cert.FfnDh2RefIdeal.τ).loc Cert.FfnDh2RefIdeal.main_v56) = v2 c
          ∧ r.2.mem ((c.tc : Thread Cert.FfnDh2RefIdeal.nD Cert.FfnDh2RefIdeal.τ).loc Cert.FfnDh2RefIdeal.main_arg0) = m' ((c.tc : Thread Cert.FfnDh2RefIdeal.nD Cert.FfnDh2RefIdeal.τ).loc Cert.FfnDh2RefIdeal.main_arg0)
          ∧ r.2.mem ((c.tc : Thread Cert.FfnDh2RefIdeal.nD Cert.FfnDh2RefIdeal.τ).loc Cert.FfnDh2RefIdeal.main_arg1) = m' ((c.tc : Thread Cert.FfnDh2RefIdeal.nD Cert.FfnDh2RefIdeal.τ).loc Cert.FfnDh2RefIdeal.main_arg1)
          ∧ r.2.mem ((c.tc : Thread Cert.FfnDh2RefIdeal.nD Cert.FfnDh2RefIdeal.τ).loc Cert.FfnDh2RefIdeal.main_arg2) = m' ((c.tc : Thread Cert.FfnDh2RefIdeal.nD Cert.FfnDh2RefIdeal.τ).loc Cert.FfnDh2RefIdeal.main_arg2)
          ∧ r.2.mem ((c.tc : Thread Cert.FfnDh2RefIdeal.nD Cert.FfnDh2RefIdeal.τ).loc Cert.FfnDh2RefIdeal.main_arg3) = m' ((c.tc : Thread Cert.FfnDh2RefIdeal.nD Cert.FfnDh2RefIdeal.τ).loc Cert.FfnDh2RefIdeal.main_arg3)
          ∧ r.2.mem ((c.tc : Thread Cert.FfnDh2RefIdeal.nD Cert.FfnDh2RefIdeal.τ).loc Cert.FfnDh2RefIdeal.main_arg4) = m' ((c.tc : Thread Cert.FfnDh2RefIdeal.nD Cert.FfnDh2RefIdeal.τ).loc Cert.FfnDh2RefIdeal.main_arg4)
          ∧ r.2.mem ((c.tc : Thread Cert.FfnDh2RefIdeal.nD Cert.FfnDh2RefIdeal.τ).loc Cert.FfnDh2RefIdeal.main_arg5) = m' ((c.tc : Thread Cert.FfnDh2RefIdeal.nD Cert.FfnDh2RefIdeal.τ).loc Cert.FfnDh2RefIdeal.main_arg5)
          ∧ r.2.mem ((c.tc : Thread Cert.FfnDh2RefIdeal.nD Cert.FfnDh2RefIdeal.τ).loc Cert.FfnDh2RefIdeal.main_arg6) = m' ((c.tc : Thread Cert.FfnDh2RefIdeal.nD Cert.FfnDh2RefIdeal.τ).loc Cert.FfnDh2RefIdeal.main_arg6))

def preserves_GwDown_GwDownIdeal : Prop :=
  True

def algebraic_GwDownIdeal_GwDownRefIdeal [hGwDownIdeal : Cert.GwDownIdeal.Facts] [hGwDownRefIdeal : Cert.GwDownRefIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRefIdeal.nD Cert.GwDownRefIdeal.τ Cert.GwDownRefIdeal.sig) → Buf (Elt Ideal) ℓ) (g' : Dev Cert.GwDownRefIdeal.nD → PrngReg), Pre_GwDownIdeal m →
    (∀ c : Dev Cert.GwDownIdeal.nD,
      m' ((c.tc : Thread Cert.GwDownRefIdeal.nD Cert.GwDownRefIdeal.τ).loc Cert.GwDownRefIdeal.main_arg0) = m ((c.tc : Thread Cert.GwDownIdeal.nD Cert.GwDownIdeal.τ).loc Cert.GwDownIdeal.main_arg0)
      ∧ m' ((c.tc : Thread Cert.GwDownRefIdeal.nD Cert.GwDownRefIdeal.τ).loc Cert.GwDownRefIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRefIdeal.defs (F := Ideal)) (onTc (τ := Cert.GwDownRefIdeal.τ) (Cert.GwDownRefIdeal.main (F := Ideal))) ⟨m', fun _ => 0, g'⟩ (fun r => ∀ c : Dev Cert.GwDownRefIdeal.nD,
          r.2.mem ((c.tc : Thread Cert.GwDownRefIdeal.nD Cert.GwDownRefIdeal.τ).loc Cert.GwDownRefIdeal.main_v9) = v0 c
          ∧ r.2.mem ((c.tc : Thread Cert.GwDownRefIdeal.nD Cert.GwDownRefIdeal.τ).loc Cert.GwDownRefIdeal.main_arg0) = m' ((c.tc : Thread Cert.GwDownRefIdeal.nD Cert.GwDownRefIdeal.τ).loc Cert.GwDownRefIdeal.main_arg0)
          ∧ r.2.mem ((c.tc : Thread Cert.GwDownRefIdeal.nD Cert.GwDownRefIdeal.τ).loc Cert.GwDownRefIdeal.main_arg1) = m' ((c.tc : Thread Cert.GwDownRefIdeal.nD Cert.GwDownRefIdeal.τ).loc Cert.GwDownRefIdeal.main_arg1))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v6) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v13) = v0 c
          ∧ r.2.mem ((c.tc : Thread Cert.FfnUpRefIdeal.nD Cert.FfnUpRefIdeal.τ).loc Cert.FfnUpRefIdeal.main_v16) = v1 c
          ∧ r.2.mem ((c.tc : Thread Cert.FfnUpRefIdeal.nD Cert.FfnUpRefIdeal.τ).loc Cert.FfnUpRefIdeal.main_v19) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_BranchMerge_BranchMergeIdeal : Prop :=
  True

def algebraic_BranchMergeIdeal_BranchMergeRefIdeal [hBranchMergeIdeal : Cert.BranchMergeIdeal.Facts] [hBranchMergeRefIdeal : Cert.BranchMergeRefIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg)
    (m' : (ℓ : Loc Cert.BranchMergeRefIdeal.nD Cert.BranchMergeRefIdeal.τ Cert.BranchMergeRefIdeal.sig) → Buf (Elt Ideal) ℓ) (g' : Dev Cert.BranchMergeRefIdeal.nD → PrngReg), Pre_BranchMergeIdeal m →
    (∀ c : Dev Cert.BranchMergeIdeal.nD,
      m' ((c.tc : Thread Cert.BranchMergeRefIdeal.nD Cert.BranchMergeRefIdeal.τ).loc Cert.BranchMergeRefIdeal.main_arg0) = m ((c.tc : Thread Cert.BranchMergeIdeal.nD Cert.BranchMergeIdeal.τ).loc Cert.BranchMergeIdeal.main_arg0)
      ∧ m' ((c.tc : Thread Cert.BranchMergeRefIdeal.nD Cert.BranchMergeRefIdeal.τ).loc Cert.BranchMergeRefIdeal.main_arg1) = m ((c.tc : Thread Cert.BranchMergeIdeal.nD Cert.BranchMergeIdeal.τ).loc Cert.BranchMergeIdeal.main_arg1)
      ∧ m' ((c.tc : Thread Cert.BranchMergeRefIdeal.nD Cert.BranchMergeRefIdeal.τ).loc Cert.BranchMergeRefIdeal.main_arg2) = m ((c.tc : Thread Cert.BranchMergeIdeal.nD Cert.BranchMergeIdeal.τ).loc Cert.BranchMergeIdeal.main_arg2)
      ∧ m' ((c.tc : Thread Cert.BranchMergeRefIdeal.nD Cert.BranchMergeRefIdeal.τ).loc Cert.BranchMergeRefIdeal.main_arg3) = m ((c.tc : Thread Cert.BranchMergeIdeal.nD Cert.BranchMergeIdeal.τ).loc Cert.BranchMergeIdeal.main_arg3)
      ∧ m' ((c.tc : Thread Cert.BranchMergeRefIdeal.nD Cert.BranchMergeRefIdeal.τ).loc Cert.BranchMergeRefIdeal.main_arg4) = m ((c.tc : Thread Cert.BranchMergeIdeal.nD Cert.BranchMergeIdeal.τ).loc Cert.BranchMergeIdeal.main_arg4)) →
    ∃ (v0 : (c : Dev Cert.BranchMergeIdeal.nD) → Buf (Elt Ideal) ((c.tc : Thread Cert.BranchMergeIdeal.nD Cert.BranchMergeIdeal.τ).loc Cert.BranchMergeIdeal.main_v0_0)) (v1 : (c : Dev Cert.BranchMergeIdeal.nD) → Buf (Elt Ideal) ((c.tc : Thread Cert.BranchMergeIdeal.nD Cert.BranchMergeIdeal.τ).loc Cert.BranchMergeIdeal.main_v0_1)) (v2 : (c : Dev Cert.BranchMergeIdeal.nD) → Buf (Elt Ideal) ((c.tc : Thread Cert.BranchMergeIdeal.nD Cert.BranchMergeIdeal.τ).loc Cert.BranchMergeIdeal.main_v0_2)),
      θ_run (Cert.BranchMergeIdeal.defs (F := Ideal)) (onTc (τ := Cert.BranchMergeIdeal.τ) (Cert.BranchMergeIdeal.main (F := Ideal))) ⟨m, fun _ => 0, g⟩ (fun r => ∀ c : Dev Cert.BranchMergeIdeal.nD,
          r.2.mem ((c.tc : Thread Cert.BranchMergeIdeal.nD Cert.BranchMergeIdeal.τ).loc Cert.BranchMergeIdeal.main_v0_0) = v0 c
          ∧ r.2.mem ((c.tc : Thread Cert.BranchMergeIdeal.nD Cert.BranchMergeIdeal.τ).loc Cert.BranchMergeIdeal.main_v0_1) = v1 c
          ∧ r.2.mem ((c.tc : Thread Cert.BranchMergeIdeal.nD Cert.BranchMergeIdeal.τ).loc Cert.BranchMergeIdeal.main_v0_2) = v2 c
          ∧ r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
          ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
          ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
          ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
          ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4))
      ∧ θ_run (Cert.BranchMergeRefIdeal.defs (F := Ideal)) (onTc (τ := Cert.BranchMergeRefIdeal.τ) (Cert.BranchMergeRefIdeal.main (F := Ideal))) ⟨m', fun _ => 0, g'⟩ (fun r => ∀ c : Dev Cert.BranchMergeRefIdeal.nD,
          r.2.mem ((c.tc : Thread Cert.BranchMergeRefIdeal.nD Cert.BranchMergeRefIdeal.τ).loc Cert.BranchMergeRefIdeal.main_v25) = v0 c
          ∧ r.2.mem ((c.tc : Thread Cert.BranchMergeRefIdeal.nD Cert.BranchMergeRefIdeal.τ).loc Cert.BranchMergeRefIdeal.main_v26) = v1 c
          ∧ r.2.mem ((c.tc : Thread Cert.BranchMergeRefIdeal.nD Cert.BranchMergeRefIdeal.τ).loc Cert.BranchMergeRefIdeal.main_v27) = v2 c
          ∧ r.2.mem ((c.tc : Thread Cert.BranchMergeRefIdeal.nD Cert.BranchMergeRefIdeal.τ).loc Cert.BranchMergeRefIdeal.main_arg0) = m' ((c.tc : Thread Cert.BranchMergeRefIdeal.nD Cert.BranchMergeRefIdeal.τ).loc Cert.BranchMergeRefIdeal.main_arg0)
          ∧ r.2.mem ((c.tc : Thread Cert.BranchMergeRefIdeal.nD Cert.BranchMergeRefIdeal.τ).loc Cert.BranchMergeRefIdeal.main_arg1) = m' ((c.tc : Thread Cert.BranchMergeRefIdeal.nD Cert.BranchMergeRefIdeal.τ).loc Cert.BranchMergeRefIdeal.main_arg1)
          ∧ r.2.mem ((c.tc : Thread Cert.BranchMergeRefIdeal.nD Cert.BranchMergeRefIdeal.τ).loc Cert.BranchMergeRefIdeal.main_arg2) = m' ((c.tc : Thread Cert.BranchMergeRefIdeal.nD Cert.BranchMergeRefIdeal.τ).loc Cert.BranchMergeRefIdeal.main_arg2)
          ∧ r.2.mem ((c.tc : Thread Cert.BranchMergeRefIdeal.nD Cert.BranchMergeRefIdeal.τ).loc Cert.BranchMergeRefIdeal.main_arg3) = m' ((c.tc : Thread Cert.BranchMergeRefIdeal.nD Cert.BranchMergeRefIdeal.τ).loc Cert.BranchMergeRefIdeal.main_arg3)
          ∧ r.2.mem ((c.tc : Thread Cert.BranchMergeRefIdeal.nD Cert.BranchMergeRefIdeal.τ).loc Cert.BranchMergeRefIdeal.main_arg4) = m' ((c.tc : Thread Cert.BranchMergeRefIdeal.nD Cert.BranchMergeRefIdeal.τ).loc Cert.BranchMergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FfnDact_FfnDactIdeal : Prop :=
  True

def algebraic_FfnDactIdeal_FfnDactRefIdeal_pre_finite [hFfnDactIdeal : Cert.FfnDactIdeal.Facts] [hFfnDactRefIdeal : Cert.FfnDactRefIdeal.Facts] [hPre_finite : Cert.Pre_finite.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal_finite m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)
      ∧ m' ((c.tc : Thread Cert.FfnDactRefIdeal.nD Cert.FfnDactRefIdeal.τ).loc Cert.FfnDactRefIdeal.main_arg2) = m ((c.tc : Thread Cert.FfnDactIdeal.nD Cert.FfnDactIdeal.τ).loc Cert.FfnDactIdeal.main_arg2)
      ∧ m' ((c.tc : Thread Cert.FfnDactRefIdeal.nD Cert.FfnDactRefIdeal.τ).loc Cert.FfnDactRefIdeal.main_arg3) = m ((c.tc : Thread Cert.FfnDactIdeal.nD Cert.FfnDactIdeal.τ).loc Cert.FfnDactIdeal.main_arg3)) →
    ∃ (v0 : (c : Dev Cert.FfnDactIdeal.nD) → Buf (Elt Ideal) ((c.tc : Thread Cert.FfnDactIdeal.nD Cert.FfnDactIdeal.τ).loc Cert.FfnDactIdeal.main_v0_0)) (v1 : (c : Dev Cert.FfnDactIdeal.nD) → Buf (Elt Ideal) ((c.tc : Thread Cert.FfnDactIdeal.nD Cert.FfnDactIdeal.τ).loc Cert.FfnDactIdeal.main_v0_1)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0_0) = v0 c
          ∧ r.2.mem ((c.tc : Thread Cert.FfnDactIdeal.nD Cert.FfnDactIdeal.τ).loc Cert.FfnDactIdeal.main_v0_1) = v1 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
          ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v18) = v0 c
          ∧ r.2.mem ((c.tc : Thread Cert.FfnDactRefIdeal.nD Cert.FfnDactRefIdeal.τ).loc Cert.FfnDactRefIdeal.main_v21) = v1 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1)
          ∧ r.2.mem ((c.tc : Thread Cert.FfnDactRefIdeal.nD Cert.FfnDactRefIdeal.τ).loc Cert.FfnDactRefIdeal.main_arg2) = m' ((c.tc : Thread Cert.FfnDactRefIdeal.nD Cert.FfnDactRefIdeal.τ).loc Cert.FfnDactRefIdeal.main_arg2)
          ∧ r.2.mem ((c.tc : Thread Cert.FfnDactRefIdeal.nD Cert.FfnDactRefIdeal.τ).loc Cert.FfnDactRefIdeal.main_arg3) = m' ((c.tc : Thread Cert.FfnDactRefIdeal.nD Cert.FfnDactRefIdeal.τ).loc Cert.FfnDactRefIdeal.main_arg3))

def preserves_FfnDownLoss_FfnDownLossIdeal : Prop :=
  True

def algebraic_FfnDownLossIdeal_FfnDownLossRefIdeal [hFfnDownLossIdeal : Cert.FfnDownLossIdeal.Facts] [hFfnDownLossRefIdeal : Cert.FfnDownLossRefIdeal.Facts] : Prop :=
  ∀ (m : (ℓ : Loc Cert.FfnDownLossIdeal.nD Cert.FfnDownLossIdeal.τ Cert.FfnDownLossIdeal.sig) → Buf (Elt Ideal) ℓ) (g : Dev Cert.FfnDownLossIdeal.nD → PrngReg)
    (m' : (ℓ : Loc Cert.FfnDownLossRefIdeal.nD Cert.FfnDownLossRefIdeal.τ Cert.FfnDownLossRefIdeal.sig) → Buf (Elt Ideal) ℓ) (g' : Dev Cert.FfnDownLossRefIdeal.nD → PrngReg), Pre_FfnDownLossIdeal m →
    (∀ c : Dev Cert.FfnDownLossIdeal.nD,
      m' ((c.tc : Thread Cert.FfnDownLossRefIdeal.nD Cert.FfnDownLossRefIdeal.τ).loc Cert.FfnDownLossRefIdeal.main_arg0) = m ((c.tc : Thread Cert.FfnDownLossIdeal.nD Cert.FfnDownLossIdeal.τ).loc Cert.FfnDownLossIdeal.main_arg0)
      ∧ m' ((c.tc : Thread Cert.FfnDownLossRefIdeal.nD Cert.FfnDownLossRefIdeal.τ).loc Cert.FfnDownLossRefIdeal.main_arg1) = m ((c.tc : Thread Cert.FfnDownLossIdeal.nD Cert.FfnDownLossIdeal.τ).loc Cert.FfnDownLossIdeal.main_arg1)
      ∧ m' ((c.tc : Thread Cert.FfnDownLossRefIdeal.nD Cert.FfnDownLossRefIdeal.τ).loc Cert.FfnDownLossRefIdeal.main_arg2) = m ((c.tc : Thread Cert.FfnDownLossIdeal.nD Cert.FfnDownLossIdeal.τ).loc Cert.FfnDownLossIdeal.main_arg2)
      ∧ m' ((c.tc : Thread Cert.FfnDownLossRefIdeal.nD Cert.FfnDownLossRefIdeal.τ).loc Cert.FfnDownLossRefIdeal.main_arg3) = m ((c.tc : Thread Cert.FfnDownLossIdeal.nD Cert.FfnDownLossIdeal.τ).loc Cert.FfnDownLossIdeal.main_arg3)) →
    ∃ (v0 : (c : Dev Cert.FfnDownLossIdeal.nD) → Buf (Elt Ideal) ((c.tc : Thread Cert.FfnDownLossIdeal.nD Cert.FfnDownLossIdeal.τ).loc Cert.FfnDownLossIdeal.main_v0_0)) (v1 : (c : Dev Cert.FfnDownLossIdeal.nD) → Buf (Elt Ideal) ((c.tc : Thread Cert.FfnDownLossIdeal.nD Cert.FfnDownLossIdeal.τ).loc Cert.FfnDownLossIdeal.main_v0_1)) (v2 : (c : Dev Cert.FfnDownLossIdeal.nD) → Buf (Elt Ideal) ((c.tc : Thread Cert.FfnDownLossIdeal.nD Cert.FfnDownLossIdeal.τ).loc Cert.FfnDownLossIdeal.main_v0_2)),
      θ_run (Cert.FfnDownLossIdeal.defs (F := Ideal)) (onTc (τ := Cert.FfnDownLossIdeal.τ) (Cert.FfnDownLossIdeal.main (F := Ideal))) ⟨m, fun _ => 0, g⟩ (fun r => ∀ c : Dev Cert.FfnDownLossIdeal.nD,
          r.2.mem ((c.tc : Thread Cert.FfnDownLossIdeal.nD Cert.FfnDownLossIdeal.τ).loc Cert.FfnDownLossIdeal.main_v0_0) = v0 c
          ∧ r.2.mem ((c.tc : Thread Cert.FfnDownLossIdeal.nD Cert.FfnDownLossIdeal.τ).loc Cert.FfnDownLossIdeal.main_v0_1) = v1 c
          ∧ r.2.mem ((c.tc : Thread Cert.FfnDownLossIdeal.nD Cert.FfnDownLossIdeal.τ).loc Cert.FfnDownLossIdeal.main_v0_2) = v2 c
          ∧ r.2.mem ((c.tc : Thread Cert.FfnDownLossIdeal.nD Cert.FfnDownLossIdeal.τ).loc Cert.FfnDownLossIdeal.main_arg0) = m ((c.tc : Thread Cert.FfnDownLossIdeal.nD Cert.FfnDownLossIdeal.τ).loc Cert.FfnDownLossIdeal.main_arg0)
          ∧ r.2.mem ((c.tc : Thread Cert.FfnDownLossIdeal.nD Cert.FfnDownLossIdeal.τ).loc Cert.FfnDownLossIdeal.main_arg1) = m ((c.tc : Thread Cert.FfnDownLossIdeal.nD Cert.FfnDownLossIdeal.τ).loc Cert.FfnDownLossIdeal.main_arg1)
          ∧ r.2.mem ((c.tc : Thread Cert.FfnDownLossIdeal.nD Cert.FfnDownLossIdeal.τ).loc Cert.FfnDownLossIdeal.main_arg2) = m ((c.tc : Thread Cert.FfnDownLossIdeal.nD Cert.FfnDownLossIdeal.τ).loc Cert.FfnDownLossIdeal.main_arg2)
          ∧ r.2.mem ((c.tc : Thread Cert.FfnDownLossIdeal.nD Cert.FfnDownLossIdeal.τ).loc Cert.FfnDownLossIdeal.main_arg3) = m ((c.tc : Thread Cert.FfnDownLossIdeal.nD Cert.FfnDownLossIdeal.τ).loc Cert.FfnDownLossIdeal.main_arg3))
      ∧ θ_run (Cert.FfnDownLossRefIdeal.defs (F := Ideal)) (onTc (τ := Cert.FfnDownLossRefIdeal.τ) (Cert.FfnDownLossRefIdeal.main (F := Ideal))) ⟨m', fun _ => 0, g'⟩ (fun r => ∀ c : Dev Cert.FfnDownLossRefIdeal.nD,
          r.2.mem ((c.tc : Thread Cert.FfnDownLossRefIdeal.nD Cert.FfnDownLossRefIdeal.τ).loc Cert.FfnDownLossRefIdeal.main_v21) = v0 c
          ∧ r.2.mem ((c.tc : Thread Cert.FfnDownLossRefIdeal.nD Cert.FfnDownLossRefIdeal.τ).loc Cert.FfnDownLossRefIdeal.main_v22) = v1 c
          ∧ r.2.mem ((c.tc : Thread Cert.FfnDownLossRefIdeal.nD Cert.FfnDownLossRefIdeal.τ).loc Cert.FfnDownLossRefIdeal.main_v23) = v2 c
          ∧ r.2.mem ((c.tc : Thread Cert.FfnDownLossRefIdeal.nD Cert.FfnDownLossRefIdeal.τ).loc Cert.FfnDownLossRefIdeal.main_arg0) = m' ((c.tc : Thread Cert.FfnDownLossRefIdeal.nD Cert.FfnDownLossRefIdeal.τ).loc Cert.FfnDownLossRefIdeal.main_arg0)
          ∧ r.2.mem ((c.tc : Thread Cert.FfnDownLossRefIdeal.nD Cert.FfnDownLossRefIdeal.τ).loc Cert.FfnDownLossRefIdeal.main_arg1) = m' ((c.tc : Thread Cert.FfnDownLossRefIdeal.nD Cert.FfnDownLossRefIdeal.τ).loc Cert.FfnDownLossRefIdeal.main_arg1)
          ∧ r.2.mem ((c.tc : Thread Cert.FfnDownLossRefIdeal.nD Cert.FfnDownLossRefIdeal.τ).loc Cert.FfnDownLossRefIdeal.main_arg2) = m' ((c.tc : Thread Cert.FfnDownLossRefIdeal.nD Cert.FfnDownLossRefIdeal.τ).loc Cert.FfnDownLossRefIdeal.main_arg2)
          ∧ r.2.mem ((c.tc : Thread Cert.FfnDownLossRefIdeal.nD Cert.FfnDownLossRefIdeal.τ).loc Cert.FfnDownLossRefIdeal.main_arg3) = m' ((c.tc : Thread Cert.FfnDownLossRefIdeal.nD Cert.FfnDownLossRefIdeal.τ).loc Cert.FfnDownLossRefIdeal.main_arg3))

def preserves_DnPostBwd_DnPostBwdIdeal : Prop :=
  True

def algebraic_DnPostBwdIdeal_DnPostBwdRefIdeal [hDnPostBwdIdeal : Cert.DnPostBwdIdeal.Facts] [hDnPostBwdRefIdeal : Cert.DnPostBwdRefIdeal.Facts] : Prop :=
  ∀ (m : (ℓ : Loc Cert.DnPostBwdIdeal.nD Cert.DnPostBwdIdeal.τ Cert.DnPostBwdIdeal.sig) → Buf (Elt Ideal) ℓ) (g : Dev Cert.DnPostBwdIdeal.nD → PrngReg)
    (m' : (ℓ : Loc Cert.DnPostBwdRefIdeal.nD Cert.DnPostBwdRefIdeal.τ Cert.DnPostBwdRefIdeal.sig) → Buf (Elt Ideal) ℓ) (g' : Dev Cert.DnPostBwdRefIdeal.nD → PrngReg), Pre_DnPostBwdIdeal m →
    (∀ c : Dev Cert.DnPostBwdIdeal.nD,
      m' ((c.tc : Thread Cert.DnPostBwdRefIdeal.nD Cert.DnPostBwdRefIdeal.τ).loc Cert.DnPostBwdRefIdeal.main_arg0) = m ((c.tc : Thread Cert.DnPostBwdIdeal.nD Cert.DnPostBwdIdeal.τ).loc Cert.DnPostBwdIdeal.main_arg0)
      ∧ m' ((c.tc : Thread Cert.DnPostBwdRefIdeal.nD Cert.DnPostBwdRefIdeal.τ).loc Cert.DnPostBwdRefIdeal.main_arg1) = m ((c.tc : Thread Cert.DnPostBwdIdeal.nD Cert.DnPostBwdIdeal.τ).loc Cert.DnPostBwdIdeal.main_arg1)
      ∧ m' ((c.tc : Thread Cert.DnPostBwdRefIdeal.nD Cert.DnPostBwdRefIdeal.τ).loc Cert.DnPostBwdRefIdeal.main_arg2) = m ((c.tc : Thread Cert.DnPostBwdIdeal.nD Cert.DnPostBwdIdeal.τ).loc Cert.DnPostBwdIdeal.main_arg2)
      ∧ m' ((c.tc : Thread Cert.DnPostBwdRefIdeal.nD Cert.DnPostBwdRefIdeal.τ).loc Cert.DnPostBwdRefIdeal.main_arg3) = m ((c.tc : Thread Cert.DnPostBwdIdeal.nD Cert.DnPostBwdIdeal.τ).loc Cert.DnPostBwdIdeal.main_arg3)) →
    ∃ (v0 : (c : Dev Cert.DnPostBwdIdeal.nD) → Buf (Elt Ideal) ((c.tc : Thread Cert.DnPostBwdIdeal.nD Cert.DnPostBwdIdeal.τ).loc Cert.DnPostBwdIdeal.main_v0_0)) (v1 : (c : Dev Cert.DnPostBwdIdeal.nD) → Buf (Elt Ideal) ((c.tc : Thread Cert.DnPostBwdIdeal.nD Cert.DnPostBwdIdeal.τ).loc Cert.DnPostBwdIdeal.main_v0_1)) (v2 : (c : Dev Cert.DnPostBwdIdeal.nD) → Buf (Elt Ideal) ((c.tc : Thread Cert.DnPostBwdIdeal.nD Cert.DnPostBwdIdeal.τ).loc Cert.DnPostBwdIdeal.main_v0_2)),
      θ_run (Cert.DnPostBwdIdeal.defs (F := Ideal)) (onTc (τ := Cert.DnPostBwdIdeal.τ) (Cert.DnPostBwdIdeal.main (F := Ideal))) ⟨m, fun _ => 0, g⟩ (fun r => ∀ c : Dev Cert.DnPostBwdIdeal.nD,
          r.2.mem ((c.tc : Thread Cert.DnPostBwdIdeal.nD Cert.DnPostBwdIdeal.τ).loc Cert.DnPostBwdIdeal.main_v0_0) = v0 c
          ∧ r.2.mem ((c.tc : Thread Cert.DnPostBwdIdeal.nD Cert.DnPostBwdIdeal.τ).loc Cert.DnPostBwdIdeal.main_v0_1) = v1 c
          ∧ r.2.mem ((c.tc : Thread Cert.DnPostBwdIdeal.nD Cert.DnPostBwdIdeal.τ).loc Cert.DnPostBwdIdeal.main_v0_2) = v2 c
          ∧ r.2.mem ((c.tc : Thread Cert.DnPostBwdIdeal.nD Cert.DnPostBwdIdeal.τ).loc Cert.DnPostBwdIdeal.main_arg0) = m ((c.tc : Thread Cert.DnPostBwdIdeal.nD Cert.DnPostBwdIdeal.τ).loc Cert.DnPostBwdIdeal.main_arg0)
          ∧ r.2.mem ((c.tc : Thread Cert.DnPostBwdIdeal.nD Cert.DnPostBwdIdeal.τ).loc Cert.DnPostBwdIdeal.main_arg1) = m ((c.tc : Thread Cert.DnPostBwdIdeal.nD Cert.DnPostBwdIdeal.τ).loc Cert.DnPostBwdIdeal.main_arg1)
          ∧ r.2.mem ((c.tc : Thread Cert.DnPostBwdIdeal.nD Cert.DnPostBwdIdeal.τ).loc Cert.DnPostBwdIdeal.main_arg2) = m ((c.tc : Thread Cert.DnPostBwdIdeal.nD Cert.DnPostBwdIdeal.τ).loc Cert.DnPostBwdIdeal.main_arg2)
          ∧ r.2.mem ((c.tc : Thread Cert.DnPostBwdIdeal.nD Cert.DnPostBwdIdeal.τ).loc Cert.DnPostBwdIdeal.main_arg3) = m ((c.tc : Thread Cert.DnPostBwdIdeal.nD Cert.DnPostBwdIdeal.τ).loc Cert.DnPostBwdIdeal.main_arg3))
      ∧ θ_run (Cert.DnPostBwdRefIdeal.defs (F := Ideal)) (onTc (τ := Cert.DnPostBwdRefIdeal.τ) (Cert.DnPostBwdRefIdeal.main (F := Ideal))) ⟨m', fun _ => 0, g'⟩ (fun r => ∀ c : Dev Cert.DnPostBwdRefIdeal.nD,
          r.2.mem ((c.tc : Thread Cert.DnPostBwdRefIdeal.nD Cert.DnPostBwdRefIdeal.τ).loc Cert.DnPostBwdRefIdeal.main_v48) = v0 c
          ∧ r.2.mem ((c.tc : Thread Cert.DnPostBwdRefIdeal.nD Cert.DnPostBwdRefIdeal.τ).loc Cert.DnPostBwdRefIdeal.main_v49) = v1 c
          ∧ r.2.mem ((c.tc : Thread Cert.DnPostBwdRefIdeal.nD Cert.DnPostBwdRefIdeal.τ).loc Cert.DnPostBwdRefIdeal.main_v50) = v2 c
          ∧ r.2.mem ((c.tc : Thread Cert.DnPostBwdRefIdeal.nD Cert.DnPostBwdRefIdeal.τ).loc Cert.DnPostBwdRefIdeal.main_arg0) = m' ((c.tc : Thread Cert.DnPostBwdRefIdeal.nD Cert.DnPostBwdRefIdeal.τ).loc Cert.DnPostBwdRefIdeal.main_arg0)
          ∧ r.2.mem ((c.tc : Thread Cert.DnPostBwdRefIdeal.nD Cert.DnPostBwdRefIdeal.τ).loc Cert.DnPostBwdRefIdeal.main_arg1) = m' ((c.tc : Thread Cert.DnPostBwdRefIdeal.nD Cert.DnPostBwdRefIdeal.τ).loc Cert.DnPostBwdRefIdeal.main_arg1)
          ∧ r.2.mem ((c.tc : Thread Cert.DnPostBwdRefIdeal.nD Cert.DnPostBwdRefIdeal.τ).loc Cert.DnPostBwdRefIdeal.main_arg2) = m' ((c.tc : Thread Cert.DnPostBwdRefIdeal.nD Cert.DnPostBwdRefIdeal.τ).loc Cert.DnPostBwdRefIdeal.main_arg2)
          ∧ r.2.mem ((c.tc : Thread Cert.DnPostBwdRefIdeal.nD Cert.DnPostBwdRefIdeal.τ).loc Cert.DnPostBwdRefIdeal.main_arg3) = m' ((c.tc : Thread Cert.DnPostBwdRefIdeal.nD Cert.DnPostBwdRefIdeal.τ).loc Cert.DnPostBwdRefIdeal.main_arg3))

def preserves_SwaFwd_SwaFwdIdeal : Prop :=
  IdealRules.named_const.Statement Cert.SwaFwdIdeal.κ "mask" .f32 0xF149F2CA#32 ⊥

def algebraic_SwaFwdIdeal_SwaFwdRefIdeal_pre_finite_logits [hSwaFwdIdeal : Cert.SwaFwdIdeal.Facts] [hSwaFwdRefIdeal : Cert.SwaFwdRefIdeal.Facts] [hPre_finite_logits : Cert.Pre_finite_logits.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_finite_logits m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)
      ∧ m' ((c.tc : Thread Cert.SwaFwdRefIdeal.nD Cert.SwaFwdRefIdeal.τ).loc Cert.SwaFwdRefIdeal.main_arg3) = m ((c.tc : Thread Cert.SwaFwdIdeal.nD Cert.SwaFwdIdeal.τ).loc Cert.SwaFwdIdeal.main_arg3)
      ∧ m' ((c.tc : Thread Cert.SwaFwdRefIdeal.nD Cert.SwaFwdRefIdeal.τ).loc Cert.SwaFwdRefIdeal.main_arg4) = m ((c.tc : Thread Cert.SwaFwdIdeal.nD Cert.SwaFwdIdeal.τ).loc Cert.SwaFwdIdeal.main_arg4)) →
    ∃ (v0 : (c : Dev Cert.SwaFwdIdeal.nD) → Buf (Elt Ideal) ((c.tc : Thread Cert.SwaFwdIdeal.nD Cert.SwaFwdIdeal.τ).loc Cert.SwaFwdIdeal.main_v1)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v1) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
          ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
          ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v110) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2)
          ∧ r.2.mem ((c.tc : Thread Cert.SwaFwdRefIdeal.nD Cert.SwaFwdRefIdeal.τ).loc Cert.SwaFwdRefIdeal.main_arg3) = m' ((c.tc : Thread Cert.SwaFwdRefIdeal.nD Cert.SwaFwdRefIdeal.τ).loc Cert.SwaFwdRefIdeal.main_arg3)
          ∧ r.2.mem ((c.tc : Thread Cert.SwaFwdRefIdeal.nD Cert.SwaFwdRefIdeal.τ).loc Cert.SwaFwdRefIdeal.main_arg4) = m' ((c.tc : Thread Cert.SwaFwdRefIdeal.nD Cert.SwaFwdRefIdeal.τ).loc Cert.SwaFwdRefIdeal.main_arg4))

def Claim : Prop :=
  ∃ (hMergeBwd : Cert.MergeBwd.Facts) (hMergeBwdIdeal : Cert.MergeBwdIdeal.Facts) (hMergeBwdRefIdeal : Cert.MergeBwdRefIdeal.Facts) (hGwGateUp : Cert.GwGateUp.Facts) (hGwGateUpIdeal : Cert.GwGateUpIdeal.Facts) (hGwGateUpRefIdeal : Cert.GwGateUpRefIdeal.Facts) (hGwIn : Cert.GwIn.Facts) (hGwInIdeal : Cert.GwInIdeal.Facts) (hGwInRefIdeal : Cert.GwInRefIdeal.Facts) (hDBranch : Cert.DBranch.Facts) (hDBranchIdeal : Cert.DBranchIdeal.Facts) (hDBranchRefIdeal : Cert.DBranchRefIdeal.Facts) (hGwBranch : Cert.GwBranch.Facts) (hGwBranchIdeal : Cert.GwBranchIdeal.Facts) (hGwBranchRefIdeal : Cert.GwBranchRefIdeal.Facts) (hDhRms : Cert.DhRms.Facts) (hDhRmsIdeal : Cert.DhRmsIdeal.Facts) (hDhRmsRefIdeal : Cert.DhRmsRefIdeal.Facts) (hFfnDh2 : Cert.FfnDh2.Facts) (hFfnDh2Ideal : Cert.FfnDh2Ideal.Facts) (hFfnDh2RefIdeal : Cert.FfnDh2RefIdeal.Facts) (hGwDown : Cert.GwDown.Facts) (hGwDownIdeal : Cert.GwDownIdeal.Facts) (hGwDownRefIdeal : Cert.GwDownRefIdeal.Facts) (hGwOut : Cert.GwOut.Facts) (hGwOutIdeal : Cert.GwOutIdeal.Facts) (hGwOutRefIdeal : Cert.GwOutRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hBranchMerge : Cert.BranchMerge.Facts) (hBranchMergeIdeal : Cert.BranchMergeIdeal.Facts) (hBranchMergeRefIdeal : Cert.BranchMergeRefIdeal.Facts) (hOutProj : Cert.OutProj.Facts) (hOutProjIdeal : Cert.OutProjIdeal.Facts) (hOutProjRefIdeal : Cert.OutProjRefIdeal.Facts) (hFfnDact : Cert.FfnDact.Facts) (hFfnDactIdeal : Cert.FfnDactIdeal.Facts) (hFfnDactRefIdeal : Cert.FfnDactRefIdeal.Facts) (hFfnDownLoss : Cert.FfnDownLoss.Facts) (hFfnDownLossIdeal : Cert.FfnDownLossIdeal.Facts) (hFfnDownLossRefIdeal : Cert.FfnDownLossRefIdeal.Facts) (hDnPostBwd : Cert.DnPostBwd.Facts) (hDnPostBwdIdeal : Cert.DnPostBwdIdeal.Facts) (hDnPostBwdRefIdeal : Cert.DnPostBwdRefIdeal.Facts) (hSwaFwd : Cert.SwaFwd.Facts) (hSwaFwdIdeal : Cert.SwaFwdIdeal.Facts) (hSwaFwdRefIdeal : Cert.SwaFwdRefIdeal.Facts) (hPre_finite : Cert.Pre_finite.Facts) (hPre_finite_logits : Cert.Pre_finite_logits.Facts),
    quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_GwGateUp (hGwGateUp := hGwGateUp)
    ∧ quiescent_GwGateUpIdeal (hGwGateUpIdeal := hGwGateUpIdeal)
    ∧ quiescent_GwGateUpRefIdeal (hGwGateUpRefIdeal := hGwGateUpRefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_GwBranch (hGwBranch := hGwBranch)
    ∧ quiescent_GwBranchIdeal (hGwBranchIdeal := hGwBranchIdeal)
    ∧ quiescent_GwBranchRefIdeal (hGwBranchRefIdeal := hGwBranchRefIdeal)
    ∧ quiescent_DhRms (hDhRms := hDhRms)
    ∧ quiescent_DhRmsIdeal (hDhRmsIdeal := hDhRmsIdeal)
    ∧ quiescent_DhRmsRefIdeal (hDhRmsRefIdeal := hDhRmsRefIdeal)
    ∧ quiescent_FfnDh2 (hFfnDh2 := hFfnDh2)
    ∧ quiescent_FfnDh2Ideal (hFfnDh2Ideal := hFfnDh2Ideal)
    ∧ quiescent_FfnDh2RefIdeal (hFfnDh2RefIdeal := hFfnDh2RefIdeal)
    ∧ quiescent_GwDown (hGwDown := hGwDown)
    ∧ quiescent_GwDownIdeal (hGwDownIdeal := hGwDownIdeal)
    ∧ quiescent_GwDownRefIdeal (hGwDownRefIdeal := hGwDownRefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_BranchMerge (hBranchMerge := hBranchMerge)
    ∧ quiescent_BranchMergeIdeal (hBranchMergeIdeal := hBranchMergeIdeal)
    ∧ quiescent_BranchMergeRefIdeal (hBranchMergeRefIdeal := hBranchMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnDact (hFfnDact := hFfnDact)
    ∧ quiescent_FfnDactIdeal (hFfnDactIdeal := hFfnDactIdeal)
    ∧ quiescent_FfnDactIdeal_pre_finite (hFfnDactIdeal := hFfnDactIdeal) (hPre_finite := hPre_finite)
    ∧ quiescent_FfnDactRefIdeal (hFfnDactRefIdeal := hFfnDactRefIdeal)
    ∧ quiescent_FfnDactRefIdeal_pre_finite (hFfnDactRefIdeal := hFfnDactRefIdeal) (hPre_finite := hPre_finite)
    ∧ quiescent_FfnDownLoss (hFfnDownLoss := hFfnDownLoss)
    ∧ quiescent_FfnDownLossIdeal (hFfnDownLossIdeal := hFfnDownLossIdeal)
    ∧ quiescent_FfnDownLossRefIdeal (hFfnDownLossRefIdeal := hFfnDownLossRefIdeal)
    ∧ quiescent_DnPostBwd (hDnPostBwd := hDnPostBwd)
    ∧ quiescent_DnPostBwdIdeal (hDnPostBwdIdeal := hDnPostBwdIdeal)
    ∧ quiescent_DnPostBwdRefIdeal (hDnPostBwdRefIdeal := hDnPostBwdRefIdeal)
    ∧ quiescent_SwaFwd (hSwaFwd := hSwaFwd)
    ∧ quiescent_SwaFwdIdeal (hSwaFwdIdeal := hSwaFwdIdeal)
    ∧ quiescent_SwaFwdIdeal_pre_finite_logits (hSwaFwdIdeal := hSwaFwdIdeal) (hPre_finite_logits := hPre_finite_logits)
    ∧ quiescent_SwaFwdRefIdeal (hSwaFwdRefIdeal := hSwaFwdRefIdeal)
    ∧ quiescent_SwaFwdRefIdeal_pre_finite_logits (hSwaFwdRefIdeal := hSwaFwdRefIdeal) (hPre_finite_logits := hPre_finite_logits)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_GwGateUp_GwGateUpIdeal
    ∧ algebraic_GwGateUpIdeal_GwGateUpRefIdeal (hGwGateUpIdeal := hGwGateUpIdeal) (hGwGateUpRefIdeal := hGwGateUpRefIdeal)
    ∧ preserves_GwIn_GwInIdeal
    ∧ algebraic_GwInIdeal_GwInRefIdeal (hGwInIdeal := hGwInIdeal) (hGwInRefIdeal := hGwInRefIdeal)
    ∧ preserves_DBranch_DBranchIdeal
    ∧ algebraic_DBranchIdeal_DBranchRefIdeal (hDBranchIdeal := hDBranchIdeal) (hDBranchRefIdeal := hDBranchRefIdeal)
    ∧ preserves_GwBranch_GwBranchIdeal
    ∧ algebraic_GwBranchIdeal_GwBranchRefIdeal (hGwBranchIdeal := hGwBranchIdeal) (hGwBranchRefIdeal := hGwBranchRefIdeal)
    ∧ preserves_DhRms_DhRmsIdeal
    ∧ algebraic_DhRmsIdeal_DhRmsRefIdeal (hDhRmsIdeal := hDhRmsIdeal) (hDhRmsRefIdeal := hDhRmsRefIdeal)
    ∧ preserves_FfnDh2_FfnDh2Ideal
    ∧ algebraic_FfnDh2Ideal_FfnDh2RefIdeal (hFfnDh2Ideal := hFfnDh2Ideal) (hFfnDh2RefIdeal := hFfnDh2RefIdeal)
    ∧ preserves_GwDown_GwDownIdeal
    ∧ algebraic_GwDownIdeal_GwDownRefIdeal (hGwDownIdeal := hGwDownIdeal) (hGwDownRefIdeal := hGwDownRefIdeal)
    ∧ preserves_GwOut_GwOutIdeal
    ∧ algebraic_GwOutIdeal_GwOutRefIdeal (hGwOutIdeal := hGwOutIdeal) (hGwOutRefIdeal := hGwOutRefIdeal)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_BranchMerge_BranchMergeIdeal
    ∧ algebraic_BranchMergeIdeal_BranchMergeRefIdeal (hBranchMergeIdeal := hBranchMergeIdeal) (hBranchMergeRefIdeal := hBranchMergeRefIdeal)
    ∧ preserves_OutProj_OutProjIdeal
    ∧ algebraic_OutProjIdeal_OutProjRefIdeal (hOutProjIdeal := hOutProjIdeal) (hOutProjRefIdeal := hOutProjRefIdeal)
    ∧ preserves_FfnDact_FfnDactIdeal
    ∧ algebraic_FfnDactIdeal_FfnDactRefIdeal_pre_finite (hFfnDactIdeal := hFfnDactIdeal) (hFfnDactRefIdeal := hFfnDactRefIdeal) (hPre_finite := hPre_finite)
    ∧ preserves_FfnDownLoss_FfnDownLossIdeal
    ∧ algebraic_FfnDownLossIdeal_FfnDownLossRefIdeal (hFfnDownLossIdeal := hFfnDownLossIdeal) (hFfnDownLossRefIdeal := hFfnDownLossRefIdeal)
    ∧ preserves_DnPostBwd_DnPostBwdIdeal
    ∧ algebraic_DnPostBwdIdeal_DnPostBwdRefIdeal (hDnPostBwdIdeal := hDnPostBwdIdeal) (hDnPostBwdRefIdeal := hDnPostBwdRefIdeal)
    ∧ preserves_SwaFwd_SwaFwdIdeal
    ∧ algebraic_SwaFwdIdeal_SwaFwdRefIdeal_pre_finite_logits (hSwaFwdIdeal := hSwaFwdIdeal) (hSwaFwdRefIdeal := hSwaFwdRefIdeal) (hPre_finite_logits := hPre_finite_logits)
-- ==== Pre_finite.lean ====
abbrev S4096x1024 : Shape := ⟨2, ![4096, 1024]⟩
abbrev S4x704x1024 : Shape := ⟨3, ![4, 704, 1024]⟩
abbrev S4x4096x704 : Shape := ⟨3, ![4, 4096, 704]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4x704x1024 : S_.BroadcastsInDim S4x704x1024 (![] : Fin 0 → Fin S4x704x1024.rank)
  bcast_S_S4x4096x704 : S_.BroadcastsInDim S4x4096x704 (![] : Fin 0 → Fin S4x4096x704.rank)

variable [Facts]

def fn {F : FTy → Type} [FloatOps F] (main_arg0 : FVec F S4096x1024 .bf16) (main_arg1 : FVec F S4x704x1024 .bf16) (main_arg2 : FVec F S4x4096x704 .bf16) (main_arg3 : FVec F S4x4096x704 .bf16) : IVec S4096x1024 1 × IVec S4x704x1024 1 × IVec S4x4096x704 1 :=
  let main_v0 : FVec F S4096x1024 .f32 := (extf .f32 · bitsLt_bf16_f32) main_arg0
  let main_v1 : FVec F S4x704x1024 .f32 := (extf .f32 · bitsLt_bf16_f32) main_arg1
  let main_v2 : FVec F S4x4096x704 .f32 := (extf .f32 · bitsLt_bf16_f32) main_arg3
  let main_v3 : FVec F S4096x1024 .f32 := Host.absf main_v0
  let main_cst : FVec F S_ .f32 := constant S_ .f32 0x7F800000#32
  let main_v4 : FVec F S4096x1024 .f32 := broadcastInDim S4096x1024 ![] bcast_S_S4096x1024 main_cst
  let main_v5 : IVec S4096x1024 1 := cmpf .olt main_v3 main_v4
  let main_v6 : FVec F S4x704x1024 .f32 := Host.absf main_v1
  let main_cst_0 : FVec F S_ .f32 := constant S_ .f32 0x7F800000#32
  let main_v7 : FVec F S4x704x1024 .f32 := broadcastInDim S4x704x1024 ![] bcast_S_S4x704x1024 main_cst_0
  let main_v8 : IVec S4x704x1024 1 := cmpf .olt main_v6 main_v7
  let main_v9 : FVec F S4x4096x704 .f32 := Host.absf main_v2
  let main_cst_1 : FVec F S_ .f32 := constant S_ .f32 0x7F800000#32
  let main_v10 : FVec F S4x4096x704 .f32 := broadcastInDim S4x4096x704 ![] bcast_S_S4x4096x704 main_cst_1
  let main_v11 : IVec S4x4096x704 1 := cmpf .olt main_v9 main_v10
  (main_v5, main_v8, main_v11)
-- ==== Pre_finite_logits.lean ====
abbrev S4096x5120 : Shape := ⟨2, ![4096, 5120]⟩
abbrev S8x128x256 : Shape := ⟨3, ![8, 128, 256]⟩
abbrev S1x64 : Shape := ⟨2, ![1, 64]⟩
abbrev S1x8 : Shape := ⟨2, ![1, 8]⟩
abbrev S4096x640 : Shape := ⟨2, ![4096, 640]⟩
abbrev S_ : Shape := ⟨0, ![]⟩

class Facts : Prop where
  slices_S4096x5120_S4096x640_0_4096 : S4096x5120.Slices ![0, 4096] S4096x640
  bcast_S_S4096x640 : S_.BroadcastsInDim S4096x640 (![] : Fin 0 → Fin S4096x640.rank)
  bcast_S_S8x128x256 : S_.BroadcastsInDim S8x128x256 (![] : Fin 0 → Fin S8x128x256.rank)
  bcast_S_S1x64 : S_.BroadcastsInDim S1x64 (![] : Fin 0 → Fin S1x64.rank)
  bcast_S_S1x8 : S_.BroadcastsInDim S1x8 (![] : Fin 0 → Fin S1x8.rank)

variable [Facts]

def fn {F : FTy → Type} [FloatOps F] (main_arg0 : FVec F S4096x5120 .f32) (main_arg1 : FVec F S8x128x256 .f32) (main_arg2 : FVec F S1x64 .f32) (main_arg3 : FVec F S1x64 .f32) (main_arg4 : FVec F S1x8 .f32) : IVec S4096x640 1 × IVec S8x128x256 1 × IVec S1x64 1 × IVec S1x64 1 × IVec S1x8 1 :=
  let main_v0 : FVec F S4096x640 .f32 := (extractStridedSlice S4096x640 ![0, 4096] · slices_S4096x5120_S4096x640_0_4096) main_arg0
  let main_v1 : FVec F S4096x640 .f32 := Host.absf main_v0
  let main_cst : FVec F S_ .f32 := constant S_ .f32 0x7F800000#32
  let main_v2 : FVec F S4096x640 .f32 := broadcastInDim S4096x640 ![] bcast_S_S4096x640 main_cst
  let main_v3 : IVec S4096x640 1 := cmpf .olt main_v1 main_v2
  let main_v4 : FVec F S8x128x256 .f32 := Host.absf main_arg1
  let main_cst_0 : FVec F S_ .f32 := constant S_ .f32 0x7F800000#32
  let main_v5 : FVec F S8x128x256 .f32 := broadcastInDim S8x128x256 ![] bcast_S_S8x128x256 main_cst_0
  let main_v6 : IVec S8x128x256 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x8 .f32 := Host.absf main_arg4
  let main_cst_3 : FVec F S_ .f32 := constant S_ .f32 0x7F800000#32
  let main_v14 : FVec F S1x8 .f32 := broadcastInDim S1x8 ![] bcast_S_S1x8 main_cst_3
  let main_v15 : IVec S1x8 1 := cmpf .olt main_v13 main_v14
  (main_v3, main_v6, main_v9, main_v12, main_v15)
-- ==== MergeBwd.lean ====
abbrev S4096x1024 : Shape := ⟨2, ![4096, 1024]⟩
abbrev S1024x1024 : Shape := ⟨2, ![1024, 1024]⟩
abbrev S4096x5120 : Shape := ⟨2, ![4096, 5120]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x5120, .f32⟩
  | .hbm, ⟨5, _⟩ => ⟨S4096x1024, .bf16⟩
  | .hbm, ⟨6, _⟩ => ⟨S4096x1024, .bf16⟩
  | .hbm, ⟨7, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .f32⟩
  | .local _ .vmem, ⟨8, _⟩ => ⟨S512x2048, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeBwdRefIdeal.lean ====
abbrev S4096x1024 : Shape := ⟨2, ![4096, 1024]⟩
abbrev S1024x1024 : Shape := ⟨2, ![1024, 1024]⟩
abbrev S4096x5120 : Shape := ⟨2, ![4096, 5120]⟩
abbrev S4096x2048 : Shape := ⟨2, ![4096, 2048]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x5120, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S_, .f32⟩
  | .hbm, ⟨36, _⟩ => ⟨S4096x2x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S_, .f32⟩
  | .hbm, ⟨41, _⟩ => ⟨S4096x2x1024, .f32⟩
  | .hbm, ⟨42, _⟩ => ⟨S4096x2x1024, .f32⟩
  | .hbm, ⟨43, _⟩ => ⟨S4096x2048, .f32⟩
  | .hbm, ⟨44, _⟩ => ⟨S4096x2048, .f32⟩
  | .hbm, ⟨45, _⟩ => ⟨S4096x1024, .bf16⟩
  | .hbm, ⟨46, _⟩ => ⟨S4096x1024, .bf16⟩
  | .hbm, ⟨47, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== GwGateUp.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S4096x512 : Shape := ⟨2, ![4096, 512]⟩
abbrev S1x704x512 : Shape := ⟨3, ![1, 704, 512]⟩
abbrev S4096x704 : Shape := ⟨2, ![4096, 704]⟩
abbrev S704x512 : Shape := ⟨2, ![704, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4096x1024, .bf16⟩
  | .hbm, ⟨3, _⟩ => ⟨S4x704x1024, .bf16⟩
  | .hbm, ⟨4, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x4096x704, .bf16⟩
  | .local _ .vmem, ⟨4, _⟩ => ⟨S4096x512, .bf16⟩
  | .local _ .vmem, ⟨5, _⟩ => ⟨S4096x512, .bf16⟩
  | .local _ .vmem, ⟨6, _⟩ => ⟨S1x704x512, .bf16⟩
  | .local _ .vmem, ⟨7, _⟩ => ⟨S1x704x512, .bf16⟩
  | .local _ .vmem, ⟨8, _⟩ => ⟨S1x704x512, .bf16⟩
  | .local _ .vmem, ⟨9, _⟩ => ⟨S1x704x512, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GwGateUpRefIdeal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4096x1024, .bf16⟩
  | .hbm, ⟨3, _⟩ => ⟨S4x4096x704, .f32⟩
  | .hbm, ⟨4, _⟩ => ⟨S4x4096x704, .f32⟩
  | .hbm, ⟨5, _⟩ => ⟨S4096x1024, .f32⟩
  | .hbm, ⟨6, _⟩ => ⟨S4096x4x704, .f32⟩
  | .hbm, ⟨7, _⟩ => ⟨S4096x2816, .f32⟩
  | .hbm, ⟨8, _⟩ => ⟨S4096x4x704, .f32⟩
  | .hbm, ⟨9, _⟩ => ⟨S4096x2816, .f32⟩
  | .hbm, ⟨10, _⟩ => ⟨S_, .f32⟩
  | .hbm, ⟨11, _⟩ => ⟨S1024x2816, .f32⟩
  | .hbm, ⟨12, _⟩ => ⟨S4096x2816, .f32⟩
  | .hbm, ⟨13, _⟩ => ⟨S4096x2816, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S1024x2816, .f32⟩
  | .hbm, ⟨18, _⟩ => ⟨S2816x1024, .f32⟩
  | .hbm, ⟨19, _⟩ => ⟨S4x704x1024, .f32⟩
  | .hbm, ⟨20, _⟩ => ⟨S4x704x1024, .bf16⟩
  | .hbm, ⟨21, _⟩ => ⟨S2816x1024, .f32⟩
  | .hbm, ⟨22, _⟩ => ⟨S4x704x1024, .f32⟩
  | .hbm, ⟨23, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== GwIn.lean ====
abbrev S4096x1024 : Shape := ⟨2, ![4096, 1024]⟩
abbrev S4096x5120 : Shape := ⟨2, ![4096, 5120]⟩
abbrev S1024x5120 : Shape := ⟨2, ![1024, 5120]⟩
abbrev S4096x512 : Shape := ⟨2, ![4096, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S1024x5120, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwInRefIdeal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S4096x1024, .f32⟩
  | .hbm, ⟨3, _⟩ => ⟨S4096x5120, .f32⟩
  | .hbm, ⟨4, _⟩ => ⟨S_, .f32⟩
  | .hbm, ⟨5, _⟩ => ⟨S1024x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DBranch.lean ====
abbrev S4096x1024 : Shape := ⟨2, ![4096, 1024]⟩
abbrev S4x512x256 : Shape := ⟨3, ![4, 512, 256]⟩
abbrev S4096x512 : Shape := ⟨2, ![4096, 512]⟩
abbrev S512x1024 : Shape := ⟨2, ![512, 1024]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x512x256, .bf16⟩
  | .hbm, ⟨3, _⟩ => ⟨S4x512x256, .bf16⟩
  | .hbm, ⟨4, _⟩ => ⟨S4096x512, .f32⟩
  | .hbm, ⟨5, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S4x512x256, .bf16⟩
  | .local _ .vmem, ⟨5, _⟩ => ⟨S4x512x256, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DBranchRefIdeal.lean ====
abbrev S4096x1024 : Shape := ⟨2, ![4096, 1024]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S4096x512 : Shape := ⟨2, ![4096, 512]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x512x256, .bf16⟩
  | .hbm, ⟨3, _⟩ => ⟨S4x512x256, .bf16⟩
  | .hbm, ⟨4, _⟩ => ⟨S4096x1024, .f32⟩
  | .hbm, ⟨5, _⟩ => ⟨S4096x1024, .f32⟩
  | .hbm, ⟨6, _⟩ => ⟨S4x512x256, .f32⟩
  | .hbm, ⟨7, _⟩ => ⟨S4x512x256, .f32⟩
  | .hbm, ⟨8, _⟩ => ⟨S512x4x256, .f32⟩
  | .hbm, ⟨9, _⟩ => ⟨S512x1024, .f32⟩
  | .hbm, ⟨10, _⟩ => ⟨S512x4x256, .f32⟩
  | .hbm, ⟨11, _⟩ => ⟨S512x1024, .f32⟩
  | .hbm, ⟨12, _⟩ => ⟨S_, .f32⟩
  | .hbm, ⟨13, _⟩ => ⟨S4096x512, .f32⟩
  | .hbm, ⟨14, _⟩ => ⟨S4096x1024, .f32⟩
  | .hbm, ⟨15, _⟩ => ⟨S4096x1024, .f32⟩
  | .hbm, ⟨16, _⟩ => ⟨S4096x512, .f32⟩
  | .hbm, ⟨17, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GwBranch.lean ====
abbrev S4096x512 : Shape := ⟨2, ![4096, 512]⟩
abbrev S4096x1024 : Shape := ⟨2, ![4096, 1024]⟩
abbrev S4x512x256 : Shape := ⟨3, ![4, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4x512x256, .bf16⟩
  | .hbm, ⟨5, _⟩ => ⟨S4x512x256, .bf16⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GwBranchRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S512x1024, .f32⟩
  | .hbm, ⟨10, _⟩ => ⟨S4096x1024, .f32⟩
  | .hbm, ⟨11, _⟩ => ⟨S4096x1024, .f32⟩
  | .hbm, ⟨12, _⟩ => ⟨S1024x512, .f32⟩
  | .hbm, ⟨13, _⟩ => ⟨S512x1024, .f32⟩
  | .hbm, ⟨14, _⟩ => ⟨S1024x512, .f32⟩
  | .hbm, ⟨15, _⟩ => ⟨S512x1024, .f32⟩
  | .hbm, ⟨16, _⟩ => ⟨S512x4x256, .f32⟩
  | .hbm, ⟨17, _⟩ => ⟨S4x512x256, .f32⟩
  | .hbm, ⟨18, _⟩ => ⟨S4x512x256, .bf16⟩
  | .hbm, ⟨19, _⟩ => ⟨S512x4x256, .f32⟩
  | .hbm, ⟨20, _⟩ => ⟨S4x512x256, .f32⟩
  | .hbm, ⟨21, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== DhRms.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S512x5120 : Shape := ⟨2, ![512, 5120]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S1024x5120, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DhRmsRefIdeal.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x5120, .f32⟩
  | .hbm, ⟨6, _⟩ => ⟨S1024x5120, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x5120, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== FfnDh2.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnDh2RefIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4x4096x704, .f32⟩
  | .hbm, ⟨8, _⟩ => ⟨S4x4096x704, .f32⟩
  | .hbm, ⟨9, _⟩ => ⟨S4x704x1024, .f32⟩
  | .hbm, ⟨10, _⟩ => ⟨S4x704x1024, .f32⟩
  | .hbm, ⟨11, _⟩ => ⟨S4096x4x704, .f32⟩
  | .hbm, ⟨12, _⟩ => ⟨S4096x2816, .f32⟩
  | .hbm, ⟨13, _⟩ => ⟨S4096x4x704, .f32⟩
  | .hbm, ⟨14, _⟩ => ⟨S4096x2816, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S1024x2816, .f32⟩
  | .hbm, ⟨19, _⟩ => ⟨S1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S1x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== GwDown.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S4096x512 : Shape := ⟨2, ![4096, 512]⟩
abbrev S1x704x512 : Shape := ⟨3, ![1, 704, 512]⟩
abbrev S4096x704 : Shape := ⟨2, ![4096, 704]⟩
abbrev S704x512 : Shape := ⟨2, ![704, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x512, .bf16⟩
  | .local _ .vmem, ⟨3, _⟩ => ⟨S4096x512, .bf16⟩
  | .local _ .vmem, ⟨4, _⟩ => ⟨S1x704x512, .bf16⟩
  | .local _ .vmem, ⟨5, _⟩ => ⟨S1x704x512, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwDownRefIdeal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x4096x704, .f32⟩
  | .hbm, ⟨3, _⟩ => ⟨S4096x1024, .f32⟩
  | .hbm, ⟨4, _⟩ => ⟨S4096x4x704, .f32⟩
  | .hbm, ⟨5, _⟩ => ⟨S4096x2816, .f32⟩
  | .hbm, ⟨6, _⟩ => ⟨S_, .f32⟩
  | .hbm, ⟨7, _⟩ => ⟨S2816x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GwOut.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProj.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S512x1024 : Shape := ⟨2, ![512, 1024]⟩
abbrev S512x5120 : Shape := ⟨2, ![512, 5120]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .bf16⟩
  | .hbm, ⟨3, _⟩ => ⟨S4096x1024, .bf16⟩
  | .hbm, ⟨4, _⟩ => ⟨S4096x5120, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S512x1024, .bf16⟩
  | .local _ .vmem, ⟨5, _⟩ => ⟨S512x1024, .bf16⟩
  | .local _ .vmem, ⟨6, _⟩ => ⟨S512x5120, .f32⟩
  | .local _ .vmem, ⟨7, _⟩ => ⟨S512x5120, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S4096x1024 : Shape := ⟨2, ![4096, 1024]⟩
abbrev S1x1024 : Shape := ⟨2, ![1, 1024]⟩
abbrev S1024x5120 : Shape := ⟨2, ![1024, 5120]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5120 : Shape := ⟨2, ![4096, 5120]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .bf16⟩
  | .hbm, ⟨3, _⟩ => ⟨S1024x5120, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x5120, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== FfnUp.lean ====
abbrev S4096x1024 : Shape := ⟨2, ![4096, 1024]⟩
abbrev S4x704x1024 : Shape := ⟨3, ![4, 704, 1024]⟩
abbrev S4x4096x704 : Shape := ⟨3, ![4, 4096, 704]⟩
abbrev S2048x1024 : Shape := ⟨2, ![2048, 1024]⟩
abbrev S1x704x1024 : Shape := ⟨3, ![1, 704, 1024]⟩
abbrev S1x2048x704 : Shape := ⟨3, ![1, 2048, 704]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x704x1024, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x704x1024, .bf16⟩
  | .hbm, ⟨3, _⟩ => ⟨S4096x1024, .f32⟩
  | .hbm, ⟨4, _⟩ => ⟨S4x704x1024, .f32⟩
  | .hbm, ⟨5, _⟩ => ⟨S4x704x1024, .f32⟩
  | .hbm, ⟨6, _⟩ => ⟨S2816x1024, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x4x704, .f32⟩
  | .hbm, ⟨23, _⟩ => ⟨S4x4096x704, .f32⟩
  | .hbm, ⟨24, _⟩ => ⟨S4x4096x704, .bf16⟩
  | .hbm, ⟨25, _⟩ => ⟨S4096x4x704, .f32⟩
  | .hbm, ⟨26, _⟩ => ⟨S4x4096x704, .f32⟩
  | .hbm, ⟨27, _⟩ => ⟨S4x4096x704, .bf16⟩
  | .hbm, ⟨28, _⟩ => ⟨S4096x4x704, .f32⟩
  | .hbm, ⟨29, _⟩ => ⟨S4x4096x704, .f32⟩
  | .hbm, ⟨30, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== BranchMerge.lean ====
abbrev S4096x512 : Shape := ⟨2, ![4096, 512]⟩
abbrev S4x512x256 : Shape := ⟨3, ![4, 512, 256]⟩
abbrev S4096x5120 : Shape := ⟨2, ![4096, 5120]⟩
abbrev S4096x1024 : Shape := ⟨2, ![4096, 1024]⟩
abbrev S1024x512 : Shape := ⟨2, ![1024, 512]⟩
abbrev S1x512x256 : Shape := ⟨3, ![1, 512, 256]⟩
abbrev S1024x256 : Shape := ⟨2, ![1024, 256]⟩
abbrev S128x512 : Shape := ⟨2, ![128, 512]⟩
abbrev S512x256 : Shape := ⟨2, ![512, 256]⟩
abbrev S128x256 : Shape := ⟨2, ![128, 256]⟩

abbrev nBuf : Space → Nat
  | .hbm => 8
  | .vmem => 18
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4x512x256, .bf16⟩
  | .hbm, ⟨3, _⟩ => ⟨S4x512x256, .bf16⟩
  | .hbm, ⟨4, _⟩ => ⟨S4096x5120, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BranchMergeRefIdeal.lean ====
abbrev S4096x512 : Shape := ⟨2, ![4096, 512]⟩
abbrev S4x512x256 : Shape := ⟨3, ![4, 512, 256]⟩
abbrev S4096x5120 : Shape := ⟨2, ![4096, 5120]⟩
abbrev S4096x2048 : Shape := ⟨2, ![4096, 2048]⟩
abbrev S_ : Shape := ⟨0, ![]⟩
abbrev S4096x2x1024 : Shape := ⟨3, ![4096, 2, 1024]⟩
abbrev S512x4x256 : Shape := ⟨3, ![512, 4, 256]⟩
abbrev S512x1024 : Shape := ⟨2, ![512, 1024]⟩
abbrev S4096x1024 : Shape := ⟨2, ![4096, 1024]⟩
abbrev S4096x1x1024 : Shape := ⟨3, ![4096, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4x512x256, .bf16⟩
  | .hbm, ⟨3, _⟩ => ⟨S4x512x256, .bf16⟩
  | .hbm, ⟨4, _⟩ => ⟨S4096x5120, .f32⟩
  | .hbm, ⟨5, _⟩ => ⟨S4096x512, .f32⟩
  | .hbm, ⟨6, _⟩ => ⟨S4096x512, .f32⟩
  | .hbm, ⟨7, _⟩ => ⟨S4x512x256, .f32⟩
  | .hbm, ⟨8, _⟩ => ⟨S4x512x256, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2x1024, .f32⟩
  | .hbm, ⟨19, _⟩ => ⟨S512x4x256, .f32⟩
  | .hbm, ⟨20, _⟩ => ⟨S512x1024, .f32⟩
  | .hbm, ⟨21, _⟩ => ⟨S4096x1024, .f32⟩
  | .hbm, ⟨22, _⟩ => ⟨S512x4x256, .f32⟩
  | .hbm, ⟨23, _⟩ => ⟨S512x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x1024, .bf16⟩
  | .hbm, ⟨34, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== FfnDact.lean ====
abbrev S4096x1024 : Shape := ⟨2, ![4096, 1024]⟩
abbrev S4x704x1024 : Shape := ⟨3, ![4, 704, 1024]⟩
abbrev S4x4096x704 : Shape := ⟨3, ![4, 4096, 704]⟩
abbrev S2048x1024 : Shape := ⟨2, ![2048, 1024]⟩
abbrev S1x704x1024 : Shape := ⟨3, ![1, 704, 1024]⟩
abbrev S1x2048x704 : Shape := ⟨3, ![1, 2048, 704]⟩
abbrev S704x1024 : Shape := ⟨2, ![704, 1024]⟩
abbrev S256x1024 : Shape := ⟨2, ![256, 1024]⟩
abbrev S256x704 : Shape := ⟨2, ![256, 704]⟩
abbrev S1x256x704 : Shape := ⟨3, ![1, 256, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDactRefIdeal.lean ====
abbrev S4096x1024 : Shape := ⟨2, ![4096, 1024]⟩
abbrev S4x704x1024 : Shape := ⟨3, ![4, 704, 1024]⟩
abbrev S4x4096x704 : Shape := ⟨3, ![4, 4096, 704]⟩
abbrev S2816x1024 : Shape := ⟨2, ![2816, 1024]⟩
abbrev S4096x4x704 : Shape := ⟨3, ![4096, 4, 704]⟩
abbrev S4096x2816 : Shape := ⟨2, ![4096, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x4096x704, .bf16⟩
  | .hbm, ⟨3, _⟩ => ⟨S4x4096x704, .bf16⟩
  | .hbm, ⟨4, _⟩ => ⟨S4096x1024, .f32⟩
  | .hbm, ⟨5, _⟩ => ⟨S4x704x1024, .f32⟩
  | .hbm, ⟨6, _⟩ => ⟨S4x4096x704, .f32⟩
  | .hbm, ⟨7, _⟩ => ⟨S4x4096x704, .f32⟩
  | .hbm, ⟨8, _⟩ => ⟨S2816x1024, .f32⟩
  | .hbm, ⟨9, _⟩ => ⟨S4096x4x704, .f32⟩
  | .hbm, ⟨10, _⟩ => ⟨S4096x2816, .f32⟩
  | .hbm, ⟨11, _⟩ => ⟨S4096x4x704, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x4x704, .f32⟩
  | .hbm, ⟨36, _⟩ => ⟨S4x4096x704, .f32⟩
  | .hbm, ⟨37, _⟩ => ⟨S4x4096x704, .bf16⟩
  | .hbm, ⟨38, _⟩ => ⟨S4096x4x704, .f32⟩
  | .hbm, ⟨39, _⟩ => ⟨S4x4096x704, .f32⟩
  | .hbm, ⟨40, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v9_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v9_1 : Ref sig .tc := ⟨.hbm, 24, rfl⟩
abbrev main_v9_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== FfnDownLoss.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1 : Shape := ⟨2, ![1, 1]⟩
abbrev S4x512x704 : Shape := ⟨3, ![4, 512, 704]⟩
abbrev S512x1024 : Shape := ⟨2, ![512, 1024]⟩
abbrev S128x1024 : Shape := ⟨2, ![128, 1024]⟩
abbrev S1x128x704 : Shape := ⟨3, ![1, 128, 704]⟩
abbrev S128x704 : Shape := ⟨2, ![128, 704]⟩
abbrev S1x704x1024 : Shape := ⟨3, ![1, 704, 1024]⟩
abbrev S704x1024 : Shape := ⟨2, ![704, 1024]⟩
abbrev S1x128x1024 : Shape := ⟨3, ![1, 128, 1024]⟩
abbrev S1 : Shape := ⟨1, ![1]⟩
abbrev S1x1x1 : Shape := ⟨3, ![1, 1, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnDownLossRefIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S4096x4x704 : Shape := ⟨3, ![4096, 4, 704]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S4x4096x704, .f32⟩
  | .hbm, ⟨5, _⟩ => ⟨S4x704x1024, .f32⟩
  | .hbm, ⟨6, _⟩ => ⟨S4096x4x704, .f32⟩
  | .hbm, ⟨7, _⟩ => ⟨S4096x2816, .f32⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S1x1, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== DnPostBwd.lean ====
abbrev S4096x512 : Shape := ⟨2, ![4096, 512]⟩
abbrev S4096x5120 : Shape := ⟨2, ![4096, 5120]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩
abbrev S512x384 : Shape := ⟨2, ![512, 384]⟩
abbrev S512x256 : Shape := ⟨2, ![512, 256]⟩

abbrev nBuf : Space → Nat
  | .hbm => 7
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x5120, .f32⟩
  | .hbm, ⟨2, _⟩ => ⟨S4096x512, .f32⟩
  | .hbm, ⟨3, _⟩ => ⟨S1x128, .f32⟩
  | .hbm, ⟨4, _⟩ => ⟨S4096x512, .f32⟩
  | .hbm, ⟨5, _⟩ => ⟨S4096x512, .bf16⟩
  | .hbm, ⟨6, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnPostBwdRefIdeal.lean ====
abbrev S4096x512 : Shape := ⟨2, ![4096, 512]⟩
abbrev S4096x5120 : Shape := ⟨2, ![4096, 5120]⟩
abbrev S1x128 : Shape := ⟨2, ![1, 128]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x5120, .f32⟩
  | .hbm, ⟨2, _⟩ => ⟨S4096x512, .f32⟩
  | .hbm, ⟨3, _⟩ => ⟨S1x128, .f32⟩
  | .hbm, ⟨4, _⟩ => ⟨S4096x512, .f32⟩
  | .hbm, ⟨5, _⟩ => ⟨S128, .f32⟩
  | .hbm, ⟨6, _⟩ => ⟨S4096x4x128, .f32⟩
  | .hbm, ⟨7, _⟩ => ⟨S4096x4x128, .f32⟩
  | .hbm, ⟨8, _⟩ => ⟨S_, .f32⟩
  | .hbm, ⟨9, _⟩ => ⟨S4096x4, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S_, .f32⟩
  | .hbm, ⟨20, _⟩ => ⟨S4096x4x1, .f32⟩
  | .hbm, ⟨21, _⟩ => ⟨S4096x4x1, .f32⟩
  | .hbm, ⟨22, _⟩ => ⟨S4096x4x128, .f32⟩
  | .hbm, ⟨23, _⟩ => ⟨S4096x4x128, .f32⟩
  | .hbm, ⟨24, _⟩ => ⟨S1x1x128, .f32⟩
  | .hbm, ⟨25, _⟩ => ⟨S4096x4x128, .f32⟩
  | .hbm, ⟨26, _⟩ => ⟨S4096x4x128, .f32⟩
  | .hbm, ⟨27, _⟩ => ⟨S4096x4x128, .f32⟩
  | .hbm, ⟨28, _⟩ => ⟨S4096x4x128, .f32⟩
  | .hbm, ⟨29, _⟩ => ⟨S4096x4x128, .f32⟩
  | .hbm, ⟨30, _⟩ => ⟨S_, .f32⟩
  | .hbm, ⟨31, _⟩ => ⟨S4096x4x128, .f32⟩
  | .hbm, ⟨32, _⟩ => ⟨S4096x4x128, .f32⟩
  | .hbm, ⟨33, _⟩ => ⟨S_, .f32⟩
  | .hbm, ⟨34, _⟩ => ⟨S4096x4x128, .f32⟩
  | .hbm, ⟨35, _⟩ => ⟨S4096x4x128, .f32⟩
  | .hbm, ⟨36, _⟩ => ⟨S_, .f32⟩
  | .hbm, ⟨37, _⟩ => ⟨S4096x4x128, .f32⟩
  | .hbm, ⟨38, _⟩ => ⟨S4096x4x128, .f32⟩
  | .hbm, ⟨39, _⟩ => ⟨S4096x4x128, .f32⟩
  | .hbm, ⟨40, _⟩ => ⟨S4096x4x128, .f32⟩
  | .hbm, ⟨41, _⟩ => ⟨S4096x4x128, .f32⟩
  | .hbm, ⟨42, _⟩ => ⟨S4096x512, .f32⟩
  | .hbm, ⟨43, _⟩ => ⟨S4096x4x128, .f32⟩
  | .hbm, ⟨44, _⟩ => ⟨S4096x4x128, .f32⟩
  | .hbm, ⟨45, _⟩ => ⟨S4096x4x128, .f32⟩
  | .hbm, ⟨46, _⟩ => ⟨S4096x4x128, .f32⟩
  | .hbm, ⟨47, _⟩ => ⟨S4096x4x128, .f32⟩
  | .hbm, ⟨48, _⟩ => ⟨S4096x4x128, .f32⟩
  | .hbm, ⟨49, _⟩ => ⟨S4096x4x128, .f32⟩
  | .hbm, ⟨50, _⟩ => ⟨S4096x512, .f32⟩
  | .hbm, ⟨51, _⟩ => ⟨S4096x4x128, .f32⟩
  | .hbm, ⟨52, _⟩ => ⟨S_, .f32⟩
  | .hbm, ⟨53, _⟩ => ⟨S128, .f32⟩
  | .hbm, ⟨54, _⟩ => ⟨S1x1x128, .f32⟩
  | .hbm, ⟨55, _⟩ => ⟨S4096x4x128, .f32⟩
  | .hbm, ⟨56, _⟩ => ⟨S4096x4x128, .f32⟩
  | .hbm, ⟨57, _⟩ => ⟨S_, .f32⟩
  | .hbm, ⟨58, _⟩ => ⟨S128, .f32⟩
  | .hbm, ⟨59, _⟩ => ⟨S4096x4x128, .f32⟩
  | .hbm, ⟨60, _⟩ => ⟨S_, .f32⟩
  | .hbm, ⟨61, _⟩ => ⟨S4096x4, .f32⟩
  | .hbm, ⟨62, _⟩ => ⟨S4096x4x1, .f32⟩
  | .hbm, ⟨63, _⟩ => ⟨S4096x4x128, .f32⟩
  | .hbm, ⟨64, _⟩ => ⟨S4096x4x128, .f32⟩
  | .hbm, ⟨65, _⟩ => ⟨S4096x4x1, .f32⟩
  | .hbm, ⟨66, _⟩ => ⟨S_, .f32⟩
  | .hbm, ⟨67, _⟩ => ⟨S4096x4x1, .f32⟩
  | .hbm, ⟨68, _⟩ => ⟨S4096x4x1, .f32⟩
  | .hbm, ⟨69, _⟩ => ⟨S_, .f32⟩
  | .hbm, ⟨70, _⟩ => ⟨S4096x4, .f32⟩
  | .hbm, ⟨71, _⟩ => ⟨S4096x4x128, .f32⟩
  | .hbm, ⟨72, _⟩ => ⟨S4096x4x128, .f32⟩
  | .hbm, ⟨73, _⟩ => ⟨S4096x4x128, .f32⟩
  | .hbm, ⟨74, _⟩ => ⟨S4096x4x128, .f32⟩
  | .hbm, ⟨75, _⟩ => ⟨S4096x4x128, .f32⟩
  | .hbm, ⟨76, _⟩ => ⟨S4096x512, .f32⟩
  | .hbm, ⟨77, _⟩ => ⟨S4096x512, .bf16⟩
  | .hbm, ⟨78, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== SwaFwd.lean ====
abbrev S4096x5120 : Shape := ⟨2, ![4096, 5120]⟩
abbrev S8x128x256 : Shape := ⟨3, ![8, 128, 256]⟩
abbrev S1x64 : Shape := ⟨2, ![1, 64]⟩
abbrev S1x8 : Shape := ⟨2, ![1, 8]⟩
abbrev S2x1x4 : Shape := ⟨3, ![2, 1, 4]⟩
abbrev S4096x512 : Shape := ⟨2, ![4096, 512]⟩
abbrev S128x512 : Shape := ⟨2, ![128, 512]⟩
abbrev S128x128 : Shape := ⟨2, ![128, 128]⟩
abbrev S128x256 : Shape := ⟨2, ![128, 256]⟩
abbrev S128x64 : Shape := ⟨2, ![128, 64]⟩
abbrev S1x128x64 : Shape := ⟨3, ![1, 128, 64]⟩
abbrev S8x128x64 : Shape := ⟨3, ![8, 128, 64]⟩
abbrev S2x128x64 : Shape := ⟨3, ![2, 128, 64]⟩
abbrev S2x256x64 : Shape := ⟨3, ![2, 256, 64]⟩
abbrev S2x256 : Shape := ⟨2, ![2, 256]⟩
abbrev S2x256x1 : Shape := ⟨3, ![2, 256, 1]⟩
abbrev S1x1x64 : Shape := ⟨3, ![1, 1, 64]⟩
abbrev S512x64 : Shape := ⟨2, ![512, 64]⟩
abbrev S1x512x64 : Shape := ⟨3, ![1, 512, 64]⟩
abbrev S2x512x64 : Shape := ⟨3, ![2, 512, 64]⟩
abbrev S2x512 : Shape := ⟨2, ![2, 512]⟩
abbrev S2x512x1 : Shape := ⟨3, ![2, 512, 1]⟩
abbrev S2x512x256 : Shape := ⟨3, ![2, 512, 256]⟩
abbrev S1x128x256 : Shape := ⟨3, ![1, 128, 256]⟩
abbrev S512x256 : Shape := ⟨2, ![512, 256]⟩
abbrev S1x512x256 : Shape := ⟨3, ![1, 512, 256]⟩
abbrev S1x1x4 : Shape := ⟨3, ![1, 1, 4]⟩
abbrev S1x4 : Shape := ⟨2, ![1, 4]⟩
abbrev S1x1 : Shape := ⟨2, ![1, 1]⟩
abbrev S128x1 : Shape := ⟨2, ![128, 1]⟩
abbrev S512x1 : Shape := ⟨2, ![512, 1]⟩
abbrev S1x512x1 : Shape := ⟨3, ![1, 512, 1]⟩

abbrev nBuf : Space → Nat
  | .hbm => 7
  | .vmem => 16
  | .smem => 0
  | _ => 0

abbrev bufTy : (tb : Table) → Fin (tcTables nBuf tb) → BufTy
  | .hbm, ⟨0, _⟩ => ⟨S4096x5120, .f32⟩
  | .hbm, ⟨1, _⟩ => ⟨S8x128x256, .f32⟩
  | .hbm, ⟨2, _⟩ => ⟨S1x64, .f32⟩
  | .hbm, ⟨3, _⟩ => ⟨S1x64, .f32⟩
  | .hbm, ⟨4, _⟩ => ⟨S1x8, .f32⟩
  | .hbm, ⟨5, _⟩ => ⟨S2x1x4, .f32⟩
  | .hbm, ⟨6, _⟩ => ⟨S4096x512, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x256, .f32⟩
  | .local _ .vmem, ⟨11, _⟩ => ⟨S1x64, .f32⟩
  | .local _ .vmem, ⟨12, _⟩ => ⟨S1x64, .f32⟩
  | .local _ .vmem, ⟨13, _⟩ => ⟨S2x1x4, .f32⟩
  | .local _ .vmem, ⟨14, _⟩ => ⟨S128x512, .bf16⟩
  | .local _ .vmem, ⟨15, _⟩ => ⟨S128x512, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c36_i32 : BitVec 32 := 36#32
  let c0_i32_0 : BitVec 32 := 0#32
  ![v1.toNat, c36_i32.toNat]

def cc0_transform_2 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let c0_i32_0 : BitVec 32 := 0#32
  ![v1.toNat, c37_i32.toNat]

def cc0_transform_4 (i : grid0.Coords) : Fin 2 → Nat :=
  let arg0 : BitVec 32 := BitVec.ofNat 32 (i 0).val
  let c37_i32 : BitVec 32 := 37#32
  let c0_i32 : BitVec 32 := 0#32
  ![arg0.toNat, c37_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SwaFwdIdeal.lean ====
variable {F : FTy → Type} [FloatOps F] [Named F]
def κ : String → Option EReal := fun
  | "mask" => some ⊥
  | _ => none
-- ==== SwaFwdRefIdeal.lean ====
abbrev S4096x5120 : Shape := ⟨2, ![4096, 5120]⟩
abbrev S8x128x256 : Shape := ⟨3, ![8, 128, 256]⟩
abbrev S1x64 : Shape := ⟨2, ![1, 64]⟩
abbrev S1x8 : Shape := ⟨2, ![1, 8]⟩
abbrev S4096x512 : Shape := ⟨2, ![4096, 512]⟩
abbrev S4096x128 : Shape := ⟨2, ![4096, 128]⟩
abbrev S64 : Shape := ⟨1, ![64]⟩
abbrev S8 : Shape := ⟨1, ![8]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S4096x2x64 : Shape := ⟨3, ![4096, 2, 64]⟩
abbrev S4096x2 : Shape := ⟨2, ![4096, 2]⟩
abbrev S4096x2x1 : Shape := ⟨3, ![4096, 2, 1]⟩
abbrev S32x128x2x4x64 : Shape := ⟨5, ![32, 128, 2, 4, 64]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S2x4x128x256 : Shape := ⟨4, ![2, 4, 128, 256]⟩
abbrev S32x1x1x128x256 : Shape := ⟨5, ![32, 1, 1, 128, 256]⟩
abbrev S1x2x4x128x256 : Shape := ⟨5, ![1, 2, 4, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩

abbrev nBuf : Space → Nat
  | .hbm => 137
  | .vmem => 0
  | .smem => 0
  | _ => 0

abbrev hbmTy0_0 (i : Nat) : BufTy := match i % 128 with
  | 0 => ⟨S4096x5120, .f32⟩
  | 1 => ⟨S8x128x256, .f32⟩
  | 2 => ⟨S1x64, .f32⟩
  | 3 => ⟨S1x64, .f32⟩
  | 4 => ⟨S1x8, .f32⟩
  | 5 => ⟨S4096x512, .f32⟩
  | 6 => ⟨S4096x128, .f32⟩
  | 7 => ⟨S4096x128, .f32⟩
  | 8 => ⟨S64, .f32⟩
  | 9 => ⟨S64, .f32⟩
  | 10 => ⟨S8, .f32⟩
  | 11 => ⟨S4096x8x64, .f32⟩
  | 12 => ⟨S4096x8x64, .f32⟩
  | 13 => ⟨S_, .f32⟩
  | 14 => ⟨S4096x8, .f32⟩
  | 15 => ⟨S4096x8x1, .f32⟩
  | 16 => ⟨S_, .f32⟩
  | 17 => ⟨S4096x8x1, .f32⟩
  | 18 => ⟨S4096x8x1, .f32⟩
  | 19 => ⟨S_, .f32⟩
  | 20 => ⟨S4096x8x1, .f32⟩
  | 21 => ⟨S4096x8x1, .f32⟩
  | 22 => ⟨S4096x8x1, .f32⟩
  | 23 => ⟨S4096x8x64, .f32⟩
  | 24 => ⟨S4096x8x64, .f32⟩
  | 25 => ⟨S1x1x64, .f32⟩
  | 26 => ⟨S4096x8x64, .f32⟩
  | 27 => ⟨S4096x8x64, .f32⟩
  | 28 => ⟨S4096x2x64, .f32⟩
  | 29 => ⟨S4096x2x64, .f32⟩
  | 30 => ⟨S_, .f32⟩
  | 31 => ⟨S4096x2, .f32⟩
  | 32 => ⟨S4096x2x1, .f32⟩
  | 33 => ⟨S_, .f32⟩
  | 34 => ⟨S4096x2x1, .f32⟩
  | 35 => ⟨S4096x2x1, .f32⟩
  | 36 => ⟨S_, .f32⟩
  | 37 => ⟨S4096x2x1, .f32⟩
  | 38 => ⟨S4096x2x1, .f32⟩
  | 39 => ⟨S4096x2x1, .f32⟩
  | 40 => ⟨S4096x2x64, .f32⟩
  | 41 => ⟨S4096x2x64, .f32⟩
  | 42 => ⟨S1x1x64, .f32⟩
  | 43 => ⟨S4096x2x64, .f32⟩
  | 44 => ⟨S4096x2x64, .f32⟩
  | 45 => ⟨S4096x2x64, .f32⟩
  | 46 => ⟨S32x128x2x4x64, .f32⟩
  | 47 => ⟨S_, .f32⟩
  | 48 => ⟨S128x2x64, .f32⟩
  | 49 => ⟨S4224x2x64, .f32⟩
  | 50 => ⟨S33x128x2x64, .f32⟩
  | 51 => ⟨S32x128x2x64, .f32⟩
  | 52 => ⟨S32x128x2x64, .f32⟩
  | 53 => ⟨S32x256x2x64, .f32⟩
  | 54 => ⟨S_, .f32⟩
  | 55 => ⟨S128x2x64, .f32⟩
  | 56 => ⟨S4224x2x64, .f32⟩
  | 57 => ⟨S33x128x2x64, .f32⟩
  | 58 => ⟨S32x128x2x64, .f32⟩
  | 59 => ⟨S32x128x2x64, .f32⟩
  | 60 => ⟨S32x256x2x64, .f32⟩
  | 61 => ⟨S32x2x256x128x4, .f32⟩
  | 62 => ⟨S32x2x4x128x256, .f32⟩
  | 63 => ⟨S_, .f32⟩
  | 64 => ⟨S32x2x4x128x256, .f32⟩
  | 65 => ⟨S32x2x4x128x256, .f32⟩
  | 66 => ⟨S128, .i32⟩
  | 67 => ⟨S128x1, .i32⟩
  | 68 => ⟨S256, .i32⟩
  | 69 => ⟨S1x256, .i32⟩
  | 70 => ⟨S_, .i32⟩
  | 71 => ⟨S128x1, .i32⟩
  | 72 => ⟨S128x1, .i32⟩
  | 73 => ⟨S128x256, .i32⟩
  | 74 => ⟨S128x256, .i32⟩
  | 75 => ⟨S128x256, .i32⟩
  | 76 => ⟨S_, .i32⟩
  | 77 => ⟨S128x256, .i32⟩
  | 78 => ⟨S128x256, .i1⟩
  | 79 => ⟨S_, .i32⟩
  | 80 => ⟨S128x256, .i32⟩
  | 81 => ⟨S128x256, .i1⟩
  | 82 => ⟨S128x256, .i1⟩
  | 83 => ⟨S32, .i32⟩
  | 84 => ⟨S32x1, .i32⟩
  | 85 => ⟨S_, .i32⟩
  | 86 => ⟨S32x1, .i32⟩
  | 87 => ⟨S32x1, .i32⟩
  | 88 => ⟨S_, .i32⟩
  | 89 => ⟨S32x1, .i32⟩
  | 90 => ⟨S32x1, .i32⟩
  | 91 => ⟨S256, .i32⟩
  | 92 => ⟨S1x256, .i32⟩
  | 93 => ⟨S32x256, .i32⟩
  | 94 => ⟨S32x256, .i32⟩
  | 95 => ⟨S32x256, .i32⟩
  | 96 => ⟨S1x128x256, .i1⟩
  | 97 => ⟨S_, .i32⟩
  | 98 => ⟨S32x256, .i32⟩
  | 99 => ⟨S32x256, .i1⟩
  | 100 => ⟨S32x1x256, .i1⟩
  | 101 => ⟨S32x128x256, .i1⟩
  | 102 => ⟨S32x128x256, .i1⟩
  | 103 => ⟨S32x128x256, .i1⟩
  | 104 => ⟨S2x4x128x256, .f32⟩
  | 105 => ⟨S32x1x1x128x256, .i1⟩
  | 106 => ⟨S1x2x4x128x256, .f32⟩
  | 107 => ⟨S32x2x4x128x256, .f32⟩
  | 108 => ⟨S32x2x4x128x256, .f32⟩
  | 109 => ⟨S_, .f32⟩
  | 110 => ⟨S_, .f32⟩
  | 111 => ⟨S32x2x4x128x256, .i1⟩
  | 112 => ⟨S32x2x4x128x256, .f32⟩
  | 113 => ⟨S32x2x4x128x256, .f32⟩
  | 114 => ⟨S2x4, .f32⟩
  | 115 => ⟨S1x2x4x1x1, .f32⟩
  | 116 => ⟨S_, .f32⟩
  | 117 => ⟨S32x2x4x128, .f32⟩
  | 118 => ⟨S32x2x4x128x1, .f32⟩
  | 119 => ⟨S32x2x4x128x1, .f32⟩
  | 120 => ⟨S32x2x4x128x1, .f32⟩
  | 121 => ⟨S32x2x4x128x256, .f32⟩
  | 122 => ⟨S32x2x4x128x256, .f32⟩
  | 123 => ⟨S32x2x4x128x256, .f32⟩
  | 124 => ⟨S_, .f32⟩
  | 125 => ⟨S32x2x4x128, .f32⟩
  | 126 => ⟨S32x2x4x128x1, .f32⟩
  | 127 => ⟨S32x2x4x128x1, .f32⟩
  | _ => ⟨S4096x5120, .f32⟩

abbrev hbmTy0_1 (i : Nat) : BufTy := match i % 128 with
  | 0 => ⟨S32x2x4x128x1, .f32⟩
  | 1 => ⟨S32x2x4x128x1, .f32⟩
  | 2 => ⟨S32x2x4x128x1, .f32⟩
  | 3 => ⟨S32x2x4x128x256, .f32⟩
  | 4 => ⟨S32x2x4x128x256, .f32⟩
  | 5 => ⟨S32x2x64x4x128, .f32⟩
  | 6 => ⟨S32x128x2x4x64, .f32⟩
  | 7 => ⟨S4096x512, .f32⟩
  | 8 => ⟨S4096x512, .bf16⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_8 : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c_10 : Ref sig .tc := ⟨.hbm, 85, rfl⟩
abbrev main_v68 : Ref sig .tc := ⟨.hbm, 86, rfl⟩
abbrev main_v69 : Ref sig .tc := ⟨.hbm, 87, rfl⟩
abbrev main_c_11 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_c_12 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_14 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_15 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩

abbrev nD : Nat := 1
abbrev τ : Topo := Topo.v7x

variable {F : FTy → Type} [FloatOps F]
-- ==== Proof.MergeBwd.lean ====
/- The gradient of the gated merge of the two branches: the values and the frames. -/
module

public import proofs.«01_k».proof.Defs
public import proofs.«01_k».proof.Proof.Gen.MergeBwd.Frame
public import proofs.«01_k».proof.Proof.Gen.MergeBwdIdeal.Value
public import proofs.«01_k».proof.Proof.Gen.MergeBwdRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.MergeBwdIdeal.RefValue

open Cert.MergeBwdIdeal Cert.MergeBwdIdeal.Gen Cert.MergeBwdIdeal.Value
open Cert.MergeBwdRefIdeal.Read

variable (m : (ℓ : Loc nD τ sig) → Buf (Elt Ideal) ℓ)

/-- The block indices of the windows at grid point `t`. -/
theorem idx : ∀ t : Fin cfg0.N, win0_0.index t = ![(grid0.coords t 0).val, 0] ∧ win0_1.index t = ![0, 0]
    ∧ win0_2.index t = ![(grid0.coords t 0).val, 0] ∧ win0_3.index t = ![(grid0.coords t 0).val, 0]
    ∧ win0_5.index t = ![(grid0.coords t 0).val, 0] ∧ win0_6.index t = ![(grid0.coords t 0).val, 0]
    ∧ win0_7.index t = ![(grid0.coords t 0).val, 0] :=
  (by decide +kernel : ∀ t : Fin grid0.N, _)

/-- Every index of a block is inside the array. -/
theorem row_lt (t : Fin cfg0.N) (r : Fin 512) : (grid0.coords t 0).val * 512 + r.val < 4096 := by
  have h : (grid0.coords t 0).val < 8 := (grid0.coords t 0).isLt
  omega

/-- The staged block of the projection at grid point `t` is its rows `512 t …` of the gate's 2048 columns. -/
theorem X4_apply (c : Dev nD) (t : Fin cfg0.N) (r : Fin 512) (l : Fin 2048) : X0_4 m c t (ix2 r l)
    = m (c.tc.loc main_arg4) (ix2 ⟨(grid0.coords t 0).val * 512 + r.val, row_lt t r⟩ ⟨2048 + l.val, by omega⟩) := by
  have e : win0_4.index t = ![(grid0.coords t 0).val, 1] := (by decide +kernel : ∀ t : Fin grid0.N, win0_4.index t = ![(grid0.coords t 0).val, 1]) t
  unfold X0_4 Pipeline.Window.fill
  rw [dif_pos (moved0_4 t _)]
  blk_point [iblk, V, e]

/-- The gradient of the first branch's projection, as the reference has it. -/
theorem final5 (c : Dev nD) : (dats m 0 c).arrAt 5 cfg0.N
    = val_main_v35 (F := Ideal) (m (c.tc.loc main_arg0)) (m (c.tc.loc main_arg1)) (m (c.tc.loc main_arg4)) := by
  refine (dats m 0 c).arrAt_eq_of_covers 5 _ (by decide +kernel) fun t hf y => ?_
  blk_simp
  rw [after0_5]
  unfold outsAt0
  frame_out
  pointwise [k0_pay7, k0_pay6, k0_pay5, k0_pay4, k0_pay3, k0_pay2, k0_pay1, val_main_v35, val_main_v36, val_main_v37, val_main_v34, val_main_v33, val_main_v32, val_main_v31, val_main_v30, val_main_v29, val_main_v28, val_main_v27, val_main_v26, val_main_v25, val_main_v24,
    val_main_v23, val_main_v19, val_main_v18, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1, val_main_cst_2, val_main_cst_3, X4_apply]
  unfold Ideal.logistic
  blk_point [iblk, V, idx t]

/-- The gradient of the second branch's projection, as the reference has it. -/
theorem final6 (c : Dev nD) : (dats m 0 c).arrAt 6 cfg0.N
    = val_main_v36 (F := Ideal) (m (c.tc.loc main_arg0)) (m (c.tc.loc main_arg1)) (m (c.tc.loc main_arg4)) := by
  refine (dats m 0 c).arrAt_eq_of_covers 6 _ (by decide +kernel) fun t hf y => ?_
  blk_simp
  rw [after0_6]
  unfold outsAt0
  frame_out
  pointwise [k0_pay7, k0_pay6, k0_pay5, k0_pay4, k0_pay3, k0_pay2, k0_pay1, val_main_v35, val_main_v36, val_main_v37, val_main_v34, val_main_v33, val_main_v32, val_main_v31, val_main_v30, val_main_v29, val_main_v28, val_main_v27, val_main_v26, val_main_v25, val_main_v24,
    val_main_v23, val_main_v19, val_main_v18, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1, val_main_cst_2, val_main_cst_3, X4_apply]
  unfold Ideal.logistic
  blk_point [iblk, V, idx t]

set_option maxHeartbeats 2000000 in
/-- The gradient of the gate, as the reference has it. -/
theorem final7 (c : Dev nD) : (dats m 0 c).arrAt 7 cfg0.N
    = val_main_v37 (F := Ideal) (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp
  rw [after0_7]
  unfold outsAt0
  frame_out
  have hj : ((View.whole main_v0_2).slice (win0_7.rect t)).emb y
      = ix2 ⟨(grid0.coords t 0).val * 512 + (y 0).val, row_lt t (y 0)⟩ ⟨(y 1).val, (y 1).isLt⟩ := by
    blk_ext [idx t]
  rw [hj]
  canon_tiles x h
  all_goals pointwise [k0_pay7, k0_pay6, k0_pay5, k0_pay4, k0_pay3, k0_pay2, k0_pay1, val_main_v35, val_main_v36, val_main_v37, val_main_v34, val_main_v33, val_main_v32, val_main_v31, val_main_v30, val_main_v29, val_main_v28, val_main_v27, val_main_v26, val_main_v25, val_main_v24,
    val_main_v23, val_main_v19, val_main_v18, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1, val_main_cst_2, val_main_cst_3, X4_apply]
  all_goals
    have hr := row_lt t (y 0)
    unfold Ideal.logistic
    split_ifs with a b
  all_goals first
    | (exfalso; omega)
    | skip
  · refine Ideal.mul_congr (Eq.trans ?_ (add_zero _).symm) ?_
    · blk_point [iblk, V, idx t]
    · blk_point [iblk, V, idx t]
  · refine Ideal.mul_congr (Eq.trans ?_ (zero_add _).symm) ?_
    · blk_point [iblk, V, idx t]
    · blk_point [iblk, V, idx t]

end Cert.MergeBwdIdeal.RefValue

namespace Cert.Proof.MergeBwdClaims

/-- The kernel's three gradients are the reference's over the reals. -/
theorem algebraic : Cert.algebraic_MergeBwdIdeal_MergeBwdRefIdeal := by
  pair_intro
  · run_from Cert.MergeBwdIdeal.Value.run_blocks m g
  · run_from Cert.MergeBwdRefIdeal.Value.run m' g'
    · rw [Cert.MergeBwdIdeal.RefValue.final5 m c]; rfl
    · rw [Cert.MergeBwdIdeal.RefValue.final6 m c]; rfl
    · rw [Cert.MergeBwdIdeal.RefValue.final7 m c]; rfl

/-- The kernel runs to its end with its arguments kept. -/
theorem frame : Cert.quiescent_MergeBwd := fun m ρ _ => Cert.MergeBwd.Gen.frame m ρ

/-- The idealized kernel runs to its end with its arguments kept. -/
theorem frame_ideal : Cert.quiescent_MergeBwdIdeal := fun m ρ _ => Cert.MergeBwdIdeal.Gen.frame m ρ

/-- The idealized reference runs to its end with its arguments kept. -/
theorem frame_ref : Cert.quiescent_MergeBwdRefIdeal := fun m ρ _ =>
  (θ_run Cert.MergeBwdRefIdeal.defs _ _).mono (fun r h => ⟨fun c => (h c).2.2.2, sem_eq_zero_of_no_sems (by decide) r.2⟩)
    (Cert.MergeBwdRefIdeal.Value.run (F := Ideal) m ρ)

end Cert.Proof.MergeBwdClaims
-- ==== Proof.GwGateUp.lean ====
/- The gradients of the gate and the up projection: the values and the frames. -/
module

public import proofs.«01_k».proof.Defs
public import proofs.«01_k».proof.Proof.Gen.GwGateUp.Frame
public import proofs.«01_k».proof.Proof.Gen.GwGateUpIdeal.Value
public import proofs.«01_k».proof.Proof.Gen.GwGateUpRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.GwGateUpIdeal.RefValue

open Cert.GwGateUpIdeal Cert.GwGateUpIdeal.Gen Cert.GwGateUpIdeal.Value
open Cert.GwGateUpRefIdeal.Read

variable (m : (ℓ : Loc nD τ sig) → Buf (Elt Ideal) ℓ)

/-- The block indices of the windows at grid point `t`. -/
theorem idx : ∀ t : Fin cfg0.N, win0_0.index t = ![(grid0.coords t 0).val, 0, 0]
    ∧ win0_1.index t = ![(grid0.coords t 0).val, 0, 0]
    ∧ win0_2.index t = ![0, (grid0.coords t 1).val]
    ∧ win0_3.index t = ![(grid0.coords t 0).val, 0, (grid0.coords t 1).val]
    ∧ win0_4.index t = ![(grid0.coords t 0).val, 0, (grid0.coords t 1).val] :=
  (by decide +kernel : ∀ t : Fin grid0.N, _)

/-- The gradient of the gate projection is the reference's. -/
theorem final3 (c : Dev nD) : (dats m 0 c).arrAt 3 cfg0.N
    = val_main_v16 (F := Ideal) (m (c.tc.loc main_arg0)) (m (c.tc.loc main_arg2)) := by
  refine (dats m 0 c).arrAt_eq_of_covers 3 _ (by decide +kernel) fun t hf y => ?_
  blk_simp
  rw [after0_3]
  frame_out
  pointwise [k0_pay2, k0_pay1, val_main_v19, val_main_v18, val_main_v17, val_main_v16, val_main_v15, val_main_v14, val_main_v13, val_main_v12, val_main_v11, val_main_v10, val_main_v9, val_main_v8, val_main_v7, val_main_cst, val_main_v6, val_main_v5, val_main_v4, val_main_v3, val_main_v2, val_main_v1, val_main_v0]
  blk_point [iblk, V, idx t]

/-- The gradient of the up projection is the reference's. -/
theorem final4 (c : Dev nD) : (dats m 0 c).arrAt 4 cfg0.N
    = val_main_v19 (F := Ideal) (m (c.tc.loc main_arg1)) (m (c.tc.loc main_arg2)) := by
  refine (dats m 0 c).arrAt_eq_of_covers 4 _ (by decide +kernel) fun t hf y => ?_
  blk_simp
  rw [after0_4]
  frame_out
  pointwise [k0_pay2, k0_pay1, val_main_v19, val_main_v18, val_main_v17, val_main_v16, val_main_v15, val_main_v14, val_main_v13, val_main_v12, val_main_v11, val_main_v10, val_main_v9, val_main_v8, val_main_v7, val_main_cst, val_main_v6, val_main_v5, val_main_v4, val_main_v3, val_main_v2, val_main_v1, val_main_v0]
  blk_point [iblk, V, idx t]

end Cert.GwGateUpIdeal.RefValue

namespace Cert.Proof.GwGateUpClaims

/-- Over the reals the kernel and the reference end with equal results. -/
theorem algebraic : Cert.algebraic_GwGateUpIdeal_GwGateUpRefIdeal := by
  pair_intro
  · run_from Cert.GwGateUpIdeal.Value.run_blocks m g
  · run_from Cert.GwGateUpRefIdeal.Value.run m' g'
    · rw [Cert.GwGateUpIdeal.RefValue.final3 m c]; rfl
    · rw [Cert.GwGateUpIdeal.RefValue.final4 m c]; rfl

/-- The kernel runs to its end and keeps its arguments. -/
theorem frame : Cert.quiescent_GwGateUp := fun m ρ _ => Cert.GwGateUp.Gen.frame m ρ

/-- The idealized kernel runs to its end and keeps its arguments. -/
theorem frame_ideal : Cert.quiescent_GwGateUpIdeal := fun m ρ _ => Cert.GwGateUpIdeal.Gen.frame m ρ

/-- The idealized reference runs to its end and keeps its arguments. -/
theorem frame_ref : Cert.quiescent_GwGateUpRefIdeal := fun m ρ _ =>
  (θ_run Cert.GwGateUpRefIdeal.defs _ _).mono (fun r h => ⟨fun c => (h c).2.2, sem_eq_zero_of_no_sems (by decide) r.2⟩)
    (Cert.GwGateUpRefIdeal.Value.run (F := Ideal) m ρ)

end Cert.Proof.GwGateUpClaims
-- ==== Proof.GwIn.lean ====
/- The gradient of the input projection: the value and the frames. -/
module

public import proofs.«01_k».proof.Defs
public import proofs.«01_k».proof.Proof.Gen.GwIn.Frame
public import proofs.«01_k».proof.Proof.Gen.GwInIdeal.Value
public import proofs.«01_k».proof.Proof.Gen.GwInRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.GwInIdeal.RefValue

open Cert.GwInIdeal Cert.GwInIdeal.Gen Cert.GwInIdeal.Value
open Cert.GwInRefIdeal.Read

variable (m : (ℓ : Loc nD τ sig) → Buf (Elt Ideal) ℓ)

/-- The block indices of the windows at grid point `t`. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The two factors of a sum of products may be exchanged. -/
theorem sum_mul_swap {n : ℕ} {f g f' g' : Fin n → EReal} (h : ∀ k, f k = g' k) (h' : ∀ k, g k = f' k) :
    ∑ k, f k * g k = ∑ k, f' k * g' k :=
  Finset.sum_congr rfl fun k _ => by rw [h k, h' k, mul_comm]

/-- The gradient of the input projection is the reference's. -/
theorem final2 (c : Dev nD) : (dats m 0 c).arrAt 2 cfg0.N
    = val_main_v6 (F := Ideal) (m (c.tc.loc main_arg0)) (m (c.tc.loc main_arg1)) := by
  refine (dats m 0 c).arrAt_eq_of_covers 2 _ (by decide +kernel) fun t hf y => ?_
  blk_simp
  rw [after0_2]
  frame_out
  pointwise [k0_pay1, val_main_v6, val_main_v5, val_main_v4, val_main_v3, val_main_v2, val_main_cst, val_main_v1, val_main_v0]
  refine sum_mul_swap (fun k => ?_) (fun k => ?_)
  · blk_point [iblk, V, idx t]
  · blk_point [iblk, V, idx t]

end Cert.GwInIdeal.RefValue

namespace Cert.Proof.GwInClaims

/-- Over the reals the kernel and the reference end with equal results. -/
theorem algebraic : Cert.algebraic_GwInIdeal_GwInRefIdeal := by
  pair_intro
  · run_from Cert.GwInIdeal.Value.run_blocks m g
  · run_from Cert.GwInRefIdeal.Value.run m' g'
    rw [Cert.GwInIdeal.RefValue.final2 m c]; rfl

/-- The kernel runs to its end and keeps its arguments. -/
theorem frame : Cert.quiescent_GwIn := fun m ρ _ => Cert.GwIn.Gen.frame m ρ

/-- The idealized kernel runs to its end and keeps its arguments. -/
theorem frame_ideal : Cert.quiescent_GwInIdeal := fun m ρ _ => Cert.GwInIdeal.Gen.frame m ρ

/-- The idealized reference runs to its end and keeps its arguments. -/
theorem frame_ref : Cert.quiescent_GwInRefIdeal := fun m ρ _ =>
  (θ_run Cert.GwInRefIdeal.defs _ _).mono (fun r h => ⟨fun c => (h c).2, sem_eq_zero_of_no_sems (by decide) r.2⟩)
    (Cert.GwInRefIdeal.Value.run (F := Ideal) m ρ)

end Cert.Proof.GwInClaims
-- ==== Proof.DBranch.lean ====
/- The gradients of the two branches' outputs: the values and the frames. -/
module

public import proofs.«01_k».proof.Defs
public import proofs.«01_k».proof.Proof.Gen.DBranch.Frame
public import proofs.«01_k».proof.Proof.Gen.DBranchIdeal.Value
public import proofs.«01_k».proof.Proof.Gen.DBranchRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DBranchIdeal.RefValue

open Cert.DBranchIdeal Cert.DBranchIdeal.Gen Cert.DBranchIdeal.Value
open Cert.DBranchRefIdeal.Read

variable (m : (ℓ : Loc nD τ sig) → Buf (Elt Ideal) ℓ)

/-- The block indices of the windows at grid point `t`. -/
theorem idx : ∀ t : Fin cfg0.N, win0_0.index t = ![(grid0.coords t 0).val, 0]
    ∧ win0_1.index t = ![(grid0.coords t 0).val, 0]
    ∧ win0_2.index t = ![0, 0, 0]
    ∧ win0_3.index t = ![0, 0, 0]
    ∧ win0_4.index t = ![(grid0.coords t 0).val, 0]
    ∧ win0_5.index t = ![(grid0.coords t 0).val, 0] :=
  (by decide +kernel : ∀ t : Fin grid0.N, _)

/-- A sum over 1024 columns, by four blocks of 256. -/
theorem sum_four (f : Fin 1024 → EReal) : ∑ x, f x
    = ∑ x : Fin 256, f ⟨x.val, by omega⟩ + ∑ x : Fin 256, f ⟨256 + x.val, by omega⟩
      + ∑ x : Fin 256, f ⟨512 + x.val, by omega⟩ + ∑ x : Fin 256, f ⟨768 + x.val, by omega⟩ := by
  have h : ∀ f : Fin (256 + 256 + 256 + 256) → EReal, ∑ x, f x
      = ∑ x : Fin 256, f ⟨x.val, by omega⟩ + ∑ x : Fin 256, f ⟨256 + x.val, by omega⟩
        + ∑ x : Fin 256, f ⟨512 + x.val, by omega⟩ + ∑ x : Fin 256, f ⟨768 + x.val, by omega⟩ := fun f => by
    rw [Fin.sum_univ_add, Fin.sum_univ_add, Fin.sum_univ_add]; rfl
  exact h f

/-- The gradient of the first branch's output is the reference's. -/
theorem final4 (c : Dev nD) : (dats m 0 c).arrAt 4 cfg0.N
    = val_main_v12 (F := Ideal) (m (c.tc.loc main_arg0)) (m (c.tc.loc main_arg2)) := by
  refine (dats m 0 c).arrAt_eq_of_covers 4 _ (by decide +kernel) fun t hf y => ?_
  blk_simp
  rw [after0_4]
  frame_out
  pointwise [k0_pay4, k0_pay3, k0_pay2, k0_pay1, val_main_v12, val_main_v11, val_main_v10, val_main_v9, val_main_v8, val_main_cst, val_main_v7, val_main_v6, val_main_v5, val_main_v4, val_main_v3, val_main_v2, val_main_v1, val_main_v0]
  rw [sum_four]
  blk_point [iblk, V, idx t]

/-- The gradient of the second branch's output is the reference's. -/
theorem final5 (c : Dev nD) : (dats m 0 c).arrAt 5 cfg0.N
    = val_main_v11 (F := Ideal) (m (c.tc.loc main_arg1)) (m (c.tc.loc main_arg3)) := by
  refine (dats m 0 c).arrAt_eq_of_covers 5 _ (by decide +kernel) fun t hf y => ?_
  blk_simp
  rw [after0_5]
  frame_out
  pointwise [k0_pay4, k0_pay3, k0_pay2, k0_pay1, val_main_v12, val_main_v11, val_main_v10, val_main_v9, val_main_v8, val_main_cst, val_main_v7, val_main_v6, val_main_v5, val_main_v4, val_main_v3, val_main_v2, val_main_v1, val_main_v0]
  rw [sum_four]
  blk_point [iblk, V, idx t]

end Cert.DBranchIdeal.RefValue

namespace Cert.Proof.DBranchClaims

/-- Over the reals the kernel and the reference end with equal results. -/
theorem algebraic : Cert.algebraic_DBranchIdeal_DBranchRefIdeal := by
  pair_intro
  · run_from Cert.DBranchIdeal.Value.run_blocks m g
  · run_from Cert.DBranchRefIdeal.Value.run m' g'
    · rw [Cert.DBranchIdeal.RefValue.final4 m c]; rfl
    · rw [Cert.DBranchIdeal.RefValue.final5 m c]; rfl

/-- The kernel runs to its end and keeps its arguments. -/
theorem frame : Cert.quiescent_DBranch := fun m ρ _ => Cert.DBranch.Gen.frame m ρ

/-- The idealized kernel runs to its end and keeps its arguments. -/
theorem frame_ideal : Cert.quiescent_DBranchIdeal := fun m ρ _ => Cert.DBranchIdeal.Gen.frame m ρ

/-- The idealized reference runs to its end and keeps its arguments. -/
theorem frame_ref : Cert.quiescent_DBranchRefIdeal := fun m ρ _ =>
  (θ_run Cert.DBranchRefIdeal.defs _ _).mono (fun r h => ⟨fun c => (h c).2.2, sem_eq_zero_of_no_sems (by decide) r.2⟩)
    (Cert.DBranchRefIdeal.Value.run (F := Ideal) m ρ)

end Cert.Proof.DBranchClaims
-- ==== Proof.GwBranch.lean ====
/- The gradients of the two branch projections: the values and the frames. -/
module

public import proofs.«01_k».proof.Defs
public import proofs.«01_k».proof.Proof.Gen.GwBranch.Frame
public import proofs.«01_k».proof.Proof.Gen.GwBranchIdeal.Value
public import proofs.«01_k».proof.Proof.Gen.GwBranchRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.GwBranchIdeal.RefValue

open Cert.GwBranchIdeal Cert.GwBranchIdeal.Gen Cert.GwBranchIdeal.Value
open Cert.GwBranchRefIdeal.Read

variable (m : (ℓ : Loc nD τ sig) → Buf (Elt Ideal) ℓ)

/-- The block indices of the windows at grid point `t`. -/
theorem idx : ∀ t : Fin cfg0.N, win0_0.index t = ![0, 0]
    ∧ win0_1.index t = ![0, 0]
    ∧ win0_2.index t = ![0, (grid0.coords t 0).val]
    ∧ win0_3.index t = ![0, (grid0.coords t 0).val]
    ∧ win0_4.index t = ![(grid0.coords t 0).val, 0, 0]
    ∧ win0_5.index t = ![(grid0.coords t 0).val, 0, 0] :=
  (by decide +kernel : ∀ t : Fin grid0.N, _)

/-- The two factors of a sum of products may be exchanged. -/
theorem sum_mul_swap {n : ℕ} {f g f' g' : Fin n → EReal} (h : ∀ k, f k = g' k) (h' : ∀ k, g k = f' k) :
    ∑ k, f k * g k = ∑ k, f' k * g' k :=
  Finset.sum_congr rfl fun k _ => by rw [h k, h' k, mul_comm]

/-- The gradient of the first branch's projection is the reference's. -/
theorem final4 (c : Dev nD) : (dats m 0 c).arrAt 4 cfg0.N
    = val_main_v13 (F := Ideal) (m (c.tc.loc main_arg0)) (m (c.tc.loc main_arg2)) := by
  refine (dats m 0 c).arrAt_eq_of_covers 4 _ (by decide +kernel) fun t hf y => ?_
  blk_simp
  rw [after0_4]
  frame_out
  pointwise [k0_pay2, k0_pay1, val_main_v16, val_main_v15, val_main_v14, val_main_v13, val_main_v12, val_main_v11, val_main_v10, val_main_v9, val_main_v8, val_main_v7, val_main_v6, val_main_v5, val_main_v4, val_main_cst, val_main_v3, val_main_v2, val_main_v1, val_main_v0]
  refine sum_mul_swap (fun k => ?_) (fun k => ?_)
  · blk_point [iblk, V, idx t]
  · blk_point [iblk, V, idx t]

/-- The gradient of the second branch's projection is the reference's. -/
theorem final5 (c : Dev nD) : (dats m 0 c).arrAt 5 cfg0.N
    = val_main_v16 (F := Ideal) (m (c.tc.loc main_arg1)) (m (c.tc.loc main_arg3)) := by
  refine (dats m 0 c).arrAt_eq_of_covers 5 _ (by decide +kernel) fun t hf y => ?_
  blk_simp
  rw [after0_5]
  frame_out
  pointwise [k0_pay2, k0_pay1, val_main_v16, val_main_v15, val_main_v14, val_main_v13, val_main_v12, val_main_v11, val_main_v10, val_main_v9, val_main_v8, val_main_v7, val_main_v6, val_main_v5, val_main_v4, val_main_cst, val_main_v3, val_main_v2, val_main_v1, val_main_v0]
  refine sum_mul_swap (fun k => ?_) (fun k => ?_)
  · blk_point [iblk, V, idx t]
  · blk_point [iblk, V, idx t]

end Cert.GwBranchIdeal.RefValue

namespace Cert.Proof.GwBranchClaims

/-- Over the reals the kernel and the reference end with equal results. -/
theorem algebraic : Cert.algebraic_GwBranchIdeal_GwBranchRefIdeal := by
  pair_intro
  · run_from Cert.GwBranchIdeal.Value.run_blocks m g
  · run_from Cert.GwBranchRefIdeal.Value.run m' g'
    · rw [Cert.GwBranchIdeal.RefValue.final4 m c]; rfl
    · rw [Cert.GwBranchIdeal.RefValue.final5 m c]; rfl

/-- The kernel runs to its end and keeps its arguments. -/
theorem frame : Cert.quiescent_GwBranch := fun m ρ _ => Cert.GwBranch.Gen.frame m ρ

/-- The idealized kernel runs to its end and keeps its arguments. -/
theorem frame_ideal : Cert.quiescent_GwBranchIdeal := fun m ρ _ => Cert.GwBranchIdeal.Gen.frame m ρ

/-- The idealized reference runs to its end and keeps its arguments. -/
theorem frame_ref : Cert.quiescent_GwBranchRefIdeal := fun m ρ _ =>
  (θ_run Cert.GwBranchRefIdeal.defs _ _).mono (fun r h => ⟨fun c => (h c).2.2, sem_eq_zero_of_no_sems (by decide) r.2⟩)
    (Cert.GwBranchRefIdeal.Value.run (F := Ideal) m ρ)

end Cert.Proof.GwBranchClaims
-- ==== Proof.DhRms.lean ====
/- The gradient at the input, through the input projection and its norm: the values and the frames. -/
module

public import proofs.«01_k».proof.Defs
public import proofs.«01_k».proof.Proof.Gen.DhRms.Frame
public import proofs.«01_k».proof.Proof.Gen.DhRmsIdeal.Value
public import proofs.«01_k».proof.Proof.Gen.DhRmsRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DhRmsIdeal.RefValue

open Cert.DhRmsIdeal Cert.DhRmsIdeal.Gen Cert.DhRmsIdeal.Value
open Cert.DhRmsRefIdeal.Read

variable (m : (ℓ : Loc nD τ sig) → Buf (Elt Ideal) ℓ)

/-- The block indices of the windows at grid point `t`. -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0]
    ∧ win0_4.index t = ![0, 0]
    ∧ win0_5.index t = ![(grid0.coords t 0).val, 0]
    ∧ win0_6.index t = ![0, 0] :=
  (by decide +kernel : ∀ t : Fin grid0.N, _)

/-- Four terms met in another order. -/
theorem sum_four_swap {a b c d a' b' c' d' : EReal} (ha : a = a') (hb : b = b') (hc : c = c') (hd : d = d') :
    a + b + c + d = d' + a' + b' + c' := by
  subst ha hb hc hd
  rw [add_comm (a + b + c) d]; simp only [add_assoc]

/-- A sum over one place. -/
theorem sum_one {M : Type*} {_ : AddCommMonoid M} {f : Fin 1 → M} {a : M} (h : a = f 0) : a = ∑ i, f i :=
  h.trans (Fin.sum_univ_one f).symm

/-- The grid has one axis, of eight points. -/
theorem coord0 : ∀ t : Fin cfg0.N, (grid0.coords t 0).val = t.val :=
  (by decide +kernel : ∀ t : Fin grid0.N, _)

/-- The gain's accumulator takes one block's sum. -/
theorem add_gain (v acc : Vec Ideal S1x1024 .f32) (j : S1x1024.Idx) :
    k0_pay2 (F := Ideal) v acc j = (acc j + v j : EReal) := by
  pointwise [k0_pay2]

/-- The gain's accumulator begins at zero. -/
theorem zero_gain (j : S1x1024.Idx) : k0_pay3 (F := Ideal) j = (0 : EReal) := by
  pointwise [k0_pay3]

/-- The gradient at the input is the reference's. -/
theorem final5 (c : Dev nD) : (dats m 0 c).arrAt 5 cfg0.N
    = val_main_v41 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp
  rw [after0_5]
  by_cases h : t.val % 8 = 0
  · rw [outsAt0_A m c t h]
    frame_out
    pointwise [k0_pay10, k0_pay9, k0_pay8, k0_pay7, k0_pay6, k0_pay5, k0_pay4, k0_pay3, k0_pay2, k0_pay1, val_main_v42, val_main_v41, val_main_v40, val_main_v39, val_main_v38, val_main_v37, val_main_v36, val_main_cst_7, val_main_v35, val_main_v34, val_main_cst_6, val_main_v33, val_main_v32, val_main_v31, val_main_v30, val_main_v29, val_main_v28, val_main_cst_5, val_main_v27, val_main_v26, val_main_cst_4, val_main_v25, val_main_v24, val_main_v23, val_main_v22, val_main_cst_3, val_main_v21, val_main_v20, val_main_v19, val_main_v18, val_main_v17, val_main_v16, val_main_v15, val_main_v14, val_main_v13, val_main_v12, val_main_cst_2, val_main_v11, val_main_v10, val_main_v9, val_main_v8, val_main_cst_1, val_main_v7, val_main_v6, val_main_cst_0, val_main_v5, val_main_v4, val_main_cst, val_main_v3, val_main_v2, val_main_v1, val_main_v0]
    refine sum_four_swap ?_ ?_ ?_ ?_
    all_goals blk_point [iblk, V, idx t]
  · rw [outsAt0_B m c t h]
    frame_out
    pointwise [k0_pay10, k0_pay9, k0_pay8, k0_pay7, k0_pay6, k0_pay5, k0_pay4, k0_pay3, k0_pay2, k0_pay1, val_main_v42, val_main_v41, val_main_v40, val_main_v39, val_main_v38, val_main_v37, val_main_v36, val_main_cst_7, val_main_v35, val_main_v34, val_main_cst_6, val_main_v33, val_main_v32, val_main_v31, val_main_v30, val_main_v29, val_main_v28, val_main_cst_5, val_main_v27, val_main_v26, val_main_cst_4, val_main_v25, val_main_v24, val_main_v23, val_main_v22, val_main_cst_3, val_main_v21, val_main_v20, val_main_v19, val_main_v18, val_main_v17, val_main_v16, val_main_v15, val_main_v14, val_main_v13, val_main_v12, val_main_cst_2, val_main_v11, val_main_v10, val_main_v9, val_main_v8, val_main_cst_1, val_main_v7, val_main_v6, val_main_cst_0, val_main_v5, val_main_v4, val_main_cst, val_main_v3, val_main_v2, val_main_v1, val_main_v0]
    refine sum_four_swap ?_ ?_ ?_ ?_
    all_goals blk_point [iblk, V, idx t]

/-- The gradient of the gain is the reference's. -/
theorem final6 (c : Dev nD) : (dats m 0 c).arrAt 6 cfg0.N
    = val_main_v42 (F := Ideal) (m (c.tc.loc main_arg0)) (m (c.tc.loc main_arg1)) (m (c.tc.loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => (0 : EReal)) _
    (fun t h j => by rw [outsAt0_A m c t h]; frame_out; rw [add_gain, zero_gain])
    (fun t h j => by rw [outsAt0_B m c t h]; frame_out; rw [add_gain]) (le_of_eq N_0) t0_7 rfl j, zero_add]
  pointwise [k0_pay10, k0_pay9, k0_pay8, k0_pay7, k0_pay6, k0_pay5, k0_pay4, k0_pay3, k0_pay2, k0_pay1, val_main_v42, val_main_v41, val_main_v40, val_main_v39, val_main_v38, val_main_v37, val_main_v36, val_main_cst_7, val_main_v35, val_main_v34, val_main_cst_6, val_main_v33, val_main_v32, val_main_v31, val_main_v30, val_main_v29, val_main_v28, val_main_cst_5, val_main_v27, val_main_v26, val_main_cst_4, val_main_v25, val_main_v24, val_main_v23, val_main_v22, val_main_cst_3, val_main_v21, val_main_v20, val_main_v19, val_main_v18, val_main_v17, val_main_v16, val_main_v15, val_main_v14, val_main_v13, val_main_v12, val_main_cst_2, val_main_v11, val_main_v10, val_main_v9, val_main_v8, val_main_cst_1, val_main_v7, val_main_v6, val_main_cst_0, val_main_v5, val_main_v4, val_main_cst, val_main_v3, val_main_v2, val_main_v1, val_main_v0]
  refine sum_one (Fin.sum_mul_add_congr fun t k hl => ?_)
  blk_point [iblk, V, idx t, coord0 t]

end Cert.DhRmsIdeal.RefValue

namespace Cert.Proof.DhRmsClaims

/-- Over the reals the kernel and the reference end with equal results. -/
theorem algebraic : Cert.algebraic_DhRmsIdeal_DhRmsRefIdeal := by
  pair_intro
  · run_from Cert.DhRmsIdeal.Value.run_blocks m g
  · run_from Cert.DhRmsRefIdeal.Value.run m' g'
    · rw [Cert.DhRmsIdeal.RefValue.final5 m c, Cert.DhRmsRefIdeal.Read.val_main_v41_eq (F := Ideal) m' c]; simp only [hagree c]
    · rw [Cert.DhRmsIdeal.RefValue.final6 m c]; rfl

/-- The kernel runs to its end and keeps its arguments. -/
theorem frame : Cert.quiescent_DhRms := fun m ρ _ => Cert.DhRms.Gen.frame m ρ

/-- The idealized kernel runs to its end and keeps its arguments. -/
theorem frame_ideal : Cert.quiescent_DhRmsIdeal := fun m ρ _ => Cert.DhRmsIdeal.Gen.frame m ρ

/-- The idealized reference runs to its end and keeps its arguments. -/
theorem frame_ref : Cert.quiescent_DhRmsRefIdeal := fun m ρ _ =>
  (θ_run Cert.DhRmsRefIdeal.defs _ _).mono (fun r h => ⟨fun c => (h c).2.2, sem_eq_zero_of_no_sems (by decide) r.2⟩)
    (Cert.DhRmsRefIdeal.Value.run (F := Ideal) m ρ)

end Cert.Proof.DhRmsClaims
-- ==== Proof.FfnDh2.lean ====
/- The gradient at the channel mixer's input, through the two projections and the norm: the values and the frames. -/
module

public import proofs.«01_k».proof.Defs
public import proofs.«01_k».proof.Proof.Gen.FfnDh2.Frame
public import proofs.«01_k».proof.Proof.Gen.FfnDh2Ideal.Value
public import proofs.«01_k».proof.Proof.Gen.FfnDh2RefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.FfnDh2Ideal.RefValue

open Cert.FfnDh2Ideal Cert.FfnDh2Ideal.Gen Cert.FfnDh2Ideal.Value
open Cert.FfnDh2RefIdeal.Read

variable (m : (ℓ : Loc nD τ sig) → Buf (Elt Ideal) ℓ)

/-- The block indices of the windows at grid point `t`. -/
theorem idx : ∀ t : Fin cfg0.N, win0_0.index t = ![0, (grid0.coords t 0).val, 0]
    ∧ win0_1.index t = ![0, (grid0.coords t 0).val, 0]
    ∧ win0_2.index t = ![0, 0, 0]
    ∧ win0_3.index t = ![0, 0, 0]
    ∧ win0_4.index t = ![(grid0.coords t 0).val, 0]
    ∧ win0_5.index t = ![(grid0.coords t 0).val, 0]
    ∧ win0_6.index t = ![0, 0]
    ∧ win0_7.index t = ![(grid0.coords t 0).val, 0]
    ∧ win0_8.index t = ![(grid0.coords t 0).val, 0]
    ∧ win0_9.index t = ![0, 0] :=
  (by decide +kernel : ∀ t : Fin grid0.N, _)

/-- A sum over the 2816 columns of the channel mixer, by four blocks of 704. -/
theorem sum_blocks {f : Fin 2816 → EReal} : ∑ x, f x
    = ∑ x : Fin 704, f ⟨x.val, by omega⟩ + ∑ x : Fin 704, f ⟨704 + x.val, by omega⟩
      + ∑ x : Fin 704, f ⟨1408 + x.val, by omega⟩ + ∑ x : Fin 704, f ⟨2112 + x.val, by omega⟩ := by
  have h : ∀ f : Fin (704 + 704 + 704 + 704) → EReal, ∑ x, f x
      = ∑ x : Fin 704, f ⟨x.val, by omega⟩ + ∑ x : Fin 704, f ⟨704 + x.val, by omega⟩
        + ∑ x : Fin 704, f ⟨1408 + x.val, by omega⟩ + ∑ x : Fin 704, f ⟨2112 + x.val, by omega⟩ := fun f => by
    rw [Fin.sum_univ_add, Fin.sum_univ_add, Fin.sum_univ_add]; rfl
  exact h f

/-- Two sums of four blocks, added block by block. -/
theorem sum_interleave {f g : Fin 2816 → EReal} {a₀ a₁ a₂ a₃ b₀ b₁ b₂ b₃ : EReal}
    (ha₀ : a₀ = ∑ x : Fin 704, f ⟨x.val, by omega⟩) (ha₁ : a₁ = ∑ x : Fin 704, f ⟨704 + x.val, by omega⟩)
    (ha₂ : a₂ = ∑ x : Fin 704, f ⟨1408 + x.val, by omega⟩) (ha₃ : a₃ = ∑ x : Fin 704, f ⟨2112 + x.val, by omega⟩)
    (hb₀ : b₀ = ∑ x : Fin 704, g ⟨x.val, by omega⟩) (hb₁ : b₁ = ∑ x : Fin 704, g ⟨704 + x.val, by omega⟩)
    (hb₂ : b₂ = ∑ x : Fin 704, g ⟨1408 + x.val, by omega⟩) (hb₃ : b₃ = ∑ x : Fin 704, g ⟨2112 + x.val, by omega⟩) :
    a₀ + b₀ + a₁ + b₁ + a₂ + b₂ + a₃ + b₃ = ∑ x, g x + ∑ x, f x := by
  rw [sum_blocks (f := f), sum_blocks (f := g), ← ha₀, ← ha₁, ← ha₂, ← ha₃, ← hb₀, ← hb₁, ← hb₂, ← hb₃]
  simp only [add_assoc, add_left_comm, add_comm]

/-- Four terms met in another order. -/
theorem sum_four_swap {a b c d a' b' c' d' : EReal} (ha : a = a') (hb : b = b') (hc : c = c') (hd : d = d') :
    a + b + c + d = d' + a' + b' + c' := by
  subst ha hb hc hd
  rw [add_comm (a + b + c) d]; simp only [add_assoc]

/-- A sum over one place. -/
theorem sum_one {M : Type*} {_ : AddCommMonoid M} {f : Fin 1 → M} {a : M} (h : a = f 0) : a = ∑ i, f i :=
  h.trans (Fin.sum_univ_one f).symm

/-- The grid has one axis, of eight points. -/
theorem coord0 : ∀ t : Fin cfg0.N, (grid0.coords t 0).val = t.val :=
  (by decide +kernel : ∀ t : Fin grid0.N, _)

/-- The gradient at the normed input, of the rows at point `t`: the sum of the two products, block by block. -/
def rowsGrad (c : Dev nD) (t : Fin cfg0.N) : Vec Ideal S512x1024 .f32 :=
  k0_pay4 (k0_pay2 (View.ld (iblk m c 0 t) (Rect.unit ![0, 0, 0] ![1, 512, 704] inb_S4x512x704_S1x512x704_0_0_0)) (View.ld (iblk m c 2 t) (Rect.unit ![0, 0, 0] ![1, 704, 1024] inb_S4x704x1024_S1x704x1024_0_0_0)) (View.ld (iblk m c 1 t) (Rect.unit ![0, 0, 0] ![1, 512, 704] inb_S4x512x704_S1x512x704_0_0_0)) (View.ld (iblk m c 3 t) (Rect.unit ![0, 0, 0] ![1, 704, 1024] inb_S4x704x1024_S1x704x1024_0_0_0)) (View.ld (iblk m c 0 t) (Rect.unit ![1, 0, 0] ![1, 512, 704] inb_S4x512x704_S1x512x704_1_0_0)) (View.ld (iblk m c 2 t) (Rect.unit ![1, 0, 0] ![1, 704, 1024] inb_S4x704x1024_S1x704x1024_1_0_0)))
    (k0_pay3 (View.ld (iblk m c 1 t) (Rect.unit ![1, 0, 0] ![1, 512, 704] inb_S4x512x704_S1x512x704_1_0_0)) (View.ld (iblk m c 3 t) (Rect.unit ![1, 0, 0] ![1, 704, 1024] inb_S4x704x1024_S1x704x1024_1_0_0)))
    (View.ld (iblk m c 0 t) (Rect.unit ![2, 0, 0] ![1, 512, 704] inb_S4x512x704_S1x512x704_2_0_0)) (View.ld (iblk m c 2 t) (Rect.unit ![2, 0, 0] ![1, 704, 1024] inb_S4x704x1024_S1x704x1024_2_0_0)) (View.ld (iblk m c 1 t) (Rect.unit ![2, 0, 0] ![1, 512, 704] inb_S4x512x704_S1x512x704_2_0_0)) (View.ld (iblk m c 3 t) (Rect.unit ![2, 0, 0] ![1, 704, 1024] inb_S4x704x1024_S1x704x1024_2_0_0))
    (View.ld (iblk m c 0 t) (Rect.unit ![3, 0, 0] ![1, 512, 704] inb_S4x512x704_S1x512x704_3_0_0)) (View.ld (iblk m c 2 t) (Rect.unit ![3, 0, 0] ![1, 704, 1024] inb_S4x704x1024_S1x704x1024_3_0_0)) (View.ld (iblk m c 1 t) (Rect.unit ![3, 0, 0] ![1, 512, 704] inb_S4x512x704_S1x512x704_3_0_0)) (View.ld (iblk m c 3 t) (Rect.unit ![3, 0, 0] ![1, 704, 1024] inb_S4x704x1024_S1x704x1024_3_0_0))

/-- The whole array's row of a point's row. -/
theorem row_lt (t : Fin cfg0.N) (i : Fin 512) : (grid0.coords t 0).val * 512 + i.val < 4096 := by
  have h := coord0 t
  have h8 := Nat.lt_of_lt_of_eq t.isLt N_0
  omega

/-- The gradient at the normed input is the reference's: there each product is one sum over all 2816 columns. -/
theorem rowsGrad_apply (c : Dev nD) (t : Fin cfg0.N) (i : Fin 512) (j : Fin 1024) : rowsGrad m c t (ix2 i j)
    = val_main_v33 (F := Ideal) (m (c.tc.loc main_arg0)) (m (c.tc.loc main_arg1)) (m (c.tc.loc main_arg2)) (m (c.tc.loc main_arg3))
        (ix2 ⟨(grid0.coords t 0).val * 512 + i.val, row_lt t i⟩ j) := by
  unfold rowsGrad
  pointwise [k0_pay4, k0_pay3, k0_pay2, val_main_v33, val_main_v32, val_main_v31, val_main_v11, val_main_v10, val_main_v9, val_main_v8, val_main_v7, val_main_v6, val_main_v5, val_main_v4, val_main_v3, val_main_v2, val_main_v1, val_main_v0]
  refine sum_interleave ?_ ?_ ?_ ?_ ?_ ?_ ?_ ?_
  all_goals blk_point [iblk, V, idx t]

/-- The gain's accumulator takes one block's sum. -/
theorem add_gain (v w q : Vec Ideal S512x1024 .f32) (acc : Vec Ideal S1x1024 .f32) (j : S1x1024.Idx) :
    k0_pay10 (F := Ideal) v w q acc j = (acc j + k0_pay10 (F := Ideal) v w q (k0_pay1 (F := Ideal)) j : EReal) := by
  pointwise [k0_pay10, k0_pay1]

/-- The gain's accumulator begins at zero. -/
theorem zero_gain (v w q : Vec Ideal S512x1024 .f32) (j : S1x1024.Idx) :
    k0_pay10 (F := Ideal) v w q (k0_pay1 (F := Ideal)) j = (0 + k0_pay10 (F := Ideal) v w q (k0_pay1 (F := Ideal)) j : EReal) := (zero_add _).symm

/-- The gradient at one entry of a point's block. -/
theorem block7 (c : Dev nD) (t : Fin cfg0.N) (i : Fin 512) (j : Fin 1024) :
    k0_pay8 (F := Ideal) (rowsGrad m c t) (iblk m c 4 t) (iblk m c 6 t) (k0_pay5 (iblk m c 4 t)) (iblk m c 5 t) (ix2 i j)
    = val_main_v54 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix2 ⟨(grid0.coords t 0).val * 512 + i.val, row_lt t i⟩ j) := by
  pointwise [k0_pay10, k0_pay9, k0_pay8, k0_pay7, k0_pay6, k0_pay5, k0_pay1, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst, val_main_cst_0, val_main_cst_1, val_main_cst_2, val_main_cst_3, val_main_cst_4, val_main_cst_5, val_main_cst_6, val_main_cst_7]
  simp only [rowsGrad_apply]
  refine sum_four_swap ?_ ?_ ?_ ?_
  all_goals blk_point [iblk, V, idx t]

/-- Its rounded copy at one entry of a point's block. -/
theorem block8 (c : Dev nD) (t : Fin cfg0.N) (i : Fin 512) (j : Fin 1024) :
    k0_pay9 (F := Ideal) (rowsGrad m c t) (iblk m c 4 t) (iblk m c 6 t) (k0_pay5 (iblk m c 4 t)) (iblk m c 5 t) (ix2 i j)
    = val_main_v55 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix2 ⟨(grid0.coords t 0).val * 512 + i.val, row_lt t i⟩ j) := by
  pointwise [k0_pay10, k0_pay9, k0_pay8, k0_pay7, k0_pay6, k0_pay5, k0_pay1, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst, val_main_cst_0, val_main_cst_1, val_main_cst_2, val_main_cst_3, val_main_cst_4, val_main_cst_5, val_main_cst_6, val_main_cst_7]
  simp only [rowsGrad_apply]
  refine sum_four_swap ?_ ?_ ?_ ?_
  all_goals blk_point [iblk, V, idx t]

/-- The gain's gradient at one entry: the sum over the points. -/
theorem gain_all (c : Dev nD) (i : Fin 1) (j : Fin 1024) :
    ∑ p : Fin cfg0.N, k0_pay10 (F := Ideal) (rowsGrad m c p) (iblk m c 4 p) (k0_pay5 (iblk m c 4 p)) (k0_pay1 (F := Ideal)) (ix2 i j)
    = val_main_v56 (F := Ideal) (m (c.tc.loc main_arg0)) (m (c.tc.loc main_arg1)) (m (c.tc.loc main_arg2)) (m (c.tc.loc main_arg3)) (m (c.tc.loc main_arg4)) (ix2 i j) := by
  pointwise [k0_pay10, k0_pay9, k0_pay8, k0_pay7, k0_pay6, k0_pay5, k0_pay1, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst, val_main_cst_0, val_main_cst_1, val_main_cst_2, val_main_cst_3, val_main_cst_4, val_main_cst_5, val_main_cst_6, val_main_cst_7]
  simp only [rowsGrad_apply, zero_add]
  refine sum_one (Fin.sum_mul_add_congr fun t k hl => ?_)
  blk_point [iblk, V, idx t, coord0 t]

/-- The gradient at the residual stream is the reference's. -/
theorem final7 (c : Dev nD) : (dats m 0 c).arrAt 7 cfg0.N
    = val_main_v54 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after0_7]
  have hy : y = ix2 (y 0) (y 1) := by blk_ext []
  have hj : ((View.whole main_v0_0).slice (win0_7.rect t)).emb y
      = ix2 ⟨(grid0.coords t 0).val * 512 + (y 0).val, row_lt t (y 0)⟩ (y 1) := by blk_ext [idx t]
  by_cases h : t.val % 8 = 0
  · rw [outsAt0_A m c t h]
    frame_out
    rw [hj, hy]
    exact block7 m c t (y 0) (y 1)
  · rw [outsAt0_B m c t h]
    frame_out
    rw [hj, hy]
    exact block7 m c t (y 0) (y 1)

/-- Its rounded copy is the reference's. -/
theorem final8 (c : Dev nD) : (dats m 0 c).arrAt 8 cfg0.N
    = val_main_v55 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after0_8]
  have hy : y = ix2 (y 0) (y 1) := by blk_ext []
  have hj : ((View.whole main_v0_1).slice (win0_8.rect t)).emb y
      = ix2 ⟨(grid0.coords t 0).val * 512 + (y 0).val, row_lt t (y 0)⟩ (y 1) := by blk_ext [idx t]
  by_cases h : t.val % 8 = 0
  · rw [outsAt0_A m c t h]
    frame_out
    rw [hj, hy]
    exact block8 m c t (y 0) (y 1)
  · rw [outsAt0_B m c t h]
    frame_out
    rw [hj, hy]
    exact block8 m c t (y 0) (y 1)

/-- The gradient of the gain is the reference's. -/
theorem final9 (c : Dev nD) : (dats m 0 c).arrAt 9 cfg0.N
    = val_main_v56 (F := Ideal) (m (c.tc.loc main_arg0)) (m (c.tc.loc main_arg1)) (m (c.tc.loc main_arg2)) (m (c.tc.loc main_arg3)) (m (c.tc.loc main_arg4)) := by
  refine (dats m 0 c).arrAt_eq_of_after_last 9 t0_7 (by decide +kernel) _ fun j => ?_
  blk_simp
  rw [after0_9, Pipeline.eq_sum_fin_of_reset_step_apply_last (fun n h => (outsAt0 m c n h).2.2) 8 (fun _ => (0 : EReal)) _
    (fun t h j => by rw [outsAt0_A m c t h]; frame_out; rw [zero_gain])
    (fun t h j => by rw [outsAt0_B m c t h]; frame_out; rw [add_gain]) (le_of_eq N_0) t0_7 rfl j, zero_add]
  have hj : j = ix2 (j 0) (j 1) := by blk_ext []
  rw [hj]
  exact gain_all m c (j 0) (j 1)

end Cert.FfnDh2Ideal.RefValue

namespace Cert.Proof.FfnDh2Claims

/-- Over the reals the kernel and the reference end with equal results. -/
theorem algebraic : Cert.algebraic_FfnDh2Ideal_FfnDh2RefIdeal := by
  pair_intro
  · run_from Cert.FfnDh2Ideal.Value.run_blocks m g
  · run_from Cert.FfnDh2RefIdeal.Value.run m' g'
    · rw [Cert.FfnDh2Ideal.RefValue.final7 m c, Cert.FfnDh2RefIdeal.Read.val_main_v54_eq (F := Ideal) m' c]; simp only [hagree c]
    · rw [Cert.FfnDh2Ideal.RefValue.final8 m c, Cert.FfnDh2RefIdeal.Read.val_main_v55_eq (F := Ideal) m' c]; simp only [hagree c]
    · rw [Cert.FfnDh2Ideal.RefValue.final9 m c]; rfl

/-- The kernel runs to its end and keeps its arguments. -/
theorem frame : Cert.quiescent_FfnDh2 := fun m ρ _ => Cert.FfnDh2.Gen.frame m ρ

/-- The idealized kernel runs to its end and keeps its arguments. -/
theorem frame_ideal : Cert.quiescent_FfnDh2Ideal := fun m ρ _ => Cert.FfnDh2Ideal.Gen.frame m ρ

/-- The idealized reference runs to its end and keeps its arguments. -/
theorem frame_ref : Cert.quiescent_FfnDh2RefIdeal := fun m ρ _ =>
  (θ_run Cert.FfnDh2RefIdeal.defs _ _).mono (fun r h => ⟨fun c => (h c).2.2.2, sem_eq_zero_of_no_sems (by decide) r.2⟩)
    (Cert.FfnDh2RefIdeal.Value.run (F := Ideal) m ρ)

end Cert.Proof.FfnDh2Claims
-- ==== Proof.GwDown.lean ====
/- The gradient of the down projection: the value and the frames. -/
module

public import proofs.«01_k».proof.Defs
public import proofs.«01_k».proof.Proof.Gen.GwDown.Frame
public import proofs.«01_k».proof.Proof.Gen.GwDownIdeal.Value
public import proofs.«01_k».proof.Proof.Gen.GwDownRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.GwDownIdeal.RefValue

open Cert.GwDownIdeal Cert.GwDownIdeal.Gen Cert.GwDownIdeal.Value
open Cert.GwDownRefIdeal.Read

variable (m : (ℓ : Loc nD τ sig) → Buf (Elt Ideal) ℓ)

/-- The block indices of the windows at grid point `t`. -/
theorem idx : ∀ t : Fin cfg0.N, win0_0.index t = ![(grid0.coords t 0).val, 0, 0]
    ∧ win0_1.index t = ![0, (grid0.coords t 1).val]
    ∧ win0_2.index t = ![(grid0.coords t 0).val, 0, (grid0.coords t 1).val] :=
  (by decide +kernel : ∀ t : Fin grid0.N, _)

/-- The two factors of a sum of products may be exchanged. -/
theorem sum_mul_swap {n : ℕ} {f g f' g' : Fin n → EReal} (h : ∀ k, f k = g' k) (h' : ∀ k, g k = f' k) :
    ∑ k, f k * g k = ∑ k, f' k * g' k :=
  Finset.sum_congr rfl fun k _ => by rw [h k, h' k, mul_comm]

/-- The gradient of the down projection is the reference's. -/
theorem final2 (c : Dev nD) : (dats m 0 c).arrAt 2 cfg0.N
    = val_main_v9 (F := Ideal) (m (c.tc.loc main_arg0)) (m (c.tc.loc main_arg1)) := by
  refine (dats m 0 c).arrAt_eq_of_covers 2 _ (by decide +kernel) fun t hf y => ?_
  blk_simp
  rw [after0_2]
  frame_out
  pointwise [k0_pay1, val_main_v9, val_main_v8, val_main_v7, val_main_v6, val_main_v5, val_main_v4, val_main_cst, val_main_v3, val_main_v2, val_main_v1, val_main_v0]
  refine sum_mul_swap (fun k => ?_) (fun k => ?_)
  · blk_point [iblk, V, idx t]
  · blk_point [iblk, V, idx t]

end Cert.GwDownIdeal.RefValue

namespace Cert.Proof.GwDownClaims

/-- Over the reals the kernel and the reference end with equal results. -/
theorem algebraic : Cert.algebraic_GwDownIdeal_GwDownRefIdeal := by
  pair_intro
  · run_from Cert.GwDownIdeal.Value.run_blocks m g
  · run_from Cert.GwDownRefIdeal.Value.run m' g'
    rw [Cert.GwDownIdeal.RefValue.final2 m c]; rfl

/-- The kernel runs to its end and keeps its arguments. -/
theorem frame : Cert.quiescent_GwDown := fun m ρ _ => Cert.GwDown.Gen.frame m ρ

/-- The idealized kernel runs to its end and keeps its arguments. -/
theorem frame_ideal : Cert.quiescent_GwDownIdeal := fun m ρ _ => Cert.GwDownIdeal.Gen.frame m ρ

/-- The idealized reference runs to its end and keeps its arguments. -/
theorem frame_ref : Cert.quiescent_GwDownRefIdeal := fun m ρ _ =>
  (θ_run Cert.GwDownRefIdeal.defs _ _).mono (fun r h => ⟨fun c => (h c).2, sem_eq_zero_of_no_sems (by decide) r.2⟩)
    (Cert.GwDownRefIdeal.Value.run (F := Ideal) m ρ)

end Cert.Proof.GwDownClaims
-- ==== Proof.GwOut.lean ====
/- The gradient of the output projection: the value and the frames. -/
module

public import proofs.«01_k».proof.Defs
public import proofs.«01_k».proof.Proof.Gen.GwOut.Frame
public import proofs.«01_k».proof.Proof.Gen.GwOutIdeal.Value
public import proofs.«01_k».proof.Proof.Gen.GwOutRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.GwOutIdeal.RefValue

open Cert.GwOutIdeal Cert.GwOutIdeal.Gen Cert.GwOutIdeal.Value
open Cert.GwOutRefIdeal.Read

variable (m : (ℓ : Loc nD τ sig) → Buf (Elt Ideal) ℓ)

/-- The block indices of the windows at grid point `t`. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The two factors of a sum of products may be exchanged. -/
theorem sum_mul_swap {n : ℕ} {f g f' g' : Fin n → EReal} (h : ∀ k, f k = g' k) (h' : ∀ k, g k = f' k) :
    ∑ k, f k * g k = ∑ k, f' k * g' k :=
  Finset.sum_congr rfl fun k _ => by rw [h k, h' k, mul_comm]

/-- The gradient of the output projection is the reference's. -/
theorem final2 (c : Dev nD) : (dats m 0 c).arrAt 2 cfg0.N
    = val_main_v6 (F := Ideal) (m (c.tc.loc main_arg0)) (m (c.tc.loc main_arg1)) := by
  refine (dats m 0 c).arrAt_eq_of_covers 2 _ (by decide +kernel) fun t hf y => ?_
  blk_simp
  rw [after0_2]
  frame_out
  pointwise [k0_pay1, val_main_v6, val_main_v5, val_main_v4, val_main_v3, val_main_v2, val_main_cst, val_main_v1, val_main_v0]
  refine sum_mul_swap (fun k => ?_) (fun k => ?_)
  · blk_point [iblk, V, idx t]
  · blk_point [iblk, V, idx t]

end Cert.GwOutIdeal.RefValue

namespace Cert.Proof.GwOutClaims

/-- Over the reals the kernel and the reference end with equal results. -/
theorem algebraic : Cert.algebraic_GwOutIdeal_GwOutRefIdeal := by
  pair_intro
  · run_from Cert.GwOutIdeal.Value.run_blocks m g
  · run_from Cert.GwOutRefIdeal.Value.run m' g'
    rw [Cert.GwOutIdeal.RefValue.final2 m c]; rfl

/-- The kernel runs to its end and keeps its arguments. -/
theorem frame : Cert.quiescent_GwOut := fun m ρ _ => Cert.GwOut.Gen.frame m ρ

/-- The idealized kernel runs to its end and keeps its arguments. -/
theorem frame_ideal : Cert.quiescent_GwOutIdeal := fun m ρ _ => Cert.GwOutIdeal.Gen.frame m ρ

/-- The idealized reference runs to its end and keeps its arguments. -/
theorem frame_ref : Cert.quiescent_GwOutRefIdeal := fun m ρ _ =>
  (θ_run Cert.GwOutRefIdeal.defs _ _).mono (fun r h => ⟨fun c => (h c).2, sem_eq_zero_of_no_sems (by decide) r.2⟩)
    (Cert.GwOutRefIdeal.Value.run (F := Ideal) m ρ)

end Cert.Proof.GwOutClaims
-- ==== Proof.InProj.lean ====
/- The input projection: the values and the frames. -/
module

public import proofs.«01_k».proof.Defs
public import proofs.«01_k».proof.Proof.Gen.InProj.Frame
public import proofs.«01_k».proof.Proof.Gen.InProjIdeal.Value
public import proofs.«01_k».proof.Proof.Gen.InProjRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.InProjIdeal.RefValue

open Cert.InProjIdeal Cert.InProjIdeal.Gen Cert.InProjIdeal.Value
open Cert.InProjRefIdeal.Read

variable (m : (ℓ : Loc nD τ sig) → Buf (Elt Ideal) ℓ)

/-- The block indices of the windows at grid point `t`. -/
theorem idx : ∀ t : Fin cfg0.N, win0_0.index t = ![(grid0.coords t 0).val, 0]
    ∧ win0_1.index t = ![0, 0]
    ∧ win0_2.index t = ![0, 0]
    ∧ win0_3.index t = ![(grid0.coords t 0).val, 0]
    ∧ win0_4.index t = ![(grid0.coords t 0).val, 0] :=
  (by decide +kernel : ∀ t : Fin grid0.N, _)

/-- The normed input is the reference's. -/
theorem final3 (c : Dev nD) : (dats m 0 c).arrAt 3 cfg0.N
    = val_main_v15 (F := Ideal) (m (c.tc.loc main_arg0)) (m (c.tc.loc main_arg1)) := by
  refine (dats m 0 c).arrAt_eq_of_covers 3 _ (by decide +kernel) fun t hf y => ?_
  blk_simp
  rw [after0_3]
  frame_out
  pointwise [k0_pay2, k0_pay1, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  blk_point [iblk, V, idx t]

/-- The projection is the reference's. -/
theorem final4 (c : Dev nD) : (dats m 0 c).arrAt 4 cfg0.N
    = val_main_v16 (F := Ideal) (m (c.tc.loc main_arg0)) (m (c.tc.loc main_arg1)) (m (c.tc.loc main_arg2)) := by
  refine (dats m 0 c).arrAt_eq_of_covers 4 _ (by decide +kernel) fun t hf y => ?_
  blk_simp
  rw [after0_4]
  frame_out
  pointwise [k0_pay2, k0_pay1, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  blk_point [iblk, V, idx t]

end Cert.InProjIdeal.RefValue

namespace Cert.Proof.InProjClaims

set_option maxRecDepth 8000 in
/-- Over the reals the kernel and the reference end with equal results. -/
theorem algebraic : Cert.algebraic_InProjIdeal_InProjRefIdeal := by
  pair_intro
  · run_from Cert.InProjIdeal.Value.run_blocks m g
  · run_from Cert.InProjRefIdeal.Value.run m' g'
    · rw [Cert.InProjIdeal.RefValue.final3 m c]; rfl
    · rw [Cert.InProjIdeal.RefValue.final4 m c]; rfl

/-- The kernel runs to its end and keeps its arguments. -/
theorem frame : Cert.quiescent_InProj := fun m ρ _ => Cert.InProj.Gen.frame m ρ

/-- The idealized kernel runs to its end and keeps its arguments. -/
theorem frame_ideal : Cert.quiescent_InProjIdeal := fun m ρ _ => Cert.InProjIdeal.Gen.frame m ρ

/-- The idealized reference runs to its end and keeps its arguments. -/
theorem frame_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

end Cert.Proof.InProjClaims
-- ==== Proof.FfnUp.lean ====
/- The gate and the up projection: the values and the frames. -/
module

public import proofs.«01_k».proof.Defs
public import proofs.«01_k».proof.Proof.Gen.FfnUp.Frame
public import proofs.«01_k».proof.Proof.Gen.FfnUpIdeal.Value
public import proofs.«01_k».proof.Proof.Gen.FfnUpRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.FfnUpIdeal.RefValue

open Cert.FfnUpIdeal Cert.FfnUpIdeal.Gen Cert.FfnUpIdeal.Value
open Cert.FfnUpRefIdeal.Read

variable (m : (ℓ : Loc nD τ sig) → Buf (Elt Ideal) ℓ)

/-- The block indices of the windows at grid point `t`. -/
theorem idx : ∀ t : Fin cfg0.N, win0_0.index t = ![(grid0.coords t 1).val, 0]
    ∧ win0_1.index t = ![(grid0.coords t 0).val, 0, 0]
    ∧ win0_2.index t = ![(grid0.coords t 0).val, 0, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0] :=
  (by decide +kernel : ∀ t : Fin grid0.N, _)

/-- The gate projection is the reference's. -/
theorem final3 (c : Dev nD) : (dats m 0 c).arrAt 3 cfg0.N
    = val_main_v13 (F := Ideal) (m (c.tc.loc main_arg0)) (m (c.tc.loc main_arg1)) := by
  refine (dats m 0 c).arrAt_eq_of_covers 3 _ (by decide +kernel) fun t hf y => ?_
  blk_simp
  rw [after0_3]
  frame_out
  canon_tiles x h
  all_goals
    pointwise [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v19, val_main_v18, val_main_v17, val_main_v16, val_main_v15, val_main_v14, val_main_v13, val_main_v12, val_main_v11, val_main_v10, val_main_v9, val_main_call0_v5, val_main_call0_v4, val_main_call0_cst_0, val_main_call0_v3, val_main_call0_v2, val_main_call0_cst, val_main_call0_v1, val_main_call0_v0, val_main_v8, val_main_v7, val_main_v6, val_main_v5, val_main_v4, val_main_v3, val_main_v2, val_main_v1, val_main_v0]
    blk_point [iblk, V, idx t]

/-- The up projection is the reference's. -/
theorem final4 (c : Dev nD) : (dats m 0 c).arrAt 4 cfg0.N
    = val_main_v16 (F := Ideal) (m (c.tc.loc main_arg0)) (m (c.tc.loc main_arg2)) := by
  refine (dats m 0 c).arrAt_eq_of_covers 4 _ (by decide +kernel) fun t hf y => ?_
  blk_simp
  rw [after0_4]
  frame_out
  canon_tiles x h
  all_goals
    pointwise [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v19, val_main_v18, val_main_v17, val_main_v16, val_main_v15, val_main_v14, val_main_v13, val_main_v12, val_main_v11, val_main_v10, val_main_v9, val_main_call0_v5, val_main_call0_v4, val_main_call0_cst_0, val_main_call0_v3, val_main_call0_v2, val_main_call0_cst, val_main_call0_v1, val_main_call0_v0, val_main_v8, val_main_v7, val_main_v6, val_main_v5, val_main_v4, val_main_v3, val_main_v2, val_main_v1, val_main_v0]
    blk_point [iblk, V, idx t]

/-- The activation is the reference's. -/
theorem final5 (c : Dev nD) : (dats m 0 c).arrAt 5 cfg0.N
    = val_main_v19 (F := Ideal) (m (c.tc.loc main_arg0)) (m (c.tc.loc main_arg1)) (m (c.tc.loc main_arg2)) := by
  refine (dats m 0 c).arrAt_eq_of_covers 5 _ (by decide +kernel) fun t hf y => ?_
  blk_simp
  rw [after0_5]
  frame_out
  canon_tiles x h
  all_goals
    pointwise [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v19, val_main_v18, val_main_v17, val_main_v16, val_main_v15, val_main_v14, val_main_v13, val_main_v12, val_main_v11, val_main_v10, val_main_v9, val_main_call0_v5, val_main_call0_v4, val_main_call0_cst_0, val_main_call0_v3, val_main_call0_v2, val_main_call0_cst, val_main_call0_v1, val_main_call0_v0, val_main_v8, val_main_v7, val_main_v6, val_main_v5, val_main_v4, val_main_v3, val_main_v2, val_main_v1, val_main_v0]
    unfold Ideal.logistic
    blk_point [iblk, V, idx t]

end Cert.FfnUpIdeal.RefValue

namespace Cert.Proof.FfnUpClaims

/-- Over the reals the kernel and the reference end with equal results. -/
theorem algebraic : Cert.algebraic_FfnUpIdeal_FfnUpRefIdeal := by
  pair_intro
  · run_from Cert.FfnUpIdeal.Value.run_blocks m g
  · run_from Cert.FfnUpRefIdeal.Value.run m' g'
    · rw [Cert.FfnUpIdeal.RefValue.final3 m c]; rfl
    · rw [Cert.FfnUpIdeal.RefValue.final4 m c]; rfl
    · rw [Cert.FfnUpIdeal.RefValue.final5 m c]; rfl

/-- The kernel runs to its end and keeps its arguments. -/
theorem frame : Cert.quiescent_FfnUp := fun m ρ _ => Cert.FfnUp.Gen.frame m ρ

/-- The idealized kernel runs to its end and keeps its arguments. -/
theorem frame_ideal : Cert.quiescent_FfnUpIdeal := fun m ρ _ => Cert.FfnUpIdeal.Gen.frame m ρ

/-- The idealized reference runs to its end and keeps its arguments. -/
theorem frame_ref : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

end Cert.Proof.FfnUpClaims
-- ==== Proof.BranchMerge.lean ====
/- The merge of the two branches: the values and the frames. -/
module

public import proofs.«01_k».proof.Defs
public import proofs.«01_k».proof.Proof.Gen.BranchMerge.Frame
public import proofs.«01_k».proof.Proof.Gen.BranchMergeIdeal.Value
public import proofs.«01_k».proof.Proof.Gen.BranchMergeRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.BranchMergeIdeal.RefValue

open Cert.BranchMergeIdeal Cert.BranchMergeIdeal.Gen Cert.BranchMergeIdeal.Value
open Cert.BranchMergeRefIdeal.Read

variable (m : (ℓ : Loc nD τ sig) → Buf (Elt Ideal) ℓ)

/-- The block indices of the windows at grid point `t`. -/
theorem idx : ∀ t : Fin cfg0.N, win0_0.index t = ![(grid0.coords t 0).val, 0]
    ∧ win0_1.index t = ![(grid0.coords t 0).val, 0]
    ∧ win0_2.index t = ![(grid0.coords t 1).val, 0, 0]
    ∧ win0_3.index t = ![(grid0.coords t 1).val, 0, 0]
    ∧ win0_4.index t = ![(grid0.coords t 0).val, 8 + (grid0.coords t 1).val]
    ∧ win0_5.index t = ![(grid0.coords t 0).val, 12 + (grid0.coords t 1).val]
    ∧ win0_6.index t = ![(grid0.coords t 0).val, (grid0.coords t 1).val]
    ∧ win0_7.index t = ![(grid0.coords t 0).val, (grid0.coords t 1).val]
    ∧ win0_8.index t = ![(grid0.coords t 0).val, (grid0.coords t 1).val] :=
  (by decide +kernel : ∀ t : Fin grid0.N, _)

/-- The first branch's projection is the reference's. -/
theorem final6 (c : Dev nD) : (dats m 0 c).arrAt 6 cfg0.N
    = val_main_v25 (F := Ideal) (m (c.tc.loc main_arg0)) (m (c.tc.loc main_arg2)) := by
  refine (dats m 0 c).arrAt_eq_of_covers 6 _ (by decide +kernel) fun t hf y => ?_
  blk_simp
  rw [after0_6]
  frame_out
  canon_tiles x h
  all_goals
    pointwise [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_0, val_main_v8, val_main_v7, val_main_cst, val_main_v6, val_main_v5, val_main_v4, val_main_v3, val_main_v2, val_main_v1, val_main_v0]
    blk_point [iblk, V, idx t]

/-- The second branch's projection is the reference's. -/
theorem final7 (c : Dev nD) : (dats m 0 c).arrAt 7 cfg0.N
    = val_main_v26 (F := Ideal) (m (c.tc.loc main_arg1)) (m (c.tc.loc main_arg3)) := by
  refine (dats m 0 c).arrAt_eq_of_covers 7 _ (by decide +kernel) fun t hf y => ?_
  blk_simp
  rw [after0_7]
  frame_out
  canon_tiles x h
  all_goals
    pointwise [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_0, val_main_v8, val_main_v7, val_main_cst, val_main_v6, val_main_v5, val_main_v4, val_main_v3, val_main_v2, val_main_v1, val_main_v0]
    blk_point [iblk, V, idx t]

set_option maxHeartbeats 2000000 in
/-- The merged branches are the reference's. -/
theorem final8 (c : Dev nD) : (dats m 0 c).arrAt 8 cfg0.N
    = val_main_v27 (F := Ideal) (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp
  rw [after0_8]
  frame_out
  canon_tiles x h
  all_goals
    pointwise [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_0, val_main_v8, val_main_v7, val_main_cst, val_main_v6, val_main_v5, val_main_v4, val_main_v3, val_main_v2, val_main_v1, val_main_v0]
    unfold Ideal.logistic
    blk_point [iblk, V, idx t]

end Cert.BranchMergeIdeal.RefValue

namespace Cert.Proof.BranchMergeClaims

/-- Over the reals the kernel and the reference end with equal results. -/
theorem algebraic : Cert.algebraic_BranchMergeIdeal_BranchMergeRefIdeal := by
  pair_intro
  · run_from Cert.BranchMergeIdeal.Value.run_blocks m g
  · run_from Cert.BranchMergeRefIdeal.Value.run m' g'
    · rw [Cert.BranchMergeIdeal.RefValue.final6 m c]; rfl
    · rw [Cert.BranchMergeIdeal.RefValue.final7 m c]; rfl
    · rw [Cert.BranchMergeIdeal.RefValue.final8 m c]; rfl

/-- The kernel runs to its end and keeps its arguments. -/
theorem frame : Cert.quiescent_BranchMerge := fun m ρ _ => Cert.BranchMerge.Gen.frame m ρ

/-- The idealized kernel runs to its end and keeps its arguments. -/
theorem frame_ideal : Cert.quiescent_BranchMergeIdeal := fun m ρ _ => Cert.BranchMergeIdeal.Gen.frame m ρ

/-- The idealized reference runs to its end and keeps its arguments. -/
theorem frame_ref : Cert.quiescent_BranchMergeRefIdeal := fun m ρ _ =>
  (θ_run Cert.BranchMergeRefIdeal.defs _ _).mono (fun r h => ⟨fun c => (h c).2.2.2, sem_eq_zero_of_no_sems (by decide) r.2⟩)
    (Cert.BranchMergeRefIdeal.Value.run (F := Ideal) m ρ)

end Cert.Proof.BranchMergeClaims
-- ==== Proof.OutProj.lean ====
/- The output projection: the values and the frames. -/
module

public import proofs.«01_k».proof.Defs
public import proofs.«01_k».proof.Proof.Gen.OutProj.Frame
public import proofs.«01_k».proof.Proof.Gen.OutProjIdeal.Value
public import proofs.«01_k».proof.Proof.Gen.OutProjRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen Cert.OutProjIdeal.Value
open Cert.OutProjRefIdeal.Read

variable (m : (ℓ : Loc nD τ sig) → Buf (Elt Ideal) ℓ)

/-- The block indices of the windows at grid point `t`. -/
theorem idx : ∀ t : Fin cfg0.N, win0_0.index t = ![(grid0.coords t 0).val, 0]
    ∧ win0_1.index t = ![0, 0]
    ∧ win0_2.index t = ![(grid0.coords t 0).val, 0]
    ∧ win0_3.index t = ![0, 0]
    ∧ win0_4.index t = ![(grid0.coords t 0).val, 0]
    ∧ win0_5.index t = ![(grid0.coords t 0).val, 0] :=
  (by decide +kernel : ∀ t : Fin grid0.N, _)

/-- The residual stream is the reference's. -/
theorem final4 (c : Dev nD) : (dats m 0 c).arrAt 4 cfg0.N
    = val_main_v3 (F := Ideal) (m (c.tc.loc main_arg0)) (m (c.tc.loc main_arg1)) (m (c.tc.loc main_arg2)) := by
  refine (dats m 0 c).arrAt_eq_of_covers 4 _ (by decide +kernel) fun t hf y => ?_
  blk_simp
  rw [after0_4]
  frame_out
  pointwise [k0_pay2, k0_pay1, val_main_v18, val_main_v17, val_main_v16, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0]
  blk_point [iblk, V, idx t]

/-- The normed input of the channel mixer is the reference's. -/
theorem final5 (c : Dev nD) : (dats m 0 c).arrAt 5 cfg0.N
    = val_main_v18 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  pointwise [k0_pay2, k0_pay1, val_main_v18, val_main_v17, val_main_v16, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0]
  blk_point [iblk, V, idx t]

end Cert.OutProjIdeal.RefValue

namespace Cert.Proof.OutProjClaims

/-- Over the reals the kernel and the reference end with equal results. -/
theorem algebraic : Cert.algebraic_OutProjIdeal_OutProjRefIdeal := by
  pair_intro
  · run_from Cert.OutProjIdeal.Value.run_blocks m g
  · run_from Cert.OutProjRefIdeal.Value.run m' g'
    · rw [Cert.OutProjIdeal.RefValue.final4 m c]; rfl
    · rw [Cert.OutProjIdeal.RefValue.final5 m c]; rfl

/-- The kernel runs to its end and keeps its arguments. -/
theorem frame : Cert.quiescent_OutProj := fun m ρ _ => Cert.OutProj.Gen.frame m ρ

/-- The idealized kernel runs to its end and keeps its arguments. -/
theorem frame_ideal : Cert.quiescent_OutProjIdeal := fun m ρ _ => Cert.OutProjIdeal.Gen.frame m ρ

/-- The idealized reference runs to its end and keeps its arguments. -/
theorem frame_ref : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

end Cert.Proof.OutProjClaims
-- ==== Proof.FfnDact.lean ====
/- The gradients at the channel mixer's two branches, through its second projection: the values and the frames. -/
module

public import proofs.«01_k».proof.Defs
public import proofs.«01_k».proof.Proof.Gen.FfnDact.Frame
public import proofs.«01_k».proof.Proof.Gen.FfnDactIdeal.Value
public import proofs.«01_k».proof.Proof.Gen.FfnDactRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.FfnDactIdeal.RefValue

open Cert.FfnDactIdeal Cert.FfnDactIdeal.Gen Cert.FfnDactIdeal.Value
open Cert.FfnDactRefIdeal.Read

variable (m : (ℓ : Loc nD τ sig) → Buf (Elt Ideal) ℓ)

/-- The block indices of the windows at grid point `t`. -/
theorem idx : ∀ t : Fin cfg0.N, win0_0.index t = ![(grid0.coords t 1).val, 0]
    ∧ win0_1.index t = ![(grid0.coords t 0).val, 0, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0] :=
  (by decide +kernel : ∀ t : Fin grid0.N, _)

/-- The side conditions of the precondition's operations. -/
instance : Cert.Pre_finite.Facts where
  bitsLt_bf16_f32 := by decide
  bcast_S_S4096x1024 := by decide
  bcast_S_S4x704x1024 := by decide
  bcast_S_S4x4096x704 := by decide

/-- A value whose size is below infinity is a real number. -/
theorem real_of_lt {x : EReal} (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x with
  | bot => simp [Ideal.cmp] at h
  | coe r => exact ⟨r, rfl⟩
  | top => simp [Ideal.cmp] at h

/-- The precondition at an entry of the gradient. -/
theorem real_dy (h : Cert.Pre_FfnDactIdeal_finite m) (c : Dev nD) (i : S4096x1024.Idx) :
    ∃ r : ℝ, (m (c.tc.loc main_arg0) i : EReal) = (r : EReal) := real_of_lt (congrFun (h c).1 i)

/-- The precondition at an entry of the weights. -/
theorem real_w (h : Cert.Pre_FfnDactIdeal_finite m) (c : Dev nD) (i : S4x704x1024.Idx) :
    ∃ r : ℝ, (m (c.tc.loc main_arg1) i : EReal) = (r : EReal) := real_of_lt (congrFun (h c).2.1 i)

/-- The precondition at an entry of the up branch. -/
theorem real_up (h : Cert.Pre_FfnDactIdeal_finite m) (c : Dev nD) (i : S4x4096x704.Idx) :
    ∃ r : ℝ, (m (c.tc.loc main_arg3) i : EReal) = (r : EReal) := real_of_lt (congrFun (h c).2.2 i)

/-- A sum of products of real numbers is a real number. -/
theorem real_sum {ι : Type} [Fintype ι] {f g : ι → EReal} (hf : ∀ i, ∃ r : ℝ, f i = r) (hg : ∀ i, ∃ r : ℝ, g i = r) :
    ∃ r : ℝ, ∑ i, f i * g i = r := by
  choose a ha using hf
  choose b hb using hg
  classical
  refine Finset.induction_on Finset.univ ⟨0, by simp⟩ fun i s hi ih => ?_
  obtain ⟨r, hr⟩ := ih
  exact ⟨a i * b i + r, by rw [Finset.sum_insert hi, hr, ha, hb]; push_cast; rfl⟩

/-- The up branch's gradient at equal factors. -/
theorem up_grad {d d' g g' : EReal} (hd : d = d') (hg : g = g') :
    d * (g * Ideal.logistic g) = g' * Ideal.div 1 (1 + Ideal.exp (-g')) * d' := by
  subst hd hg
  exact mul_comm _ _

/-- The gate's gradient, of a finite gradient at the product: the kernel's grouping is the reference's, whatever the gate. -/
theorem gate_grad {e d u g e' u' g' : EReal} (he : e = e') (hu : u = u') (hg : g = g') (hd : d = e' * u')
    (fe : ∃ r : ℝ, e' = r) (fu : ∃ r : ℝ, u' = r) :
    e * u * (Ideal.logistic g + g * Ideal.logistic g * (1 - Ideal.logistic g))
      = d * Ideal.div 1 (1 + Ideal.exp (-g'))
        + g' * d * (Ideal.div 1 (1 + Ideal.exp (-g')) * (1 - Ideal.div 1 (1 + Ideal.exp (-g')))) := by
  subst he hu hg
  rw [hd]
  obtain ⟨r, rfl⟩ := fe
  obtain ⟨q, rfl⟩ := fu
  change _ = (r * q : EReal) * Ideal.logistic g + g * (r * q) * (Ideal.logistic g * (1 - Ideal.logistic g))
  induction g with
  | bot => rw [Ideal.logistic_bot]; simp
  | top =>
    have h : (1 : EReal) - 1 = 0 := by rw [← EReal.coe_one, ← EReal.coe_sub, sub_self, EReal.coe_zero]
    rw [Ideal.logistic_top, h]; simp
  | coe g =>
    rw [Ideal.logistic_coe]
    generalize (1 + Real.exp (-g))⁻¹ = s
    rw [← EReal.coe_one]
    norm_cast
    ring

/-- The gate's gradient is the reference's. -/
theorem final4 (h : Cert.Pre_FfnDactIdeal_finite m) (c : Dev nD) : (dats m 0 c).arrAt 4 cfg0.N
    = val_main_v18 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  canon_tiles x hx
  all_goals
    pointwise [k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v21, val_main_v20, val_main_v19, val_main_v18, val_main_v17, val_main_v16, val_main_v15, val_main_call1_v2, val_main_call1_v1, val_main_call1_v0, val_main_v14, val_main_v13, val_main_v12, val_main_v11, val_main_v10, val_main_v9_0, val_main_v9_1, val_main_call0_v7, val_main_call0_v6, val_main_call0_cst_1, val_main_v9_2, val_main_call0_v4, val_main_call0_cst_0, val_main_call0_v3, val_main_call0_v2, val_main_call0_cst, val_main_call0_v1, val_main_call0_v0, val_main_v8, val_main_v7, val_main_v6, val_main_v5, val_main_v4, val_main_v3, val_main_v2, val_main_v1, val_main_v0]
    refine gate_grad ?_ ?_ ?_ rfl (real_sum (fun k => real_dy m h c _) fun k => real_w m h c _) (real_up m h c _)
    all_goals blk_point [iblk, V, idx t]

/-- The up branch's gradient is the reference's. -/
theorem final5 (c : Dev nD) : (dats m 0 c).arrAt 5 cfg0.N
    = val_main_v21 (F := Ideal) (m (c.tc.loc main_arg0)) (m (c.tc.loc main_arg1)) (m (c.tc.loc main_arg2)) := by
  refine (dats m 0 c).arrAt_eq_of_covers 5 _ (by decide +kernel) fun t hf y => ?_
  blk_simp
  rw [after0_5]
  frame_out
  canon_tiles x hx
  all_goals
    pointwise [k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v21, val_main_v20, val_main_v19, val_main_v18, val_main_v17, val_main_v16, val_main_v15, val_main_call1_v2, val_main_call1_v1, val_main_call1_v0, val_main_v14, val_main_v13, val_main_v12, val_main_v11, val_main_v10, val_main_v9_0, val_main_v9_1, val_main_call0_v7, val_main_call0_v6, val_main_call0_cst_1, val_main_v9_2, val_main_call0_v4, val_main_call0_cst_0, val_main_call0_v3, val_main_call0_v2, val_main_call0_cst, val_main_call0_v1, val_main_call0_v0, val_main_v8, val_main_v7, val_main_v6, val_main_v5, val_main_v4, val_main_v3, val_main_v2, val_main_v1, val_main_v0]
    refine up_grad ?_ ?_
    all_goals blk_point [iblk, V, idx t]

end Cert.FfnDactIdeal.RefValue

namespace Cert.Proof.FfnDactClaims

/-- Over the reals the kernel and the reference end with equal results. -/
theorem algebraic : Cert.algebraic_FfnDactIdeal_FfnDactRefIdeal_pre_finite := by
  pair_intro
  · run_from Cert.FfnDactIdeal.Value.run_blocks m g
  · run_from Cert.FfnDactRefIdeal.Value.run m' g'
    · rw [Cert.FfnDactIdeal.RefValue.final4 m hpre c]; rfl
    · rw [Cert.FfnDactIdeal.RefValue.final5 m c]; rfl

/-- The kernel runs to its end and keeps its arguments. -/
theorem frame : Cert.quiescent_FfnDact := fun m ρ _ => Cert.FfnDact.Gen.frame m ρ

/-- The idealized kernel runs to its end and keeps its arguments. -/
theorem frame_ideal : Cert.quiescent_FfnDactIdeal := fun m ρ _ => Cert.FfnDactIdeal.Gen.frame m ρ

/-- The idealized reference runs to its end and keeps its arguments. -/
theorem frame_ref : Cert.quiescent_FfnDactRefIdeal := fun m ρ _ =>
  (θ_run Cert.FfnDactRefIdeal.defs _ _).mono (fun r h => ⟨fun c => (h c).2.2, sem_eq_zero_of_no_sems (by decide) r.2⟩)
    (Cert.FfnDactRefIdeal.Value.run (F := Ideal) m ρ)

/-- The idealized kernel's frame, under the precondition. -/
theorem frame_ideal_pre : Cert.quiescent_FfnDactIdeal_pre_finite := fun m ρ _ => Cert.FfnDactIdeal.Gen.frame m ρ

/-- The idealized reference's frame, under the precondition. -/
theorem frame_ref_pre : Cert.quiescent_FfnDactRefIdeal_pre_finite := fun m ρ _ =>
  (θ_run Cert.FfnDactRefIdeal.defs _ _).mono (fun r h => ⟨fun c => (h c).2.2, sem_eq_zero_of_no_sems (by decide) r.2⟩)
    (Cert.FfnDactRefIdeal.Value.run (F := Ideal) m ρ)

end Cert.Proof.FfnDactClaims
-- ==== Proof.FfnDownLoss.lean ====
/- The channel mixer's second projection, the residual, the loss and its gradient: the values and the frames. -/
module

public import proofs.«01_k».proof.Defs
public import proofs.«01_k».proof.Proof.Gen.FfnDownLoss.Frame
public import proofs.«01_k».proof.Proof.Gen.FfnDownLossIdeal.Value
public import proofs.«01_k».proof.Proof.Gen.FfnDownLossRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.FfnDownLossIdeal.RefValue

open Cert.FfnDownLossIdeal Cert.FfnDownLossIdeal.Gen Cert.FfnDownLossIdeal.Value
open Cert.FfnDownLossRefIdeal.Read

variable (m : (ℓ : Loc nD τ sig) → Buf (Elt Ideal) ℓ)

/-- The block indices of the windows at grid point `t`. -/
theorem idx : ∀ t : Fin cfg0.N, win0_0.index t = ![0, (grid0.coords t 0).val, 0]
    ∧ win0_1.index t = ![0, 0, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![0, 0] :=
  (by decide +kernel : ∀ t : Fin grid0.N, _)

/-- A sum over the 2816 columns of the channel mixer, by four blocks of 704. -/
theorem sum_blocks {f : Fin 2816 → EReal} : ∑ x, f x
    = ∑ x : Fin 704, f ⟨x.val, by omega⟩ + ∑ x : Fin 704, f ⟨704 + x.val, by omega⟩
      + ∑ x : Fin 704, f ⟨1408 + x.val, by omega⟩ + ∑ x : Fin 704, f ⟨2112 + x.val, by omega⟩ := by
  have h : ∀ f : Fin (704 + 704 + 704 + 704) → EReal, ∑ x, f x
      = ∑ x : Fin 704, f ⟨x.val, by omega⟩ + ∑ x : Fin 704, f ⟨704 + x.val, by omega⟩
        + ∑ x : Fin 704, f ⟨1408 + x.val, by omega⟩ + ∑ x : Fin 704, f ⟨2112 + x.val, by omega⟩ := fun f => by
    rw [Fin.sum_univ_add, Fin.sum_univ_add, Fin.sum_univ_add]; rfl
  exact h f

/-- One half. -/
theorem half_f32 : Ideal.ofBits .f32 0x3F000000#32 = ((1 / 2 : ℝ) : EReal) := by
  simp [Ideal.ofBits, Ideal.ieee, -EReal.coe_mul]; norm_num

/-- Two. -/
theorem two_f32 : Ideal.ofBits .f32 0x40000000#32 = ((2 : ℝ) : EReal) := by
  simp [Ideal.ofBits, Ideal.ieee, -EReal.coe_mul]; norm_num

/-- The width of the model. -/
theorem width_f32 : Ideal.ofBits .f32 0x44800000#32 = ((1024 : ℝ) : EReal) := by
  simp [Ideal.ofBits, Ideal.ieee, -EReal.coe_mul]; norm_num

/-- One over the width. -/
theorem inv_width_f32 : Ideal.ofBits .f32 0x3A800000#32 = ((1 / 1024 : ℝ) : EReal) := by
  simp [Ideal.ofBits, Ideal.ieee, -EReal.coe_mul]; norm_num

/-- One over twice the width. -/
theorem inv_two_width_f32 : Ideal.ofBits .f32 0x3A000000#32 = ((1 / 2048 : ℝ) : EReal) := by
  simp [Ideal.ofBits, Ideal.ieee, -EReal.coe_mul]; norm_num

/-- A sum times a real number that is not negative. -/
theorem sum_mul_const {ι : Type} [Fintype ι] (f : ι → EReal) {r : ℝ} (hr : 0 ≤ r) :
    (∑ i, f i) * (r : EReal) = ∑ i, f i * (r : EReal) := by
  classical
  refine Finset.induction_on Finset.univ (by simp) fun a s ha ih => ?_
  rw [Finset.sum_insert ha, Finset.sum_insert ha,
    EReal.right_distrib_of_nonneg_of_ne_top (by exact_mod_cast hr) (EReal.coe_ne_top r), ih]

/-- The kernel's scale of the gradient is the reference's: half, over the width, of twice the difference. -/
theorem dy_scale {d d' : EReal} (h : d = d') : d * Ideal.ofBits .f32 0x3A800000#32
    = Ideal.div (Ideal.ofBits .f32 0x3F000000#32) (Ideal.ofBits .f32 0x44800000#32)
      * (Ideal.ofBits .f32 0x40000000#32 * d') := by
  subst h
  rw [inv_width_f32, half_f32, width_f32, two_f32, Ideal.div_coe (by norm_num), ← mul_assoc, ← EReal.coe_mul,
    ← EReal.coe_mul, mul_comm]
  congr 2; norm_num

/-- The loss's scale: a sum over `2048` is half of the sum of the terms each over `1024`. -/
theorem loss_scale (s : Fin 4096 → EReal) : (∑ x, s x) * Ideal.ofBits .f32 0x3A000000#32
    = Ideal.ofBits .f32 0x3F000000#32 * ∑ x, Ideal.div (s x) (Ideal.ofBits .f32 0x44800000#32) := by
  rw [inv_two_width_f32, half_f32, width_f32]
  simp only [Ideal.div_coe (show (1024 : ℝ) ≠ 0 by norm_num)]
  rw [← sum_mul_const (r := 1 / 1024) s (by norm_num), mul_left_comm, ← EReal.coe_mul]
  congr 2; norm_num

/-- The difference from the target: the four blocks' products are one product over all 2816 columns. -/
theorem diff_blocks {x a₀ a₁ a₂ a₃ t x' t' : EReal} {f : Fin 2816 → EReal} (hx : x = x')
    (h₀ : a₀ = ∑ x : Fin 704, f ⟨x.val, by omega⟩) (h₁ : a₁ = ∑ x : Fin 704, f ⟨704 + x.val, by omega⟩)
    (h₂ : a₂ = ∑ x : Fin 704, f ⟨1408 + x.val, by omega⟩) (h₃ : a₃ = ∑ x : Fin 704, f ⟨2112 + x.val, by omega⟩)
    (ht : t = t') : x + a₀ + a₁ + a₂ + a₃ - t = x' + ∑ x, f x - t' := by
  rw [sum_blocks (f := f), ← h₀, ← h₁, ← h₂, ← h₃, hx, ht]
  simp only [add_assoc]

/-- The squares of one piece of rows. -/
theorem piece_sum {p q : Fin 128 → Fin 1024 → EReal} (h : ∀ x j, p x j = q x j) :
    ∑ x, ∑ j, p x j * p x j = ∑ x, ∑ j, q x j * q x j := by
  simp only [h]

/-- The four pieces of a block, each scaled and added, are the block's rows scaled. -/
theorem add_pieces {a s₀ s₁ s₂ s₃ : EReal} {g : Fin 512 → EReal}
    (h₀ : s₀ = ∑ x : Fin 128, g ⟨x.val, by omega⟩) (h₁ : s₁ = ∑ x : Fin 128, g ⟨128 + x.val, by omega⟩)
    (h₂ : s₂ = ∑ x : Fin 128, g ⟨256 + x.val, by omega⟩) (h₃ : s₃ = ∑ x : Fin 128, g ⟨384 + x.val, by omega⟩) :
    a + s₀ * Ideal.ofBits .f32 0x3A000000#32 + s₁ * Ideal.ofBits .f32 0x3A000000#32
      + s₂ * Ideal.ofBits .f32 0x3A000000#32 + s₃ * Ideal.ofBits .f32 0x3A000000#32
    = a + (∑ x, g x) * Ideal.ofBits .f32 0x3A000000#32 := by
  have h : ∀ g : Fin (128 + 128 + 128 + 128) → EReal, ∑ x, g x
      = ∑ x : Fin 128, g ⟨x.val, by omega⟩ + ∑ x : Fin 128, g ⟨128 + x.val, by omega⟩
        + ∑ x : Fin 128, g ⟨256 + x.val, by omega⟩ + ∑ x : Fin 128, g ⟨384 + x.val, by omega⟩ := fun g => by
    rw [Fin.sum_univ_add, Fin.sum_univ_add, Fin.sum_univ_add]; rfl
  have hg : ∑ x, g x = s₀ + s₁ + s₂ + s₃ := by rw [h₀, h₁, h₂, h₃]; exact h g
  have hr : (0 : EReal) ≤ ((1 / 2048 : ℝ) : EReal) := by exact_mod_cast (by norm_num : (0 : ℝ) ≤ 1 / 2048)
  rw [hg, inv_two_width_f32]
  simp only [EReal.right_distrib_of_nonneg_of_ne_top hr (EReal.coe_ne_top _), add_assoc]

/-- The grid has one axis, of eight points. -/
theorem coord0 : ∀ t : Fin cfg0.N, (grid0.coords t 0).val = t.val :=
  (by decide +kernel : ∀ t : Fin grid0.N, _)

/-- The whole array's row of a point's row. -/
theorem row_lt (t : Fin cfg0.N) (i : Fin 512) : (grid0.coords t 0).val * 512 + i.val < 4096 := by
  have h := coord0 t
  have h8 := Nat.lt_of_lt_of_eq t.isLt N_0
  omega

/-- The squared differences of one row. -/
def rowSquares (c : Dev nD) (r : Fin 4096) : EReal :=
  ∑ j : Fin 1024, (val_main_v7 (F := Ideal) (m (c.tc.loc main_arg0)) (m (c.tc.loc main_arg1)) (m (c.tc.loc main_arg2)) (m (c.tc.loc main_arg3)) (ix2 r j) * val_main_v7 (F := Ideal) (m (c.tc.loc main_arg0)) (m (c.tc.loc main_arg1)) (m (c.tc.loc main_arg2)) (m (c.tc.loc main_arg3)) (ix2 r j) : EReal)

/-- The loss of the rows of one point. -/
def pointLoss (c : Dev nD) (t : Fin cfg0.N) : EReal :=
  (∑ i : Fin 512, rowSquares m c ⟨(grid0.coords t 0).val * 512 + i.val, row_lt t i⟩) * Ideal.ofBits .f32 0x3A000000#32

/-- What a point leaves in the loss's buffer, of what the buffer held. -/
def accum (c : Dev nD) (t : Fin cfg0.N) (acc : Vec Ideal S1x1 .f32) : Vec Ideal S1x1 .f32 :=
  k0_pay1
        (k0_pay30
          (k0_pay24
            (k0_pay18 (View.ld (iblk m c 2 t) (Rect.unit ![256, 0] ![128, 1024] inb_S512x1024_S128x1024_256_0))
              (View.ld (iblk m c 0 t) (Rect.unit ![0, 256, 0] ![1, 128, 704] inb_S4x512x704_S1x128x704_0_256_0))
              (View.ld (iblk m c 1 t) (Rect.unit ![0, 0, 0] ![1, 704, 1024] inb_S4x704x1024_S1x704x1024_0_0_0))
              (View.ld (iblk m c 0 t) (Rect.unit ![1, 256, 0] ![1, 128, 704] inb_S4x512x704_S1x128x704_1_256_0))
              (View.ld (iblk m c 1 t) (Rect.unit ![1, 0, 0] ![1, 704, 1024] inb_S4x704x1024_S1x704x1024_1_0_0))
              (View.ld (iblk m c 0 t) (Rect.unit ![2, 256, 0] ![1, 128, 704] inb_S4x512x704_S1x128x704_2_256_0))
              (View.ld (iblk m c 1 t) (Rect.unit ![2, 0, 0] ![1, 704, 1024] inb_S4x704x1024_S1x704x1024_2_0_0)))
            (k0_pay19 (View.ld (iblk m c 0 t) (Rect.unit ![3, 256, 0] ![1, 128, 704] inb_S4x512x704_S1x128x704_3_256_0)))
            (k0_pay20 (View.ld (iblk m c 1 t) (Rect.unit ![3, 0, 0] ![1, 704, 1024] inb_S4x704x1024_S1x704x1024_3_0_0)))
            (constant S128x1024 .f32 0#32)
            (View.ld (iblk m c 3 t) (Rect.unit ![256, 0] ![128, 1024] inb_S512x1024_S128x1024_256_0))
            (k0_pay17
              (k0_pay15
                (k0_pay9
                  (k0_pay3 (View.ld (iblk m c 2 t) (Rect.unit ![0, 0] ![128, 1024] inb_S512x1024_S128x1024_0_0))
                    (View.ld (iblk m c 0 t) (Rect.unit ![0, 0, 0] ![1, 128, 704] inb_S4x512x704_S1x128x704_0_0_0))
                    (View.ld (iblk m c 1 t) (Rect.unit ![0, 0, 0] ![1, 704, 1024] inb_S4x704x1024_S1x704x1024_0_0_0))
                    (View.ld (iblk m c 0 t) (Rect.unit ![1, 0, 0] ![1, 128, 704] inb_S4x512x704_S1x128x704_1_0_0))
                    (View.ld (iblk m c 1 t) (Rect.unit ![1, 0, 0] ![1, 704, 1024] inb_S4x704x1024_S1x704x1024_1_0_0))
                    (View.ld (iblk m c 0 t) (Rect.unit ![2, 0, 0] ![1, 128, 704] inb_S4x512x704_S1x128x704_2_0_0))
                    (View.ld (iblk m c 1 t) (Rect.unit ![2, 0, 0] ![1, 704, 1024] inb_S4x704x1024_S1x704x1024_2_0_0)))
                  (k0_pay4 (View.ld (iblk m c 0 t) (Rect.unit ![3, 0, 0] ![1, 128, 704] inb_S4x512x704_S1x128x704_3_0_0)))
                  (k0_pay5
                    (View.ld (iblk m c 1 t) (Rect.unit ![3, 0, 0] ![1, 704, 1024] inb_S4x704x1024_S1x704x1024_3_0_0)))
                  (constant S128x1024 .f32 0#32)
                  (View.ld (iblk m c 3 t) (Rect.unit ![0, 0] ![128, 1024] inb_S512x1024_S128x1024_0_0))
                  acc))
              (k0_pay16
                (k0_pay10 (View.ld (iblk m c 2 t) (Rect.unit ![128, 0] ![128, 1024] inb_S512x1024_S128x1024_128_0))
                  (View.ld (iblk m c 0 t) (Rect.unit ![0, 128, 0] ![1, 128, 704] inb_S4x512x704_S1x128x704_0_128_0))
                  (View.ld (iblk m c 1 t) (Rect.unit ![0, 0, 0] ![1, 704, 1024] inb_S4x704x1024_S1x704x1024_0_0_0)))
                (k0_pay11
                  (View.ld (iblk m c 0 t) (Rect.unit ![1, 128, 0] ![1, 128, 704] inb_S4x512x704_S1x128x704_1_128_0)))
                (View.ld (iblk m c 1 t) (Rect.unit ![1, 0, 0] ![1, 704, 1024] inb_S4x704x1024_S1x704x1024_1_0_0))
                (View.ld (iblk m c 0 t) (Rect.unit ![2, 128, 0] ![1, 128, 704] inb_S4x512x704_S1x128x704_2_128_0))
                (View.ld (iblk m c 1 t) (Rect.unit ![2, 0, 0] ![1, 704, 1024] inb_S4x704x1024_S1x704x1024_2_0_0))
                (View.ld (iblk m c 0 t) (Rect.unit ![3, 128, 0] ![1, 128, 704] inb_S4x512x704_S1x128x704_3_128_0))
                (View.ld (iblk m c 1 t) (Rect.unit ![3, 0, 0] ![1, 704, 1024] inb_S4x704x1024_S1x704x1024_3_0_0))
                (View.ld (iblk m c 3 t) (Rect.unit ![128, 0] ![128, 1024] inb_S512x1024_S128x1024_128_0)))
              (FloatOps.ofBits .f32 973078528#32))))
        (k0_pay31
          (k0_pay25 (View.ld (iblk m c 2 t) (Rect.unit ![384, 0] ![128, 1024] inb_S512x1024_S128x1024_384_0))
            (View.ld (iblk m c 0 t) (Rect.unit ![0, 384, 0] ![1, 128, 704] inb_S4x512x704_S1x128x704_0_384_0))
            (View.ld (iblk m c 1 t) (Rect.unit ![0, 0, 0] ![1, 704, 1024] inb_S4x704x1024_S1x704x1024_0_0_0)))
          (k0_pay26 (View.ld (iblk m c 0 t) (Rect.unit ![1, 384, 0] ![1, 128, 704] inb_S4x512x704_S1x128x704_1_384_0)))
          (View.ld (iblk m c 1 t) (Rect.unit ![1, 0, 0] ![1, 704, 1024] inb_S4x704x1024_S1x704x1024_1_0_0))
          (View.ld (iblk m c 0 t) (Rect.unit ![2, 384, 0] ![1, 128, 704] inb_S4x512x704_S1x128x704_2_384_0))
          (View.ld (iblk m c 1 t) (Rect.unit ![2, 0, 0] ![1, 704, 1024] inb_S4x704x1024_S1x704x1024_2_0_0))
          (View.ld (iblk m c 0 t) (Rect.unit ![3, 384, 0] ![1, 128, 704] inb_S4x512x704_S1x128x704_3_384_0))
          (View.ld (iblk m c 1 t) (Rect.unit ![3, 0, 0] ![1, 704, 1024] inb_S4x704x1024_S1x704x1024_3_0_0))
          (View.ld (iblk m c 3 t) (Rect.unit ![384, 0] ![128, 1024] inb_S512x1024_S128x1024_384_0)))
        (FloatOps.ofBits .f32 973078528#32)

/-- A point adds the loss of its rows. -/
theorem accum_apply (c : Dev nD) (t : Fin cfg0.N) (acc : Vec Ideal S1x1 .f32) (j : S1x1.Idx) :
    accum m c t acc j = (acc j + pointLoss m c t : EReal) := by
  unfold accum pointLoss rowSquares
  pointwise [k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v7, val_main_v6, val_main_v5, val_main_v4, val_main_v3, val_main_v2, val_main_v1, val_main_v0]
  refine add_pieces ?_ ?_ ?_ ?_
  all_goals
    refine piece_sum fun x j => diff_blocks ?_ ?_ ?_ ?_ ?_ ?_
    all_goals blk_point [iblk, V, idx t]

/-- A first point leaves the loss of its rows. -/
theorem accum_zero (c : Dev nD) (t : Fin cfg0.N) (j : S1x1.Idx) :
    accum m c t (k0_pay2 (F := Ideal)) j = (0 + pointLoss m c t : EReal) := by
  have h : k0_pay2 (F := Ideal) j = (0 : EReal) := by pointwise [k0_pay2]
  rw [accum_apply, h]

/-- The points' losses are the reference's loss. -/
theorem loss_all (c : Dev nD) : ∑ t : Fin cfg0.N, pointLoss m c t
    = Ideal.ofBits .f32 0x3F000000#32 * ∑ x : Fin 4096, Ideal.div (rowSquares m c x) (Ideal.ofBits .f32 0x44800000#32) := by
  have h : ∑ t : Fin cfg0.N, ∑ i : Fin 512, rowSquares m c ⟨(grid0.coords t 0).val * 512 + i.val, row_lt t i⟩
      = ∑ x : Fin 4096, rowSquares m c x := Fin.sum_mul_add_congr fun t k hl => by simp only [coord0 t]
  rw [← loss_scale, ← h, inv_two_width_f32, sum_mul_const (r := 1 / 2048) _ (by norm_num)]
  simp only [pointLoss, inv_two_width_f32]

/-- The gradient of the loss is the reference's. -/
theorem final4 (c : Dev nD) : (dats m 0 c).arrAt 4 cfg0.N
    = val_main_v21 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  by_cases h : t.val % 8 = 0
  · rw [outsAt0_A m c t h]
    frame_out
    canon_tiles x hx
    all_goals
      pointwise [k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v23, val_main_v22, val_main_v21, val_main_v20, val_main_v19, val_main_v18, val_main_cst_6, val_main_v17, val_main_v16, val_main_cst_5, val_main_cst_4, val_main_v15, val_main_cst_3, val_main_v14, val_main_cst_2, val_main_v13, val_main_v12, val_main_cst_1, val_main_v11, val_main_cst_0, val_main_v10, val_main_v9, val_main_cst, val_main_v8, val_main_v7, val_main_v6, val_main_v5, val_main_v4, val_main_v3, val_main_v2, val_main_v1, val_main_v0]
      refine dy_scale (diff_blocks ?_ ?_ ?_ ?_ ?_ ?_)
      all_goals blk_point [iblk, V, idx t]
  · rw [outsAt0_B m c t h]
    frame_out
    canon_tiles x hx
    all_goals
      pointwise [k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v23, val_main_v22, val_main_v21, val_main_v20, val_main_v19, val_main_v18, val_main_cst_6, val_main_v17, val_main_v16, val_main_cst_5, val_main_cst_4, val_main_v15, val_main_cst_3, val_main_v14, val_main_cst_2, val_main_v13, val_main_v12, val_main_cst_1, val_main_v11, val_main_cst_0, val_main_v10, val_main_v9, val_main_cst, val_main_v8, val_main_v7, val_main_v6, val_main_v5, val_main_v4, val_main_v3, val_main_v2, val_main_v1, val_main_v0]
      refine dy_scale (diff_blocks ?_ ?_ ?_ ?_ ?_ ?_)
      all_goals blk_point [iblk, V, idx t]

/-- Its rounded copy is the reference's. -/
theorem final5 (c : Dev nD) : (dats m 0 c).arrAt 5 cfg0.N
    = val_main_v22 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  by_cases h : t.val % 8 = 0
  · rw [outsAt0_A m c t h]
    frame_out
    canon_tiles x hx
    all_goals
      pointwise [k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v23, val_main_v22, val_main_v21, val_main_v20, val_main_v19, val_main_v18, val_main_cst_6, val_main_v17, val_main_v16, val_main_cst_5, val_main_cst_4, val_main_v15, val_main_cst_3, val_main_v14, val_main_cst_2, val_main_v13, val_main_v12, val_main_cst_1, val_main_v11, val_main_cst_0, val_main_v10, val_main_v9, val_main_cst, val_main_v8, val_main_v7, val_main_v6, val_main_v5, val_main_v4, val_main_v3, val_main_v2, val_main_v1, val_main_v0]
      refine dy_scale (diff_blocks ?_ ?_ ?_ ?_ ?_ ?_)
      all_goals blk_point [iblk, V, idx t]
  · rw [outsAt0_B m c t h]
    frame_out
    canon_tiles x hx
    all_goals
      pointwise [k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v23, val_main_v22, val_main_v21, val_main_v20, val_main_v19, val_main_v18, val_main_cst_6, val_main_v17, val_main_v16, val_main_cst_5, val_main_cst_4, val_main_v15, val_main_cst_3, val_main_v14, val_main_cst_2, val_main_v13, val_main_v12, val_main_cst_1, val_main_v11, val_main_cst_0, val_main_v10, val_main_v9, val_main_cst, val_main_v8, val_main_v7, val_main_v6, val_main_v5, val_main_v4, val_main_v3, val_main_v2, val_main_v1, val_main_v0]
      refine dy_scale (diff_blocks ?_ ?_ ?_ ?_ ?_ ?_)
      all_goals blk_point [iblk, V, idx t]

/-- The loss is the reference's. -/
theorem final6 (c : Dev nD) : (dats m 0 c).arrAt 6 cfg0.N
    = val_main_v23 (F := Ideal) (m (c.tc.loc main_arg0)) (m (c.tc.loc main_arg1)) (m (c.tc.loc main_arg2)) (m (c.tc.loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => (0 : EReal))
    (fun t _ => pointLoss m c t)
    (fun t h j => by rw [outsAt0_A m c t h]; frame_out; exact accum_zero m c t j)
    (fun t h j => by rw [outsAt0_B m c t h]; frame_out; exact accum_apply m c t _ j) (le_of_eq N_0) t0_7 rfl j, zero_add,
    loss_all]
  pointwise [val_main_v23, val_main_v15, val_main_v14, val_main_v13, val_main_v12, val_main_v11, val_main_v8, val_main_cst_3,
    val_main_cst_2, val_main_cst_1, val_main_cst_0]
  simp only [rowSquares]

end Cert.FfnDownLossIdeal.RefValue

namespace Cert.Proof.FfnDownLossClaims

/-- Over the reals the kernel and the reference end with equal results. -/
theorem algebraic : Cert.algebraic_FfnDownLossIdeal_FfnDownLossRefIdeal := by
  pair_intro
  · run_from Cert.FfnDownLossIdeal.Value.run_blocks m g
  · run_from Cert.FfnDownLossRefIdeal.Value.run m' g'
    · rw [Cert.FfnDownLossIdeal.RefValue.final4 m c]; rfl
    · rw [Cert.FfnDownLossIdeal.RefValue.final5 m c]; rfl
    · rw [Cert.FfnDownLossIdeal.RefValue.final6 m c]; rfl

/-- The kernel runs to its end and keeps its arguments. -/
theorem frame : Cert.quiescent_FfnDownLoss := fun m ρ _ => Cert.FfnDownLoss.Gen.frame m ρ

/-- The idealized kernel runs to its end and keeps its arguments. -/
theorem frame_ideal : Cert.quiescent_FfnDownLossIdeal := fun m ρ _ => Cert.FfnDownLossIdeal.Gen.frame m ρ

/-- The idealized reference runs to its end and keeps its arguments. -/
theorem frame_ref : Cert.quiescent_FfnDownLossRefIdeal := fun m ρ _ =>
  (θ_run Cert.FfnDownLossRefIdeal.defs _ _).mono (fun r h => ⟨fun c => (h c).2.2.2, sem_eq_zero_of_no_sems (by decide) r.2⟩)
    (Cert.FfnDownLossRefIdeal.Value.run (F := Ideal) m ρ)

end Cert.Proof.FfnDownLossClaims
-- ==== Proof.DnPostBwd.lean ====
/- The gradients of the gated norm after the delta rule: the values and the frames. -/
module

public import proofs.«01_k».proof.Defs
public import proofs.«01_k».proof.Proof.Gen.DnPostBwd.Frame
public import proofs.«01_k».proof.Proof.Gen.DnPostBwdIdeal.Value
public import proofs.«01_k».proof.Proof.Gen.DnPostBwdRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DnPostBwdIdeal.RefValue

open Cert.DnPostBwdIdeal Cert.DnPostBwdIdeal.Gen Cert.DnPostBwdIdeal.Value
open Cert.DnPostBwdRefIdeal.Read

variable (m : (ℓ : Loc nD τ sig) → Buf (Elt Ideal) ℓ)

/-- The block indices of the windows at grid point `t`. -/
theorem idx : ∀ t : Fin cfg0.N, win0_0.index t = ![(grid0.coords t 0).val, 0]
    ∧ win0_1.index t = ![(grid0.coords t 0).val, 3]
    ∧ win0_2.index t = ![(grid0.coords t 0).val, 0]
    ∧ win0_3.index t = ![0, 0]
    ∧ win0_4.index t = ![(grid0.coords t 0).val, 0]
    ∧ win0_5.index t = ![(grid0.coords t 0).val, 0]
    ∧ win0_6.index t = ![0, 0] :=
  (by decide +kernel : ∀ t : Fin grid0.N, _)

/-- The gradient at the gate at equal factors. -/
theorem gate_grad {o o' s s' g g' w w' z z' k e : EReal} (ho : o = o') (hs : s = s') (hg : g = g') (hw : w = w') (hz : z = z') :
    o * Ideal.rsqrt (Ideal.div s k + e) * g * w * Ideal.logistic z
        + z * (o * Ideal.rsqrt (Ideal.div s k + e) * g * w) * (Ideal.logistic z * (1 - Ideal.logistic z))
      = o' * Ideal.rsqrt (Ideal.div s' k + e) * g' * w' * Ideal.div 1 (1 + Ideal.exp (-z'))
        + z' * (o' * Ideal.rsqrt (Ideal.div s' k + e) * g' * w')
          * (Ideal.div 1 (1 + Ideal.exp (-z')) * (1 - Ideal.div 1 (1 + Ideal.exp (-z')))) := by
  subst ho hs hg hw hz
  rfl

/-- The norm's gradient at equal factors. -/
theorem norm_grad {d d' z z' g g' o o' s s' k e h : EReal} {O O' D D' Z Z' G G' : Fin 128 → EReal} (hd : d = d') (hz : z = z')
    (hg : g = g') (ho : o = o') (hs : s = s') (hO : ∀ x, O x = O' x) (hD : ∀ x, D x = D' x) (hZ : ∀ x, Z x = Z' x)
    (hG : ∀ x, G x = G' x) :
    d * (z * Ideal.logistic z) * g * Ideal.rsqrt (Ideal.div s k + e)
        + o * ∑ _x : Fin 1, Ideal.div ((∑ x, O x * (D x * (Z x * Ideal.logistic (Z x)) * G x))
          * (h * Ideal.div (Ideal.rsqrt (Ideal.div s k + e)) (Ideal.div s k + e))) k
        + (∑ _x : Fin 1, Ideal.div ((∑ x, O x * (D x * (Z x * Ideal.logistic (Z x)) * G x))
          * (h * Ideal.div (Ideal.rsqrt (Ideal.div s k + e)) (Ideal.div s k + e))) k) * o
      = d' * (z' * Ideal.div 1 (1 + Ideal.exp (-z'))) * g' * Ideal.rsqrt (Ideal.div s' k + e)
        + o' * ∑ _x : Fin 1, Ideal.div ((∑ x, O' x * (D' x * (Z' x * Ideal.div 1 (1 + Ideal.exp (-Z' x))) * G' x))
          * (h * Ideal.div (Ideal.rsqrt (Ideal.div s' k + e)) (Ideal.div s' k + e))) k
        + (∑ _x : Fin 1, Ideal.div ((∑ x, O' x * (D' x * (Z' x * Ideal.div 1 (1 + Ideal.exp (-Z' x))) * G' x))
          * (h * Ideal.div (Ideal.rsqrt (Ideal.div s' k + e)) (Ideal.div s' k + e))) k) * o' := by
  obtain rfl : O = O' := funext hO
  obtain rfl : D = D' := funext hD
  obtain rfl : Z = Z' := funext hZ
  obtain rfl : G = G' := funext hG
  subst hd hz hg ho hs
  rfl

/-- The point's coordinate is its number. -/
theorem coord0 : ∀ t : Fin cfg0.N, (grid0.coords t 0).val = t.val :=
  (by decide +kernel : ∀ t : Fin grid0.N, _)

/-- The host's sum over the rows and the heads, at a lane. -/
theorem reduce_rows_heads {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ r : Fin n0, ∑ k : Fin n1, v (ix3 r k j) := by
  rw [← Fintype.sum_prod_type' (fun r k => v (ix3 r k j))]
  refine congrArg (init + ·) (Finset.sum_filter_eq_sum_of_fiber _ (fun p : Fin n0 × Fin n1 => ix3 p.1 p.2 j)
    (fun _ _ e => Prod.ext (congrFun e 0) (congrFun e 1)) (fun i => ⟨fun e => ⟨(i 0, i 1), ?_⟩, ?_⟩) v)
  · funext a
    apply Fin.ext
    match a with
    | ⟨0, _⟩ => rfl
    | ⟨1, _⟩ => rfl
    | ⟨2, _⟩ => exact (congrArg Fin.val (congrFun e ⟨0, Nat.zero_lt_one⟩)).symm
  · rintro ⟨k, rfl⟩
    funext b
    apply Fin.ext
    match b with
    | ⟨0, _⟩ => rfl

/-- The gain's accumulator takes one block's sum. -/
theorem add_gain (v acc : Vec Ideal S1x128 .f32) (j : S1x128.Idx) :
    k0_pay2 (F := Ideal) v acc j = (acc j + v j : EReal) := by
  pointwise [k0_pay2]

/-- At the first block the accumulator is zero. -/
theorem zero_gain (v : Vec Ideal S1x128 .f32) (j : S1x128.Idx) :
    k0_pay2 (F := Ideal) v (k0_pay1 (F := Ideal)) j = (0 + v j : EReal) := by
  pointwise [k0_pay2, k0_pay1]

/-- What the block at point `t` adds to the gain's gradient. -/
def gainBlock (c : Dev nD) (t : Fin cfg0.N) : Vec Ideal S1x128 .f32 :=
  k0_pay63 (F := Ideal) (k0_pay8 (iblk m c 0 t)) (k0_pay12 (iblk m c 1 t)) (k0_pay43 (iblk m c 2 t))
    (k0_pay59 (k0_pay18 (iblk m c 0 t)) (k0_pay23 (k0_pay14 (iblk m c 1 t))) (k0_pay44 (iblk m c 2 t))
      (k0_pay52 (iblk m c 2 t) (k0_pay29 (iblk m c 0 t)) (k0_pay33 (iblk m c 1 t)) (k0_pay35 (iblk m c 1 t))
        (k0_pay39 (iblk m c 0 t)) (k0_pay41 (iblk m c 1 t))))

/-- The rows of the blocks and the four heads, one head after another in each block, are the rows and the heads. -/
theorem sum_heads {N : ℕ} (hN : 4096 = N * 512) {F3 F2 F1 F0 : Fin N → Fin 512 → EReal} {G : Fin 4096 → Fin 4 → EReal}
    (h3 : ∀ p x (hl : p.val * 512 + x.val < 4096), F3 p x = G ⟨p.val * 512 + x.val, hl⟩ 3)
    (h2 : ∀ p x (hl : p.val * 512 + x.val < 4096), F2 p x = G ⟨p.val * 512 + x.val, hl⟩ 2)
    (h1 : ∀ p x (hl : p.val * 512 + x.val < 4096), F1 p x = G ⟨p.val * 512 + x.val, hl⟩ 1)
    (h0 : ∀ p x (hl : p.val * 512 + x.val < 4096), F0 p x = G ⟨p.val * 512 + x.val, hl⟩ 0) :
    ∑ p, (∑ x, F3 p x + ∑ x, F2 p x + ∑ x, F1 p x + ∑ x, F0 p x) = ∑ _a : Fin 1, ∑ _b : Fin 1, ∑ r, ∑ h, G r h := by
  simp only [← Finset.sum_add_distrib, Finset.univ_unique, Finset.sum_singleton]
  refine Fin.sum_mul_add_congr (fun p x hl => ?_) hN
  rw [h3 p x hl, h2 p x hl, h1 p x hl, h0 p x hl, Fin.sum_univ_four]
  abel

/-- One row's part of the gain's gradient at equal factors. -/
theorem gain_term {o o' d d' z z' k e : EReal} {S S' : Fin 128 → EReal} (ho : o = o') (hS : ∀ x, S x = S' x) (hd : d = d') (hz : z = z') :
    o * Ideal.rsqrt (Ideal.div (∑ x, S x * S x) k + e) * (d * (z * Ideal.logistic z))
      = o' * Ideal.rsqrt (Ideal.div (∑ x, S' x * S' x) k + e) * (d' * (z' * Ideal.div 1 (1 + Ideal.exp (-z')))) := by
  obtain rfl : S = S' := funext hS
  subst ho hd hz
  rfl

set_option maxHeartbeats 4000000 in
/-- The gain's gradient at one entry: the sum over the points. -/
theorem gain_all (c : Dev nD) (i : Fin 1) (j : Fin 128) :
    ∑ p : Fin cfg0.N, gainBlock m c p (ix2 i j)
    = val_main_v50 (F := Ideal) (m (c.tc.loc main_arg0)) (m (c.tc.loc main_arg1)) (m (c.tc.loc main_arg2)) (ix2 i j) := by
  pointwise [gainBlock, k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v50, val_main_v49, val_main_v48, val_main_v47, val_main_v46, val_main_v45, val_main_v44, val_main_v43, val_main_v42, val_main_cst_7, val_main_v41, val_main_v40, val_main_cst_6, val_main_v39, val_main_v38, val_main_v37, val_main_v36, val_main_v35, val_main_cst_5, val_main_v34, val_main_v33, val_main_cst_4, val_main_v32, val_main_v31, val_main_v30, val_main_v29, val_main_cst_3, val_main_v28, val_main_v27, val_main_v26, val_main_call1_v2, val_main_call1_v1, val_main_call1_v0, val_main_v25, val_main_v24, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_cst_2, val_main_v11, val_main_v10, val_main_v9, val_main_v8, val_main_cst_1, val_main_v7, val_main_v6, val_main_cst_0, val_main_v5, val_main_v4, val_main_cst, val_main_v3, val_main_v2, val_main_v1, val_main_v0, reduce_rows_heads]
  refine sum_heads rfl ?_ ?_ ?_ ?_
  all_goals
    intro t x hl
    refine gain_term ?_ ?_ ?_ ?_
    all_goals first
      | (intro x; blk_point [iblk, V, idx t, coord0 t])
      | blk_point [iblk, V, idx t, coord0 t]

set_option maxHeartbeats 4000000 in
/-- The gradient at the delta rule's output is the reference's. -/
theorem final4 (c : Dev nD) : (dats m 0 c).arrAt 4 cfg0.N
    = val_main_v48 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  by_cases h : t.val % 8 = 0
  · rw [outsAt0_A m c t h]
    frame_out
    pointwise [k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v50, val_main_v49, val_main_v48, val_main_v47, val_main_v46, val_main_v45, val_main_v44, val_main_v43, val_main_v42, val_main_cst_7, val_main_v41, val_main_v40, val_main_cst_6, val_main_v39, val_main_v38, val_main_v37, val_main_v36, val_main_v35, val_main_cst_5, val_main_v34, val_main_v33, val_main_cst_4, val_main_v32, val_main_v31, val_main_v30, val_main_v29, val_main_cst_3, val_main_v28, val_main_v27, val_main_v26, val_main_call1_v2, val_main_call1_v1, val_main_call1_v0, val_main_v25, val_main_v24, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_cst_2, val_main_v11, val_main_v10, val_main_v9, val_main_v8, val_main_cst_1, val_main_v7, val_main_v6, val_main_cst_0, val_main_v5, val_main_v4, val_main_cst, val_main_v3, val_main_v2, val_main_v1, val_main_v0]
    have hs : ((y 1).val < 128 ∧ (y 1).val < 256 ∧ (y 1).val < 384) ∨ (¬ (y 1).val < 128 ∧ (y 1).val < 256 ∧ (y 1).val < 384)
        ∨ (¬ (y 1).val < 128 ∧ ¬ (y 1).val < 256 ∧ (y 1).val < 384) ∨ (¬ (y 1).val < 128 ∧ ¬ (y 1).val < 256 ∧ ¬ (y 1).val < 384) := by
      omega
    rcases hs with ⟨h1, h2, h3⟩ | ⟨h1, h2, h3⟩ | ⟨h1, h2, h3⟩ | ⟨h1, h2, h3⟩
    all_goals
      simp only [h1, h2, h3, ↓reduceDIte, add_zero, zero_add]
      refine norm_grad ?_ ?_ ?_ ?_ ?_ ?_ ?_ ?_ ?_
      all_goals first
        | (intro x; blk_point [iblk, V, idx t])
        | blk_point [iblk, V, idx t]
  · rw [outsAt0_B m c t h]
    frame_out
    pointwise [k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v50, val_main_v49, val_main_v48, val_main_v47, val_main_v46, val_main_v45, val_main_v44, val_main_v43, val_main_v42, val_main_cst_7, val_main_v41, val_main_v40, val_main_cst_6, val_main_v39, val_main_v38, val_main_v37, val_main_v36, val_main_v35, val_main_cst_5, val_main_v34, val_main_v33, val_main_cst_4, val_main_v32, val_main_v31, val_main_v30, val_main_v29, val_main_cst_3, val_main_v28, val_main_v27, val_main_v26, val_main_call1_v2, val_main_call1_v1, val_main_call1_v0, val_main_v25, val_main_v24, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_cst_2, val_main_v11, val_main_v10, val_main_v9, val_main_v8, val_main_cst_1, val_main_v7, val_main_v6, val_main_cst_0, val_main_v5, val_main_v4, val_main_cst, val_main_v3, val_main_v2, val_main_v1, val_main_v0]
    have hs : ((y 1).val < 128 ∧ (y 1).val < 256 ∧ (y 1).val < 384) ∨ (¬ (y 1).val < 128 ∧ (y 1).val < 256 ∧ (y 1).val < 384)
        ∨ (¬ (y 1).val < 128 ∧ ¬ (y 1).val < 256 ∧ (y 1).val < 384) ∨ (¬ (y 1).val < 128 ∧ ¬ (y 1).val < 256 ∧ ¬ (y 1).val < 384) := by
      omega
    rcases hs with ⟨h1, h2, h3⟩ | ⟨h1, h2, h3⟩ | ⟨h1, h2, h3⟩ | ⟨h1, h2, h3⟩
    all_goals
      simp only [h1, h2, h3, ↓reduceDIte, add_zero, zero_add]
      refine norm_grad ?_ ?_ ?_ ?_ ?_ ?_ ?_ ?_ ?_
      all_goals first
        | (intro x; blk_point [iblk, V, idx t])
        | blk_point [iblk, V, idx t]

set_option maxHeartbeats 4000000 in
/-- The gradient at the output gate is the reference's. -/
theorem final5 (c : Dev nD) : (dats m 0 c).arrAt 5 cfg0.N
    = val_main_v49 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  by_cases h : t.val % 8 = 0
  · rw [outsAt0_A m c t h]
    frame_out
    pointwise [k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v50, val_main_v49, val_main_v48, val_main_v47, val_main_v46, val_main_v45, val_main_v44, val_main_v43, val_main_v42, val_main_cst_7, val_main_v41, val_main_v40, val_main_cst_6, val_main_v39, val_main_v38, val_main_v37, val_main_v36, val_main_v35, val_main_cst_5, val_main_v34, val_main_v33, val_main_cst_4, val_main_v32, val_main_v31, val_main_v30, val_main_v29, val_main_cst_3, val_main_v28, val_main_v27, val_main_v26, val_main_call1_v2, val_main_call1_v1, val_main_call1_v0, val_main_v25, val_main_v24, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_cst_2, val_main_v11, val_main_v10, val_main_v9, val_main_v8, val_main_cst_1, val_main_v7, val_main_v6, val_main_cst_0, val_main_v5, val_main_v4, val_main_cst, val_main_v3, val_main_v2, val_main_v1, val_main_v0]
    have hs : ((y 1).val < 128 ∧ (y 1).val < 256 ∧ (y 1).val < 384) ∨ (¬ (y 1).val < 128 ∧ (y 1).val < 256 ∧ (y 1).val < 384)
        ∨ (¬ (y 1).val < 128 ∧ ¬ (y 1).val < 256 ∧ (y 1).val < 384) ∨ (¬ (y 1).val < 128 ∧ ¬ (y 1).val < 256 ∧ ¬ (y 1).val < 384) := by
      omega
    rcases hs with ⟨h1, h2, h3⟩ | ⟨h1, h2, h3⟩ | ⟨h1, h2, h3⟩ | ⟨h1, h2, h3⟩
    all_goals
      simp only [h1, h2, h3, ↓reduceDIte, add_zero, zero_add]
      refine gate_grad ?_ ?_ ?_ ?_ ?_
      all_goals blk_point [iblk, V, idx t]
  · rw [outsAt0_B m c t h]
    frame_out
    pointwise [k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, val_main_v50, val_main_v49, val_main_v48, val_main_v47, val_main_v46, val_main_v45, val_main_v44, val_main_v43, val_main_v42, val_main_cst_7, val_main_v41, val_main_v40, val_main_cst_6, val_main_v39, val_main_v38, val_main_v37, val_main_v36, val_main_v35, val_main_cst_5, val_main_v34, val_main_v33, val_main_cst_4, val_main_v32, val_main_v31, val_main_v30, val_main_v29, val_main_cst_3, val_main_v28, val_main_v27, val_main_v26, val_main_call1_v2, val_main_call1_v1, val_main_call1_v0, val_main_v25, val_main_v24, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_cst_2, val_main_v11, val_main_v10, val_main_v9, val_main_v8, val_main_cst_1, val_main_v7, val_main_v6, val_main_cst_0, val_main_v5, val_main_v4, val_main_cst, val_main_v3, val_main_v2, val_main_v1, val_main_v0]
    have hs : ((y 1).val < 128 ∧ (y 1).val < 256 ∧ (y 1).val < 384) ∨ (¬ (y 1).val < 128 ∧ (y 1).val < 256 ∧ (y 1).val < 384)
        ∨ (¬ (y 1).val < 128 ∧ ¬ (y 1).val < 256 ∧ (y 1).val < 384) ∨ (¬ (y 1).val < 128 ∧ ¬ (y 1).val < 256 ∧ ¬ (y 1).val < 384) := by
      omega
    rcases hs with ⟨h1, h2, h3⟩ | ⟨h1, h2, h3⟩ | ⟨h1, h2, h3⟩ | ⟨h1, h2, h3⟩
    all_goals
      simp only [h1, h2, h3, ↓reduceDIte, add_zero, zero_add]
      refine gate_grad ?_ ?_ ?_ ?_ ?_
      all_goals blk_point [iblk, V, idx t]

set_option maxHeartbeats 4000000 in
/-- The gradient of the gain is the reference's. -/
theorem final6 (c : Dev nD) : (dats m 0 c).arrAt 6 cfg0.N
    = val_main_v50 (F := Ideal) (m (c.tc.loc main_arg0)) (m (c.tc.loc main_arg1)) (m (c.tc.loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => (0 : EReal))
    (fun t j => gainBlock m c t j)
    (fun t h j => by rw [outsAt0_A m c t h]; frame_out; exact zero_gain _ j)
    (fun t h j => by rw [outsAt0_B m c t h]; frame_out; exact add_gain _ _ j) (le_of_eq N_0) t0_7 rfl j, zero_add]
  have hj : j = ix2 (j 0) (j 1) := by blk_ext []
  rw [hj]
  exact gain_all m c (j 0) (j 1)

end Cert.DnPostBwdIdeal.RefValue

namespace Cert.Proof.DnPostBwdClaims

/-- Over the reals the kernel and the reference end with equal results. -/
theorem algebraic : Cert.algebraic_DnPostBwdIdeal_DnPostBwdRefIdeal := by
  pair_intro
  · run_from Cert.DnPostBwdIdeal.Value.run_blocks m g
  · run_from Cert.DnPostBwdRefIdeal.Value.run m' g'
    · rw [Cert.DnPostBwdIdeal.RefValue.final4 m c, Cert.DnPostBwdRefIdeal.Read.val_main_v48_eq (F := Ideal) m' c]; simp only [hagree c]
    · rw [Cert.DnPostBwdIdeal.RefValue.final5 m c]; rfl
    · rw [Cert.DnPostBwdIdeal.RefValue.final6 m c]; rfl

/-- The kernel runs to its end and keeps its arguments. -/
theorem frame : Cert.quiescent_DnPostBwd := fun m ρ _ => Cert.DnPostBwd.Gen.frame m ρ

/-- The idealized kernel runs to its end and keeps its arguments. -/
theorem frame_ideal : Cert.quiescent_DnPostBwdIdeal := fun m ρ _ => Cert.DnPostBwdIdeal.Gen.frame m ρ

/-- The idealized reference runs to its end and keeps its arguments. -/
theorem frame_ref : Cert.quiescent_DnPostBwdRefIdeal := fun m ρ _ =>
  (θ_run Cert.DnPostBwdRefIdeal.defs _ _).mono (fun r h => ⟨fun c => (h c).2.2.2, sem_eq_zero_of_no_sems (by decide) r.2⟩)
    (Cert.DnPostBwdRefIdeal.Value.run (F := Ideal) m ρ)

end Cert.Proof.DnPostBwdClaims
-- ==== Proof.SwaFwd.lean ====
/- The forward pass of the sliding-window attention: the queries and keys normed, the window's logits with their bias, the softmax
with a sink per head, and the weighted sum of the values. The kernel takes a block of 128 queries with the block before it and its
own block of keys, stacks a group's four heads, scales the queries, multiplies by the reciprocal of the softmax's sum and masks with
a very low number that the certificate names −∞. The reference scales the logits, divides by the sum and masks with −∞. -/
module

public import proofs.«01_k».proof.Defs
public import proofs.«01_k».proof.Proof.Gen.SwaFwd.Frame
public import proofs.«01_k».proof.Proof.Gen.SwaFwdIdeal.Value
public import proofs.«01_k».proof.Proof.Gen.SwaFwdRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.SwaFwdIdeal.RefValue

open Cert.SwaFwdIdeal Cert.SwaFwdIdeal.Gen Cert.SwaFwdIdeal.Value
open Cert.SwaFwdRefIdeal.Read

variable (m : (ℓ : Loc nD τ sig) → Buf (Elt Ideal) ℓ)

/-- The block indices of the windows at grid point `t`. -/
theorem idx : ∀ t : Fin cfg0.N, win0_0.index t = ![(grid0.coords t 0).val, 8]
    ∧ win0_1.index t = ![(grid0.coords t 0).val - 1, 36]
    ∧ win0_2.index t = ![(grid0.coords t 0).val, 36]
    ∧ win0_3.index t = ![(grid0.coords t 0).val - 1, 37]
    ∧ win0_4.index t = ![(grid0.coords t 0).val, 37]
    ∧ win0_5.index t = ![0, 0, 0]
    ∧ win0_6.index t = ![0, 0]
    ∧ win0_7.index t = ![0, 0]
    ∧ win0_8.index t = ![0, 0, 0]
    ∧ win0_9.index t = ![(grid0.coords t 0).val, 0] :=
  (by decide +kernel : ∀ t : Fin grid0.N, _)

/-- The row of query `i` of a group's head `g` in the kernel's stack of the group's heads. -/
abbrev qrow (g : Fin 4) (i : Fin 128) : Fin 512 := ⟨128 * g.val + i.val, by omega⟩

/-- The head `g` of group `kv`. -/
abbrev head (kv : Fin 2) (g : Fin 4) : Fin 8 := ⟨4 * kv.val + g.val, by omega⟩

/-- The query column of feature `d` of head `g` of group `kv`. -/
abbrev qcol (kv : Fin 2) (g : Fin 4) (d : Fin 64) : Fin 512 := ⟨256 * kv.val + 64 * g.val + d.val, by omega⟩

/-- The key column of feature `d` of group `kv`. -/
abbrev kcol (kv : Fin 2) (d : Fin 64) : Fin 128 := ⟨64 * kv.val + d.val, by omega⟩

/-- The window's bit: the key is one of the 128 that end at the query. -/
abbrev window (i : Fin 128) (s : Fin 256) : BitVec 1 :=
  IntOp.andi
    (IntOp.cmpi .sge (IntOp.subi (IntOp.addi 128#32 (BitVec.ofNat 32 i.val)) (BitVec.ofNat 32 s.val)) 0#32)
    (IntOp.cmpi .slt (IntOp.subi (IntOp.addi 128#32 (BitVec.ofNat 32 i.val)) (BitVec.ofNat 32 s.val)) 128#32)

/-- The bit of a key that exists: its position is not before the sequence's start. -/
abbrev exists_key (n : Fin 32) (s : Fin 256) : BitVec 1 :=
  IntOp.cmpi .sge (IntOp.addi (IntOp.muli (IntOp.subi (BitVec.ofNat 32 n.val) 1#32) 128#32) (BitVec.ofNat 32 s.val)) 0#32

/-- The scale of the logits: one over the square root of a head's features. -/
theorem scale_f32 : Ideal.ofBits .f32 0x3E000000#32 = ((1 / 8 : ℝ) : EReal) := by
  simp [Ideal.ofBits, Ideal.ieee, -EReal.coe_mul]; norm_num

/-- A head's features. -/
theorem features_f32 : Ideal.ofBits .f32 0x42800000#32 = ((64 : ℝ) : EReal) := by
  simp [Ideal.ofBits, Ideal.ieee, -EReal.coe_mul]; norm_num

/-- The norms' offset. -/
theorem offset_f32 : Ideal.ofBits .f32 0x358637BD#32 = ((8796093 / 8796093022208 : ℝ) : EReal) := by
  simp [Ideal.ofBits, Ideal.ieee, -EReal.coe_mul]; norm_num

/-- A value whose size is below infinity is a real number. -/
theorem real_of_lt {x : EReal} (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x with
  | bot => simp [Ideal.cmp] at h
  | coe r => exact ⟨r, rfl⟩
  | top => simp [Ideal.cmp] at h

/-- A sum of products of real numbers is a real number. -/
theorem real_sum {ι : Type} [Fintype ι] {f g : ι → EReal} (hf : ∀ i, ∃ r : ℝ, f i = (r : EReal))
    (hg : ∀ i, ∃ r : ℝ, g i = (r : EReal)) : ∃ r : ℝ, ∑ i, f i * g i = (r : EReal) := by
  choose a ha using hf
  choose b hb using hg
  classical
  refine Finset.induction_on Finset.univ ⟨0, by simp⟩ fun i s hi ih => ?_
  obtain ⟨r, hr⟩ := ih
  exact ⟨a i * b i + r, by rw [Finset.sum_insert hi, hr, ha, hb]; push_cast; rfl⟩

/-- A sum of squares of real numbers is not negative. -/
theorem squares_nonneg {ι : Type} [Fintype ι] {f : ι → EReal} (hf : ∀ i, ∃ r : ℝ, f i = (r : EReal)) : 0 ≤ ∑ i, f i * f i := by
  refine Finset.sum_nonneg fun i _ => ?_
  obtain ⟨r, hr⟩ := hf i
  rw [hr, ← EReal.coe_mul]
  exact EReal.coe_nonneg.mpr (mul_self_nonneg r)

/-- A normed value of real numbers is a real number. -/
theorem real_norm {f : Fin 64 → EReal} {w : EReal} (hf : ∀ i, ∃ r : ℝ, f i = (r : EReal)) (hw : ∃ r : ℝ, w = (r : EReal)) (d : Fin 64) :
    ∃ r : ℝ, f d * Ideal.rsqrt (Ideal.div (∑ x : Fin 64, f x * f x) (Ideal.ofBits .f32 0x42800000#32)
      + Ideal.ofBits .f32 0x358637BD#32) * w = (r : EReal) := by
  have hp := squares_nonneg hf
  obtain ⟨s, hs⟩ := real_sum hf hf
  obtain ⟨a, ha⟩ := hf d
  obtain ⟨b, hb⟩ := hw
  rw [hs] at hp ⊢
  have h0 : 0 ≤ s := EReal.coe_nonneg.mp hp
  have h1 : 0 < s * (1 / 64) + 8796093 / 8796093022208 := by positivity
  rw [features_f32, offset_f32, Ideal.div_coe (by norm_num), ← EReal.coe_mul, ← EReal.coe_add, Ideal.rsqrt_coe,
    if_neg (not_lt.mpr h1.le), if_neg h1.ne', ha, hb, ← EReal.coe_mul, ← EReal.coe_mul]
  exact ⟨_, rfl⟩

/-- A logit of real numbers is a real number. -/
theorem real_logit {f g : Fin 64 → EReal} {b : EReal} (hf : ∀ i, ∃ r : ℝ, f i = (r : EReal)) (hg : ∀ i, ∃ r : ℝ, g i = (r : EReal))
    (hb : ∃ r : ℝ, b = (r : EReal)) : ∃ r : ℝ, (∑ d, f d * g d) * Ideal.ofBits .f32 0x3E000000#32 + b = (r : EReal) := by
  obtain ⟨s, hs⟩ := real_sum hf hg
  obtain ⟨r, hr⟩ := hb
  rw [hs, hr, scale_f32, ← EReal.coe_mul, ← EReal.coe_add]
  exact ⟨_, rfl⟩

/-- A sum times a real number that is not negative. -/
theorem sum_mul_const {ι : Type} [Fintype ι] (f : ι → EReal) {r : ℝ} (hr : 0 ≤ r) :
    (∑ i, f i) * (r : EReal) = ∑ i, f i * (r : EReal) := by
  classical
  refine Finset.induction_on Finset.univ (by simp) fun a s ha ih => ?_
  rw [Finset.sum_insert ha, Finset.sum_insert ha,
    EReal.right_distrib_of_nonneg_of_ne_top (by exact_mod_cast hr) (EReal.coe_ne_top r), ih]

/-- The scale inside the queries is the scale of the sum. -/
theorem scaled_sum {q k q' k' : Fin 64 → EReal} {b b' : EReal} (hq : ∀ d, q d = q' d) (hk : ∀ d, k d = k' d) (hb : b = b') :
    ∑ d, q d * Ideal.ofBits .f32 0x3E000000#32 * k d + b
      = (∑ d, k' d * q' d) * Ideal.ofBits .f32 0x3E000000#32 + b' := by
  rw [scale_f32, sum_mul_const _ (by norm_num), hb]
  refine congrArg (· + b') (Finset.sum_congr rfl fun d _ => ?_)
  rw [hq, hk, mul_right_comm, mul_comm (q' d)]

/-- The side conditions of the precondition's operations. -/
instance : Cert.Pre_finite_logits.Facts where
  slices_S4096x5120_S4096x640_0_4096 := by decide
  bcast_S_S4096x640 := by decide
  bcast_S_S8x128x256 := by decide
  bcast_S_S1x64 := by decide
  bcast_S_S1x8 := by decide

/-- The same at an equal place. -/
theorem real_moved {ι : Type} {x : ι → EReal} {k k' : ι} (hk : k = k')
    (h : Ideal.cmp .olt (max (x k) (-(x k))) (Ideal.ofBits .f32 0x7F800000#32) = 1#1) : ∃ r : ℝ, x k' = (r : EReal) := by
  subst hk
  exact real_of_lt h

/-- The precondition at an entry of the projected queries or keys. -/
theorem real_proj (h : Cert.Pre_SwaFwdIdeal_finite_logits m) (c : Dev nD) (i : Fin 4096) (j : Fin 5120) (h1 : 4096 ≤ j.val) (h2 : j.val < 4736) :
    ∃ r : ℝ, (m (c.tc.loc main_arg0) (ix2 i j) : EReal) = (r : EReal) := by
  have e := congrFun (h c).1 (ix2 i (⟨j.val - 4096, by omega⟩ : Fin 640))
  refine real_moved (x := fun k : S4096x5120.Idx => (m (c.tc.loc main_arg0) k : EReal)) (k' := ix2 i j) ?_ e
  blk_ext []
  · rfl
  · show 4096 + (j.val - 4096) = j.val
    omega

/-- The precondition at an entry of the bias. -/
theorem real_bias (h : Cert.Pre_SwaFwdIdeal_finite_logits m) (c : Dev nD) (i : S8x128x256.Idx) :
    ∃ r : ℝ, (m (c.tc.loc main_arg1) i : EReal) = (r : EReal) := real_of_lt (congrFun (h c).2.1 i)

/-- The precondition at an entry of the queries' gain. -/
theorem real_q (h : Cert.Pre_SwaFwdIdeal_finite_logits m) (c : Dev nD) (i : S1x64.Idx) :
    ∃ r : ℝ, (m (c.tc.loc main_arg2) i : EReal) = (r : EReal) := real_of_lt (congrFun (h c).2.2.1 i)

/-- The precondition at an entry of the keys' gain. -/
theorem real_k (h : Cert.Pre_SwaFwdIdeal_finite_logits m) (c : Dev nD) (i : S1x64.Idx) :
    ∃ r : ℝ, (m (c.tc.loc main_arg3) i : EReal) = (r : EReal) := real_of_lt (congrFun (h c).2.2.2.1 i)

/-- The precondition at a sink. -/
theorem real_sink (h : Cert.Pre_SwaFwdIdeal_finite_logits m) (c : Dev nD) (i : S1x8.Idx) :
    ∃ r : ℝ, (m (c.tc.loc main_arg4) i : EReal) = (r : EReal) := real_of_lt (congrFun (h c).2.2.2.2 i)

/-- The kernel's bit of a key that exists is the reference's. -/
theorem exists_eq : ∀ (n : Fin 32) (s : Fin 256),
    IntOp.ori (IntOp.cmpi .sge (BitVec.ofNat 32 s.val) 128#32)
      (Scalar.xori (Scalar.cmpi .eq (BitVec.ofNat 32 n.val) 0#32) 1#1) = exists_key n s := by
  decide +kernel

/-- A key that exists has a row. -/
theorem row_of_exists : ∀ (n : Fin 32) (s : Fin 256), exists_key n s = 1#1 → 128 ≤ 128 * n.val + s.val := by
  decide +kernel

/-- A conjunction's second bit. -/
theorem second_bit {a b : BitVec 1} (h : IntOp.andi a b = 1#1) : b = 1#1 := by
  rcases BitVec.eq_zero_or_eq_one b with h0 | h1
  · rw [h0] at h
    simp [IntOp.andi] at h
  · exact h1

/-- A choice whose bit is set. -/
theorem select_set (a b : EReal) : Scalar.select 1#1 a b = a := if_pos rfl

/-- A choice whose bit is not set. -/
theorem select_unset {c : BitVec 1} {a b : EReal} (h : ¬ c = 1#1) : Scalar.select c a b = b := if_neg h

/-- An exponential is not negative. -/
theorem exp_nonneg (x : EReal) : 0 ≤ Ideal.exp x := by
  induction x with
  | bot => exact le_refl _
  | top => exact le_top
  | coe r => exact EReal.coe_nonneg.mpr (Real.exp_pos r).le

/-- The softmax with a sink: the kernel's product with the reciprocal is the reference's quotient, and a masked key's
    value is not read. -/
theorem softmax {L L' v v' : Fin 256 → EReal} {b b' z z' : EReal} (hz : z = ⊥) (hz' : z' = ⊥) (hL : ∀ s, L s = L' s) (hb : b = b')
    (hv : ∀ s, L' s ≠ ⊥ → v s = v' s) (hr : ∀ s, L' s ≠ ⊤) (hs : ∃ r : ℝ, b' = (r : EReal)) :
    ∑ s, Ideal.exp (L s - max (Finset.univ.fold max z L) b)
        * Ideal.div 1 (∑ x, Ideal.exp (L x - max (Finset.univ.fold max z L) b)
            + Ideal.exp (b - max (Finset.univ.fold max z L) b)) * v s
      = ∑ s, v' s * Ideal.div (Ideal.exp (L' s - max (Finset.univ.fold max z' L') b'))
          (∑ x, Ideal.exp (L' x - max (Finset.univ.fold max z' L') b')
            + Ideal.exp (b' - max (Finset.univ.fold max z' L') b')) := by
  obtain rfl : L = L' := funext hL
  subst hb hz hz'
  obtain ⟨q, rfl⟩ := hs
  have htop : max (Finset.univ.fold max (⊥ : EReal) L) (q : EReal) < ⊤ :=
    max_lt ((Finset.fold_max_lt _).mpr ⟨bot_lt_top, fun s _ => lt_top_iff_ne_top.mpr (hr s)⟩) (EReal.coe_lt_top q)
  have hbot : ⊥ < max (Finset.univ.fold max (⊥ : EReal) L) (q : EReal) := lt_of_lt_of_le (EReal.bot_lt_coe q) (le_max_right _ _)
  generalize max (Finset.univ.fold max (⊥ : EReal) L) (q : EReal) = M at htop hbot ⊢
  lift M to ℝ using ⟨htop.ne, hbot.ne'⟩
  have hd : (∑ x, Ideal.exp (L x - (M : EReal)) + Ideal.exp ((q : EReal) - (M : EReal))) ≠ 0 := by
    have h1 : (0 : EReal) < Ideal.exp ((q : EReal) - (M : EReal)) := by
      rw [← EReal.coe_sub]
      exact EReal.coe_pos.mpr (Real.exp_pos _)
    exact (lt_of_lt_of_le h1 (le_add_of_nonneg_left (Finset.sum_nonneg fun x _ => exp_nonneg _))).ne'
  generalize (∑ x, Ideal.exp (L x - (M : EReal)) + Ideal.exp ((q : EReal) - (M : EReal))) = D at hd ⊢
  refine Finset.sum_congr rfl fun s _ => ?_
  unfold Ideal.div
  rw [if_neg hd, if_neg hd, one_mul]
  by_cases hb : L s = ⊥
  · have h0 : Ideal.exp (L s - (M : EReal)) = 0 := by
      rw [hb, EReal.bot_sub]
      rfl
    rw [h0]
    simp
  · rw [hv s hb, mul_comm]

set_option maxHeartbeats 4000000 in
/-- The kernel's normed queries times its normed keys, and the bias. -/
theorem logits_at (q : Vec Ideal S128x512 .f32) (b : Vec Ideal S8x128x256 .f32) (w : Vec Ideal S1x64 .f32)
    (k : FVec Ideal S2x256x64 .f32) (kv : Fin 2) (g : Fin 4) (i : Fin 128) (s : Fin 256) :
    k0_pay10 (k0_pay2 q) b w k (k0_pay8 (k0_pay2 q)) (k0_pay9 (k0_pay2 q)) (ix3 kv (qrow g i) s)
      = ∑ d : Fin 64, q (ix2 i (qcol kv g d))
          * Ideal.rsqrt (Ideal.div (∑ x : Fin 64, q (ix2 i (qcol kv g x)) * q (ix2 i (qcol kv g x)))
              (Ideal.ofBits .f32 0x42800000#32) + Ideal.ofBits .f32 0x358637BD#32)
          * w (ix2 0 d) * Ideal.ofBits .f32 0x3E000000#32 * k (ix3 kv s d)
        + b (ix3 (head kv g) i s) := by
  have hkv := kv.isLt
  have hg := g.isLt
  pointwise [k0_pay10, k0_pay9, k0_pay8, k0_pay2]
  split_ifs
  all_goals first
    | (exfalso; omega)
    | blk_point [qrow, head, qcol]

/-- The kernel's keys: the previous block's, then this block's, normed. -/
theorem keys_at (k k' : Vec Ideal S128x128 .f32) (w : Vec Ideal S1x64 .f32) (kv : Fin 2) (s : Fin 256) (d : Fin 64) :
    k0_pay7 (k0_pay3 k) (k0_pay4 k') w (ix3 kv s d)
      = if h : s.val < 128 then
          k (ix2 ⟨s.val, h⟩ (kcol kv d))
            * Ideal.rsqrt (Ideal.div (∑ x : Fin 64, k (ix2 ⟨s.val, h⟩ (kcol kv x)) * k (ix2 ⟨s.val, h⟩ (kcol kv x)))
                (Ideal.ofBits .f32 0x42800000#32) + Ideal.ofBits .f32 0x358637BD#32) * w (ix2 0 d)
        else
          k' (ix2 ⟨s.val - 128, by omega⟩ (kcol kv d))
            * Ideal.rsqrt (Ideal.div (∑ x : Fin 64, k' (ix2 ⟨s.val - 128, by omega⟩ (kcol kv x)) * k' (ix2 ⟨s.val - 128, by omega⟩ (kcol kv x)))
                (Ideal.ofBits .f32 0x42800000#32) + Ideal.ofBits .f32 0x358637BD#32) * w (ix2 0 d) := by
  have hkv := kv.isLt
  pointwise [k0_pay7, k0_pay3, k0_pay4]
  split_ifs
  all_goals first
    | (exfalso; omega)
    | blk_point [kcol]

/-- The kernel's values: the previous block's, then this block's. -/
theorem values_at (v v' : Vec Ideal S128x128 .f32) (kv : Fin 2) (s : Fin 256) (d : Fin 64) :
    k0_pay6 v v' (ix3 kv s d)
      = if h : s.val < 128 then v (ix2 ⟨s.val, h⟩ (kcol kv d)) else v' (ix2 ⟨s.val - 128, by omega⟩ (kcol kv d)) := by
  have hkv := kv.isLt
  pointwise [k0_pay6]
  split_ifs
  all_goals first
    | (exfalso; omega)
    | blk_point [kcol]

/-- The kernel's sinks, one per head. -/
theorem sinks_at (v : FVec Ideal S2x1x4 .f32) (kv : Fin 2) (g : Fin 4) (i : Fin 128) :
    k0_pay13 v (ix3 kv (qrow g i) 0) = v (ix3 kv 0 g) := by
  have hkv := kv.isLt
  have hg := g.isLt
  pointwise [k0_pay13]
  split_ifs
  all_goals first
    | (exfalso; omega)
    | blk_point [qrow]

/-- The kernel's mask, the same for every head. -/
theorem mask_at (c : grid0.Coords) (kv : Fin 2) (g : Fin 4) (i : Fin 128) (s : Fin 256) :
    k0_pay11 (k0_pay1 c) (ix3 kv (qrow g i) s) = IntOp.andi (window i s) (exists_key (c 0) s) := by
  have hkv := kv.isLt
  have hg := g.isLt
  have h : k0_pay1 c (ix2 i s) = IntOp.andi (window i s) (exists_key (c 0) s) := by
    rw [← exists_eq (c 0) s]
    pointwise [k0_pay1]
  rw [← h]
  generalize k0_pay1 c = p
  pointwise [k0_pay11]
  split_ifs
  all_goals first
    | (exfalso; omega)
    | blk_point [qrow]

/-- The kernel's result at a column: the head's weighted sum of the values. -/
theorem result_at (v : FVec Ideal S2x256x64 .f32) (p : FVec Ideal S2x512x256 .f32) (z e : FVec Ideal S2x512x1 .f32)
    (kv : Fin 2) (g : Fin 4) (i : Fin 128) (d : Fin 64) :
    k0_pay18 v p z e (ix2 i (qcol kv g d))
      = ∑ s : Fin 256, p (ix3 kv (qrow g i) s)
          * Ideal.div 1 (z (ix3 kv (qrow g i) 0) + e (ix3 kv (qrow g i) 0)) * v (ix3 kv s d) := by
  have hkv := kv.isLt
  have hg := g.isLt
  have hd := d.isLt
  pointwise [k0_pay18]
  split_ifs
  all_goals first
    | (exfalso; omega)
    | blk_point [qrow, qcol]

/-- The kernel's masked logit: the least value where the mask's bit is not set. -/
theorem masked_at (L : FVec Ideal S2x512x256 .f32) (p : IVec S2x512x256 1) (kv : Fin 2) (r : Fin 512) (s : Fin 256) :
    k0_pay12 L p (ix3 kv r s) = Scalar.select (p (ix3 kv r s)) (L (ix3 kv r s)) (⊥ : EReal) := by
  pointwise [k0_pay12]
  rfl

/-- The kernel's peak of a row: the largest of its masked logits and its sink. -/
theorem peak_at (b : FVec Ideal S2x1x4 .f32) (L : FVec Ideal S2x512x256 .f32) (p : IVec S2x512x256 1) (kv : Fin 2) (r : Fin 512) :
    k0_pay14 b L p (ix3 kv r 0)
      = max (Finset.univ.fold max (Ideal.ofBits .f32 0xFF800000#32) fun s : Fin 256 => k0_pay12 L p (ix3 kv r s))
          (k0_pay13 b (ix3 kv r 0)) := by
  generalize hx : k0_pay12 L p = x
  generalize hy : k0_pay13 b = z
  unfold k0_pay14
  rw [hx, hy]
  pointwise []

/-- The kernel's exponentials. -/
theorem exp_at (b : FVec Ideal S2x1x4 .f32) (L : FVec Ideal S2x512x256 .f32) (p : IVec S2x512x256 1) (kv : Fin 2) (r : Fin 512) (s : Fin 256) :
    k0_pay15 b L p (ix3 kv r s) = Ideal.exp (k0_pay12 L p (ix3 kv r s) - k0_pay14 b L p (ix3 kv r 0)) := by
  generalize hx : k0_pay12 L p = x
  generalize hy : k0_pay14 b L p = z
  unfold k0_pay15
  rw [hx, hy]
  pointwise []

/-- The kernel's sum of a row's exponentials. -/
theorem total_at (b : FVec Ideal S2x1x4 .f32) (L : FVec Ideal S2x512x256 .f32) (p : IVec S2x512x256 1) (kv : Fin 2) (r : Fin 512) :
    k0_pay16 b L p (ix3 kv r 0) = ∑ s : Fin 256, k0_pay15 b L p (ix3 kv r s) := by
  generalize hx : k0_pay15 b L p = x
  unfold k0_pay16
  rw [hx]
  pointwise []

/-- The kernel's exponential of a row's sink. -/
theorem sink_exp_at (b : FVec Ideal S2x1x4 .f32) (L : FVec Ideal S2x512x256 .f32) (p : IVec S2x512x256 1) (kv : Fin 2) (r : Fin 512) :
    k0_pay17 b L p (ix3 kv r 0) = Ideal.exp (k0_pay13 b (ix3 kv r 0) - k0_pay14 b L p (ix3 kv r 0)) := by
  generalize hx : k0_pay13 b = x
  generalize hy : k0_pay14 b L p = z
  unfold k0_pay17
  rw [hx, hy]
  pointwise []

/-- The reference's largest masked logit. -/
theorem ref_max_at (x0 : Vec Ideal S4096x5120 .f32) (x1 : Vec Ideal S8x128x256 .f32) (x2 x3 : Vec Ideal S1x64 .f32) (n : Fin 32) (kv : Fin 2) (g : Fin 4) (i : Fin 128) :
    val_main_v92 (F := Ideal) x0 x1 x2 x3 (ix4 n kv g i)
      = Finset.univ.fold max (Ideal.ofBits .f32 0xFF800000#32) fun s : Fin 256 => val_main_v89 (F := Ideal) x0 x1 x2 x3 (ix5 n kv g i s) := by
  generalize hx : val_main_v89 (F := Ideal) x0 x1 x2 x3 = L
  unfold val_main_v92
  rw [hx, Host.reduce_eq_fold, Shape.ReducesTo.fold_fiber_r5_a4]
  rfl

/-- The reference's sink of a head. -/
theorem ref_sink_at (x4 : Vec Ideal S1x8 .f32) (n : Fin 32) (kv : Fin 2) (g : Fin 4) (i : Fin 128) :
    val_main_v94 (F := Ideal) x4 (ix5 n kv g i 0) = x4 (ix2 0 (head kv g)) := by
  pointwise [val_main_v94, val_main_v91, val_main_v90, val_main_v5]
  blk_point [head]

/-- The reference's peak: the largest masked logit or the sink. -/
theorem ref_peak_at (x0 : Vec Ideal S4096x5120 .f32) (x1 : Vec Ideal S8x128x256 .f32) (x2 x3 : Vec Ideal S1x64 .f32) (x4 : Vec Ideal S1x8 .f32) (n : Fin 32) (kv : Fin 2) (g : Fin 4) (i : Fin 128) :
    val_main_v95 (F := Ideal) x0 x1 x2 x3 x4 (ix5 n kv g i 0)
      = max (val_main_v92 (F := Ideal) x0 x1 x2 x3 (ix4 n kv g i)) (val_main_v94 (F := Ideal) x4 (ix5 n kv g i 0)) := by
  have h : val_main_v93 (F := Ideal) x0 x1 x2 x3 (ix5 n kv g i 0) = val_main_v92 (F := Ideal) x0 x1 x2 x3 (ix4 n kv g i) := by
    unfold val_main_v93
    generalize val_main_v92 (F := Ideal) x0 x1 x2 x3 = L
    pointwise []
  rw [val_main_v95_apply, h]
  generalize val_main_v92 (F := Ideal) x0 x1 x2 x3 (ix4 n kv g i) = a
  generalize val_main_v94 (F := Ideal) x4 (ix5 n kv g i 0) = b
  rfl

/-- The reference's exponentials. -/
theorem ref_exp_at (x0 : Vec Ideal S4096x5120 .f32) (x1 : Vec Ideal S8x128x256 .f32) (x2 x3 : Vec Ideal S1x64 .f32) (x4 : Vec Ideal S1x8 .f32) (n : Fin 32) (kv : Fin 2) (g : Fin 4) (i : Fin 128) (s : Fin 256) :
    val_main_v98 (F := Ideal) x0 x1 x2 x3 x4 (ix5 n kv g i s)
      = Ideal.exp (val_main_v89 (F := Ideal) x0 x1 x2 x3 (ix5 n kv g i s) - val_main_v95 (F := Ideal) x0 x1 x2 x3 x4 (ix5 n kv g i 0)) := by
  pointwise [val_main_v98, val_main_v97, val_main_v96]

/-- The reference's weights. -/
theorem ref_weight_at (x0 : Vec Ideal S4096x5120 .f32) (x1 : Vec Ideal S8x128x256 .f32) (x2 x3 : Vec Ideal S1x64 .f32) (x4 : Vec Ideal S1x8 .f32) (n : Fin 32) (kv : Fin 2) (g : Fin 4) (i : Fin 128) (s : Fin 256) :
    val_main_v106 (F := Ideal) x0 x1 x2 x3 x4 (ix5 n kv g i s)
      = Ideal.div (val_main_v98 (F := Ideal) x0 x1 x2 x3 x4 (ix5 n kv g i s)) (val_main_v104 (F := Ideal) x0 x1 x2 x3 x4 (ix5 n kv g i 0)) := by
  pointwise [val_main_v106, val_main_v105]

/-- The reference's sum of the exponentials and the sink's. -/
theorem ref_total_at (x0 : Vec Ideal S4096x5120 .f32) (x1 : Vec Ideal S8x128x256 .f32) (x2 x3 : Vec Ideal S1x64 .f32) (x4 : Vec Ideal S1x8 .f32) (n : Fin 32) (kv : Fin 2) (g : Fin 4) (i : Fin 128) :
    val_main_v104 (F := Ideal) x0 x1 x2 x3 x4 (ix5 n kv g i 0)
      = ∑ s : Fin 256, val_main_v98 (F := Ideal) x0 x1 x2 x3 x4 (ix5 n kv g i s)
        + Ideal.exp (x4 (ix2 0 (head kv g)) - val_main_v95 (F := Ideal) x0 x1 x2 x3 x4 (ix5 n kv g i 0)) := by
  pointwise [val_main_v104, val_main_v103, val_main_v102, val_main_v101, val_main_v100, val_main_v99, val_main_v91, val_main_v90, val_main_v5, val_main_cst_15]
  blk_point [head]

/-- The reference's weighted sum of the values. -/
theorem ref_sum_at (x0 : Vec Ideal S4096x5120 .f32) (x1 : Vec Ideal S8x128x256 .f32) (x2 x3 : Vec Ideal S1x64 .f32) (x4 : Vec Ideal S1x8 .f32) (n : Fin 32) (kv : Fin 2) (g : Fin 4) (i : Fin 128) (d : Fin 64) :
    val_main_v107 (F := Ideal) x0 x1 x2 x3 x4 (ix5 n kv d g i)
      = ∑ s : Fin 256, val_main_v47 (F := Ideal) x0 (ix4 n s kv d) * val_main_v106 (F := Ideal) x0 x1 x2 x3 x4 (ix5 n kv g i s) := by
  generalize hx : val_main_v47 (F := Ideal) x0 = v
  generalize hy : val_main_v106 (F := Ideal) x0 x1 x2 x3 x4 = w
  unfold val_main_v107
  rw [hx, hy]
  pointwise []

/-- The reference's value at a key that exists. -/
theorem ref_value_at (x0 : Vec Ideal S4096x5120 .f32) (n : Fin 32) (kv : Fin 2) (s : Fin 256) (d : Fin 64) (h : 128 ≤ 128 * n.val + s.val) :
    val_main_v47 (F := Ideal) x0 (ix4 n s kv d) = x0 (ix2 ⟨128 * n.val + s.val - 128, by omega⟩ ⟨4736 + 64 * kv.val + d.val, by omega⟩) := by
  have hn := n.isLt
  have hs := s.isLt
  pointwise [val_main_v47, val_main_v46, val_main_v45, val_main_v44, val_main_v43, val_main_v42, val_main_v34, val_main_v2, val_main_cst_6, val_main_cst_5]
  split_ifs
  all_goals first
    | (exfalso; omega)
    | blk_point []

/-- The reference's result, in the array's layout. -/
theorem ref_result_at (x0 : Vec Ideal S4096x5120 .f32) (x1 : Vec Ideal S8x128x256 .f32) (x2 x3 : Vec Ideal S1x64 .f32) (x4 : Vec Ideal S1x8 .f32) (n : Fin 32) (kv : Fin 2) (g : Fin 4) (i : Fin 128) (d : Fin 64) :
    val_main_v110 (F := Ideal) x0 x1 x2 x3 x4 (ix2 ⟨128 * n.val + i.val, by omega⟩ (qcol kv g d))
      = val_main_v107 (F := Ideal) x0 x1 x2 x3 x4 (ix5 n kv d g i) := by
  generalize hx : val_main_v107 (F := Ideal) x0 x1 x2 x3 x4 = v
  pointwise [val_main_v110, val_main_v109, val_main_v108]
  rw [hx]
  have hkv := kv.isLt
  have hg := g.isLt
  have hi := i.isLt
  have hd := d.isLt
  blk_point [qcol]

/-- The reference's masked logit. -/
theorem ref_masked_at (x0 : Vec Ideal S4096x5120 .f32) (x1 : Vec Ideal S8x128x256 .f32) (x2 x3 : Vec Ideal S1x64 .f32) (n : Fin 32) (kv : Fin 2) (g : Fin 4) (i : Fin 128) (s : Fin 256) :
    val_main_v89 (F := Ideal) x0 x1 x2 x3 (ix5 n kv g i s)
      = Scalar.select (IntOp.andi (window i s) (exists_key n s)) (val_main_v88 (F := Ideal) x0 x1 x2 x3 (ix5 n kv g i s)) (⊥ : EReal) := by
  have hbot : Ideal.ofBits .f32 0xFF800000#32 = (⊥ : EReal) := by simp [Ideal.ofBits, Ideal.ieee]
  rw [← hbot]
  unfold val_main_v89
  generalize val_main_v88 (F := Ideal) x0 x1 x2 x3 = L
  pointwise [val_main_call0_v2, val_main_call0_v1, val_main_call0_v0, val_main_cst_13, val_main_v87, val_main_v86, val_main_v85, val_main_v84, val_main_v83, val_main_v82, val_main_v81, val_main_v80, val_main_v79, val_main_v78, val_main_c_12, val_main_v77, val_main_v76, val_main_v75, val_main_v74, val_main_v73, val_main_v72, val_main_v71, val_main_v70, val_main_c_11, val_main_v69, val_main_v68, val_main_c_10, val_main_v67, val_main_v66, val_main_v65, val_main_v64, val_main_v63, val_main_c_9, val_main_v62, val_main_v61, val_main_c_8, val_main_v60, val_main_v59, val_main_v58, val_main_v57, val_main_v56, val_main_c, val_main_v55, val_main_v54, val_main_v53, val_main_v52, val_main_v51, val_main_v50, val_main_cst_7, val_main_v49, val_main_v48, val_main_v47, val_main_v46, val_main_v45, val_main_v44, val_main_v43, val_main_v42, val_main_cst_6, val_main_v41, val_main_v40, val_main_v39, val_main_v38, val_main_v37, val_main_v36, val_main_cst_5, val_main_v35, val_main_v34, val_main_v33, val_main_v32, val_main_v31, val_main_v30, val_main_v29, val_main_v28, val_main_v27, val_main_v26, val_main_cst_4, val_main_v25, val_main_v24, val_main_cst_3, val_main_v23, val_main_v22, val_main_cst_2, val_main_v21, val_main_v20, val_main_v19, val_main_v18, val_main_v17, val_main_v16, val_main_v15, val_main_v14, val_main_v13, val_main_v12, val_main_cst_1, val_main_v11, val_main_v10, val_main_cst_0, val_main_v9, val_main_v8, val_main_cst, val_main_v7, val_main_v6, val_main_v5, val_main_v4, val_main_v3, val_main_v2, val_main_v1, val_main_v0]
  rfl

set_option maxHeartbeats 4000000 in
/-- The reference's logit at a key that exists. -/
theorem ref_logit_at (x0 : Vec Ideal S4096x5120 .f32) (x1 : Vec Ideal S8x128x256 .f32) (x2 x3 : Vec Ideal S1x64 .f32) (n : Fin 32) (kv : Fin 2) (g : Fin 4) (i : Fin 128) (s : Fin 256)
    (h : 128 ≤ 128 * n.val + s.val) :
    val_main_v88 (F := Ideal) x0 x1 x2 x3 (ix5 n kv g i s)
      = (∑ d : Fin 64, x0 (ix2 ⟨128 * n.val + s.val - 128, by omega⟩ ⟨4608 + (kcol kv d).val, by omega⟩)
            * Ideal.rsqrt (Ideal.div (∑ x : Fin 64, x0 (ix2 ⟨128 * n.val + s.val - 128, by omega⟩ ⟨4608 + (kcol kv x).val, by omega⟩)
                * x0 (ix2 ⟨128 * n.val + s.val - 128, by omega⟩ ⟨4608 + (kcol kv x).val, by omega⟩))
                (Ideal.ofBits .f32 0x42800000#32) + Ideal.ofBits .f32 0x358637BD#32) * x3 (ix2 0 d)
          * (x0 (ix2 ⟨128 * n.val + i.val, by omega⟩ ⟨4096 + (qcol kv g d).val, by omega⟩)
            * Ideal.rsqrt (Ideal.div (∑ x : Fin 64, x0 (ix2 ⟨128 * n.val + i.val, by omega⟩ ⟨4096 + (qcol kv g x).val, by omega⟩)
                * x0 (ix2 ⟨128 * n.val + i.val, by omega⟩ ⟨4096 + (qcol kv g x).val, by omega⟩))
                (Ideal.ofBits .f32 0x42800000#32) + Ideal.ofBits .f32 0x358637BD#32) * x2 (ix2 0 d)))
          * Ideal.ofBits .f32 0x3E000000#32 + x1 (ix3 (head kv g) i s) := by
  have hn := n.isLt
  have hkv := kv.isLt
  have hg := g.isLt
  pointwise [val_main_v88, val_main_v87, val_main_v86, val_main_v85, val_main_v84, val_main_v83, val_main_v82, val_main_v81, val_main_v80, val_main_v79, val_main_v78, val_main_c_12, val_main_v77, val_main_v76, val_main_v75, val_main_v74, val_main_v73, val_main_v72, val_main_v71, val_main_v70, val_main_c_11, val_main_v69, val_main_v68, val_main_c_10, val_main_v67, val_main_v66, val_main_v65, val_main_v64, val_main_v63, val_main_c_9, val_main_v62, val_main_v61, val_main_c_8, val_main_v60, val_main_v59, val_main_v58, val_main_v57, val_main_v56, val_main_c, val_main_v55, val_main_v54, val_main_v53, val_main_v52, val_main_v51, val_main_v50, val_main_cst_7, val_main_v49, val_main_v48, val_main_v47, val_main_v46, val_main_v45, val_main_v44, val_main_v43, val_main_v42, val_main_cst_6, val_main_v41, val_main_v40, val_main_v39, val_main_v38, val_main_v37, val_main_v36, val_main_cst_5, val_main_v35, val_main_v34, val_main_v33, val_main_v32, val_main_v31, val_main_v30, val_main_v29, val_main_v28, val_main_v27, val_main_v26, val_main_cst_4, val_main_v25, val_main_v24, val_main_cst_3, val_main_v23, val_main_v22, val_main_cst_2, val_main_v21, val_main_v20, val_main_v19, val_main_v18, val_main_v17, val_main_v16, val_main_v15, val_main_v14, val_main_v13, val_main_v12, val_main_cst_1, val_main_v11, val_main_v10, val_main_cst_0, val_main_v9, val_main_v8, val_main_cst, val_main_v7, val_main_v6, val_main_v5, val_main_v4, val_main_v3, val_main_v2, val_main_v1, val_main_v0]
  have h1 : ¬ n.val * 128 + s.val < 128 := by omega
  by_cases hs : s.val < 128
  · simp only [hs, h1, ↓reduceDIte]
    blk_point [head, qcol, kcol]
  · have h2 : ¬ (1 + n.val) * 128 + (s.val - 128) < 128 := by omega
    simp only [hs, h2, ↓reduceDIte]
    blk_point [head, qcol, kcol]

/-- One block's result, of blocks that hold the arrays' rows: the kernel's is the reference's. -/
theorem block_eq (x0 : Vec Ideal S4096x5120 .f32) (x1 : Vec Ideal S8x128x256 .f32) (x2 x3 : Vec Ideal S1x64 .f32) (x4 : Vec Ideal S1x8 .f32) (n : Fin 32) (co : grid0.Coords) (hco : ∀ s, exists_key (co 0) s = exists_key n s)
    (q : Vec Ideal S128x512 .f32) (kp kc vp vc : Vec Ideal S128x128 .f32) (b : Vec Ideal S8x128x256 .f32) (wq wk : Vec Ideal S1x64 .f32)
    (sk : Vec Ideal S2x1x4 .f32)
    (hq : ∀ (i : Fin 128) (j : Fin 512), q (ix2 i j) = x0 (ix2 ⟨128 * n.val + i.val, by omega⟩ ⟨4096 + j.val, by omega⟩))
    (hkp : ∀ (i j : Fin 128), 0 < n.val → kp (ix2 i j) = x0 (ix2 ⟨128 * n.val + i.val - 128, by omega⟩ ⟨4608 + j.val, by omega⟩))
    (hkc : ∀ (i j : Fin 128), kc (ix2 i j) = x0 (ix2 ⟨128 * n.val + i.val, by omega⟩ ⟨4608 + j.val, by omega⟩))
    (hvp : ∀ (i j : Fin 128), 0 < n.val → vp (ix2 i j) = x0 (ix2 ⟨128 * n.val + i.val - 128, by omega⟩ ⟨4736 + j.val, by omega⟩))
    (hvc : ∀ (i j : Fin 128), vc (ix2 i j) = x0 (ix2 ⟨128 * n.val + i.val, by omega⟩ ⟨4736 + j.val, by omega⟩))
    (hb : ∀ y, b y = x1 y) (hwq : ∀ y, wq y = x2 y) (hwk : ∀ y, wk y = x3 y)
    (hsk : ∀ (kv : Fin 2) (g : Fin 4), k0_pay5 sk (ix3 kv 0 g) = x4 (ix2 0 (head kv g)))
    (h0 : ∀ (i : Fin 4096) (j : Fin 5120), 4096 ≤ j.val → j.val < 4736 → ∃ r : ℝ, (x0 (ix2 i j) : EReal) = (r : EReal))
    (h1 : ∀ y, ∃ r : ℝ, (x1 y : EReal) = (r : EReal)) (h2 : ∀ y, ∃ r : ℝ, (x2 y : EReal) = (r : EReal))
    (h3 : ∀ y, ∃ r : ℝ, (x3 y : EReal) = (r : EReal)) (h4 : ∀ y, ∃ r : ℝ, (x4 y : EReal) = (r : EReal))
    (kv : Fin 2) (g : Fin 4) (i : Fin 128) (d : Fin 64) :
    k0_pay18 (k0_pay6 vp vc)
        (k0_pay15 (k0_pay5 sk) (k0_pay10 (k0_pay2 q) b wq (k0_pay7 (k0_pay3 kp) (k0_pay4 kc) wk) (k0_pay8 (k0_pay2 q)) (k0_pay9 (k0_pay2 q)))
          (k0_pay11 (k0_pay1 co)))
        (k0_pay16 (k0_pay5 sk) (k0_pay10 (k0_pay2 q) b wq (k0_pay7 (k0_pay3 kp) (k0_pay4 kc) wk) (k0_pay8 (k0_pay2 q)) (k0_pay9 (k0_pay2 q)))
          (k0_pay11 (k0_pay1 co)))
        (k0_pay17 (k0_pay5 sk) (k0_pay10 (k0_pay2 q) b wq (k0_pay7 (k0_pay3 kp) (k0_pay4 kc) wk) (k0_pay8 (k0_pay2 q)) (k0_pay9 (k0_pay2 q)))
          (k0_pay11 (k0_pay1 co))) (ix2 i (qcol kv g d))
      = val_main_v110 (F := Ideal) x0 x1 x2 x3 x4 (ix2 ⟨128 * n.val + i.val, by omega⟩ (qcol kv g d)) := by
  have hbot : Ideal.ofBits .f32 0xFF800000#32 = (⊥ : EReal) := by simp [Ideal.ofBits, Ideal.ieee]
  have hkey : ∀ (s : Fin 256) (e : Fin 64), 128 ≤ 128 * n.val + s.val →
      k0_pay7 (k0_pay3 kp) (k0_pay4 kc) wk (ix3 kv s e)
        = x0 (ix2 ⟨128 * n.val + s.val - 128, by omega⟩ ⟨4608 + (kcol kv e).val, by omega⟩)
            * Ideal.rsqrt (Ideal.div (∑ x : Fin 64, x0 (ix2 ⟨128 * n.val + s.val - 128, by omega⟩ ⟨4608 + (kcol kv x).val, by omega⟩)
                * x0 (ix2 ⟨128 * n.val + s.val - 128, by omega⟩ ⟨4608 + (kcol kv x).val, by omega⟩))
                (Ideal.ofBits .f32 0x42800000#32) + Ideal.ofBits .f32 0x358637BD#32) * x3 (ix2 0 e) := by
    intro s e hr
    rw [keys_at]
    by_cases hs : s.val < 128
    · simp only [hs, ↓reduceDIte, hkp _ _ (show 0 < n.val by omega), hwk]
    · have e1 : ∀ j : Fin 128, kc (ix2 ⟨s.val - 128, by omega⟩ j)
          = x0 (ix2 ⟨128 * n.val + s.val - 128, by omega⟩ ⟨4608 + j.val, by omega⟩) := by
        intro j
        rw [hkc]
        exact congrArg (fun a : Fin 4096 => x0 (ix2 a ⟨4608 + j.val, by omega⟩))
          (Fin.ext (by show 128 * n.val + (s.val - 128) = 128 * n.val + s.val - 128; omega))
      simp only [hs, ↓reduceDIte, e1, hwk]
  have hvalue : ∀ s : Fin 256, 128 ≤ 128 * n.val + s.val →
      k0_pay6 vp vc (ix3 kv s d) = val_main_v47 (F := Ideal) x0 (ix4 n s kv d) := by
    intro s hr
    rw [values_at, ref_value_at x0 n kv s d hr]
    by_cases hs : s.val < 128
    · rw [dif_pos hs, hvp _ _ (by omega)]
      exact congrArg (fun a : Fin 5120 => x0 (ix2 ⟨128 * n.val + s.val - 128, by omega⟩ a))
        (Fin.ext (by show 4736 + (64 * kv.val + d.val) = 4736 + 64 * kv.val + d.val; omega))
    · rw [dif_neg hs, hvc]
      refine congrArg₂ (fun (a : Fin 4096) (e : Fin 5120) => x0 (ix2 a e)) (Fin.ext ?_) (Fin.ext ?_)
      · show 128 * n.val + (s.val - 128) = 128 * n.val + s.val - 128
        omega
      · show 4736 + (64 * kv.val + d.val) = 4736 + 64 * kv.val + d.val
        omega
  rw [result_at, ref_result_at, ref_sum_at]
  simp only [exp_at, total_at, sink_exp_at, peak_at, ref_weight_at, ref_total_at, ref_exp_at, ref_peak_at, ref_sink_at]
  rw [ref_max_at x0 x1 x2 x3 n kv g i]
  have hL : ∀ s : Fin 256,
      k0_pay12 (k0_pay10 (k0_pay2 q) b wq (k0_pay7 (k0_pay3 kp) (k0_pay4 kc) wk) (k0_pay8 (k0_pay2 q)) (k0_pay9 (k0_pay2 q)))
        (k0_pay11 (k0_pay1 co)) (ix3 kv (qrow g i) s) = val_main_v89 (F := Ideal) x0 x1 x2 x3 (ix5 n kv g i s) := by
    intro s
    rw [masked_at, mask_at, hco s, ref_masked_at]
    by_cases hm : IntOp.andi (window i s) (exists_key n s) = 1#1
    · rw [hm, logits_at, ref_logit_at x0 x1 x2 x3 n kv g i s (row_of_exists n s (second_bit hm))]
      refine congrArg (fun z : EReal => Scalar.select 1#1 z (⊥ : EReal)) (scaled_sum (fun e => ?_) (fun e => ?_) (hb _))
      · simp only [hq, hwq]
      · exact hkey s e (row_of_exists n s (second_bit hm))
    · rw [select_unset hm, select_unset hm]
  have hR : ∀ s : Fin 256, val_main_v89 (F := Ideal) x0 x1 x2 x3 (ix5 n kv g i s) ≠ (⊤ : EReal) := by
    intro s
    rw [ref_masked_at]
    by_cases hm : IntOp.andi (window i s) (exists_key n s) = 1#1
    · rw [hm, ref_logit_at x0 x1 x2 x3 n kv g i s (row_of_exists n s (second_bit hm)), select_set]
      obtain ⟨r, hr⟩ := real_logit
        (fun e => real_norm (f := fun x : Fin 64 => x0 (ix2 ⟨128 * n.val + s.val - 128, by omega⟩ ⟨4608 + (kcol kv x).val, by omega⟩))
          (fun x => h0 _ _ (by show 4096 ≤ 4608 + (kcol kv x).val; omega) (by show 4608 + (kcol kv x).val < 4736; omega)) (h3 (ix2 0 e)) e)
        (fun e => real_norm (f := fun x : Fin 64 => x0 (ix2 ⟨128 * n.val + i.val, by omega⟩ ⟨4096 + (qcol kv g x).val, by omega⟩))
          (fun x => h0 _ _ (by show 4096 ≤ 4096 + (qcol kv g x).val; omega) (by show 4096 + (qcol kv g x).val < 4736; omega)) (h2 (ix2 0 e)) e)
        (h1 (ix3 (head kv g) i s))
      exact fun e => EReal.coe_ne_top r (hr.symm.trans e)
    · rw [select_unset hm]
      exact bot_ne_top
  have hM : ∀ s : Fin 256, val_main_v89 (F := Ideal) x0 x1 x2 x3 (ix5 n kv g i s) ≠ (⊥ : EReal) → 128 ≤ 128 * n.val + s.val := by
    intro s hs
    refine row_of_exists n s ?_
    by_contra hx
    refine hs ?_
    rw [ref_masked_at, select_unset fun h => hx (second_bit h)]
  have hS : k0_pay13 (k0_pay5 sk) (ix3 kv (qrow g i) 0) = x4 (ix2 0 (head kv g)) := by
    rw [sinks_at]
    exact hsk kv g
  generalize k0_pay12 (k0_pay10 (k0_pay2 q) b wq (k0_pay7 (k0_pay3 kp) (k0_pay4 kc) wk) (k0_pay8 (k0_pay2 q)) (k0_pay9 (k0_pay2 q)))
    (k0_pay11 (k0_pay1 co)) = A at hL ⊢
  generalize k0_pay13 (k0_pay5 sk) (ix3 kv (qrow g i) 0) = S at hS ⊢
  generalize k0_pay6 vp vc = V at hvalue ⊢
  generalize val_main_v47 (F := Ideal) x0 = V' at hvalue ⊢
  generalize val_main_v89 (F := Ideal) x0 x1 x2 x3 = A' at hL hR hM ⊢
  exact softmax (L := fun s => A (ix3 kv (qrow g i) s)) (L' := fun s => A' (ix5 n kv g i s)) (v := fun s => V (ix3 kv s d))
    (v' := fun s => V' (ix4 n s kv d)) hbot hbot hL hS (fun s h => hvalue s (hM s h)) hR (h4 _)

set_option maxHeartbeats 4000000 in
/-- The attention's result. -/
theorem final9 (h : Cert.Pre_SwaFwdIdeal_finite_logits m) (c : Dev nD) : (dats m 0 c).arrAt 9 cfg0.N
    = val_main_v110 (F := Ideal) (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t hf y => ?_
  blk_simp
  rw [after0_9]
  unfold_out out0_9
  frame_out
  have hn : (grid0.coords t 0).val < 32 := (grid0.coords t 0).isLt
  have hy0 : (y 0).val < 128 := (y 0).isLt
  have hy1 : (y 1).val < 512 := (y 1).isLt
  have hy : y = ix2 (⟨(y 0).val, hy0⟩ : Fin 128)
      (qcol ⟨(y 1).val / 256, by omega⟩ ⟨(y 1).val % 256 / 64, by omega⟩ ⟨(y 1).val % 64, by omega⟩) := by
    blk_ext [qcol]
  rw [hy]
  refine (block_eq (m (c.tc.loc main_arg0)) (m (c.tc.loc main_arg1)) (m (c.tc.loc main_arg2)) (m (c.tc.loc main_arg3))
    (m (c.tc.loc main_arg4)) ⟨(grid0.coords t 0).val, hn⟩ (grid0.coords t) (fun _ => rfl) _ _ _ _ _ _ _ _ _
    ?_ ?_ ?_ ?_ ?_ ?_ ?_ ?_ ?_ (real_proj m h c) (real_bias m h c) (real_q m h c) (real_k m h c) (real_sink m h c) _ _ _ _).trans
    (congrArg (val_main_v110 (F := Ideal) (m (c.tc.loc main_arg0)) (m (c.tc.loc main_arg1)) (m (c.tc.loc main_arg2))
      (m (c.tc.loc main_arg3)) (m (c.tc.loc main_arg4))) ?_)
  · intro i j
    blk_point [iblk, V, idx t]
  · intro i j hp
    have hp' : 0 < (grid0.coords t 0).val := hp
    blk_point [iblk, V, idx t]
  · intro i j
    blk_point [iblk, V, idx t]
  · intro i j hp
    have hp' : 0 < (grid0.coords t 0).val := hp
    blk_point [iblk, V, idx t]
  · intro i j
    blk_point [iblk, V, idx t]
  · intro z
    blk_point [iblk, V, idx t]
  · intro z
    blk_point [iblk, V, idx t]
  · intro z
    blk_point [iblk, V, idx t]
  · intro kv g
    have hkv := kv.isLt
    have hg := g.isLt
    pointwise [k0_pay5]
    blk_point [iblk, V, idx t, head]
  · blk_ext [idx t]

end Cert.SwaFwdIdeal.RefValue

namespace Cert.Proof.SwaFwdClaims

/-- Over the reals the kernel and the reference end with equal results. -/
theorem algebraic : Cert.algebraic_SwaFwdIdeal_SwaFwdRefIdeal_pre_finite_logits := by
  pair_intro
  · run_from Cert.SwaFwdIdeal.Value.run_blocks m g
  · run_from Cert.SwaFwdRefIdeal.Value.run m' g'
    rw [Cert.SwaFwdIdeal.RefValue.final9 m hpre c, Cert.SwaFwdRefIdeal.Read.val_main_v110_eq (F := Ideal) m' c]; simp only [hagree c]

/-- The kernel runs to its end and keeps its arguments. -/
theorem frame : Cert.quiescent_SwaFwd := fun m ρ _ => Cert.SwaFwd.Gen.frame m ρ

/-- The idealized kernel runs to its end and keeps its arguments. -/
theorem frame_ideal : Cert.quiescent_SwaFwdIdeal := fun m ρ _ => Cert.SwaFwdIdeal.Gen.frame m ρ

/-- The idealized reference runs to its end and keeps its arguments. -/
theorem frame_ref : Cert.quiescent_SwaFwdRefIdeal := fun m ρ _ =>
  (θ_run Cert.SwaFwdRefIdeal.defs _ _).mono (fun r h => ⟨fun c => (h c).2, sem_eq_zero_of_no_sems (by decide) r.2⟩)
    (Cert.SwaFwdRefIdeal.Value.run (F := Ideal) m ρ)

/-- The same under the precondition. -/
theorem frame_ideal_pre : Cert.quiescent_SwaFwdIdeal_pre_finite_logits := fun m ρ _ => Cert.SwaFwdIdeal.Gen.frame m ρ

/-- The same under the precondition. -/
theorem frame_ref_pre : Cert.quiescent_SwaFwdRefIdeal_pre_finite_logits := fun m ρ _ =>
  (θ_run Cert.SwaFwdRefIdeal.defs _ _).mono (fun r h => ⟨fun c => (h c).2, sem_eq_zero_of_no_sems (by decide) r.2⟩)
    (Cert.SwaFwdRefIdeal.Value.run (F := Ideal) m ρ)

end Cert.Proof.SwaFwdClaims
-- ==== Proof.lean ====
/- The certificate: the frames of every program, and of every call what its idealization rewrote and that the
   kernel and the reference agree over the reals. Only the attention's idealization rewrites: the constant of its mask.
   Each call's proof is a module of its own under Proof/. -/
module

public import proofs.«01_k».proof.Defs
public import proofs.«01_k».proof.Proof.MergeBwd
public import proofs.«01_k».proof.Proof.GwGateUp
public import proofs.«01_k».proof.Proof.GwIn
public import proofs.«01_k».proof.Proof.DBranch
public import proofs.«01_k».proof.Proof.GwBranch
public import proofs.«01_k».proof.Proof.DhRms
public import proofs.«01_k».proof.Proof.FfnDh2
public import proofs.«01_k».proof.Proof.GwDown
public import proofs.«01_k».proof.Proof.GwOut
public import proofs.«01_k».proof.Proof.InProj
public import proofs.«01_k».proof.Proof.FfnUp
public import proofs.«01_k».proof.Proof.BranchMerge
public import proofs.«01_k».proof.Proof.OutProj
public import proofs.«01_k».proof.Proof.FfnDact
public import proofs.«01_k».proof.Proof.FfnDownLoss
public import proofs.«01_k».proof.Proof.DnPostBwd
public import proofs.«01_k».proof.Proof.SwaFwd

@[expose] public section

noncomputable section

namespace Cert.Proof

/-- Everything the certificate claims. -/
theorem claim : Cert.Claim :=
  ⟨inferInstance, inferInstance, inferInstance, inferInstance, inferInstance, inferInstance,
    inferInstance, inferInstance, inferInstance, inferInstance, inferInstance, inferInstance,
    inferInstance, inferInstance, inferInstance, inferInstance, inferInstance, inferInstance,
    inferInstance, inferInstance, inferInstance, inferInstance, inferInstance, inferInstance,
    inferInstance, inferInstance, inferInstance, inferInstance, inferInstance, inferInstance,
    inferInstance, inferInstance, inferInstance, inferInstance, inferInstance, inferInstance,
    inferInstance, inferInstance, inferInstance, inferInstance, inferInstance, inferInstance,
    inferInstance, inferInstance, inferInstance, inferInstance, inferInstance, inferInstance,
    inferInstance, inferInstance, inferInstance, inferInstance, inferInstance,
    MergeBwdClaims.frame, MergeBwdClaims.frame_ideal, MergeBwdClaims.frame_ref,
    GwGateUpClaims.frame, GwGateUpClaims.frame_ideal, GwGateUpClaims.frame_ref,
    GwInClaims.frame, GwInClaims.frame_ideal, GwInClaims.frame_ref,
    DBranchClaims.frame, DBranchClaims.frame_ideal, DBranchClaims.frame_ref,
    GwBranchClaims.frame, GwBranchClaims.frame_ideal, GwBranchClaims.frame_ref,
    DhRmsClaims.frame, DhRmsClaims.frame_ideal, DhRmsClaims.frame_ref,
    FfnDh2Claims.frame, FfnDh2Claims.frame_ideal, FfnDh2Claims.frame_ref,
    GwDownClaims.frame, GwDownClaims.frame_ideal, GwDownClaims.frame_ref,
    GwOutClaims.frame, GwOutClaims.frame_ideal, GwOutClaims.frame_ref,
    InProjClaims.frame, InProjClaims.frame_ideal, InProjClaims.frame_ref,
    FfnUpClaims.frame, FfnUpClaims.frame_ideal, FfnUpClaims.frame_ref,
    BranchMergeClaims.frame, BranchMergeClaims.frame_ideal, BranchMergeClaims.frame_ref,
    OutProjClaims.frame, OutProjClaims.frame_ideal, OutProjClaims.frame_ref,
    FfnDactClaims.frame, FfnDactClaims.frame_ideal, FfnDactClaims.frame_ideal_pre, FfnDactClaims.frame_ref,
    FfnDactClaims.frame_ref_pre,
    FfnDownLossClaims.frame, FfnDownLossClaims.frame_ideal, FfnDownLossClaims.frame_ref,
    DnPostBwdClaims.frame, DnPostBwdClaims.frame_ideal, DnPostBwdClaims.frame_ref,
    SwaFwdClaims.frame, SwaFwdClaims.frame_ideal, SwaFwdClaims.frame_ideal_pre, SwaFwdClaims.frame_ref,
    SwaFwdClaims.frame_ref_pre,
    trivial, MergeBwdClaims.algebraic,
    trivial, GwGateUpClaims.algebraic,
    trivial, GwInClaims.algebraic,
    trivial, DBranchClaims.algebraic,
    trivial, GwBranchClaims.algebraic,
    trivial, DhRmsClaims.algebraic,
    trivial, FfnDh2Claims.algebraic,
    trivial, GwDownClaims.algebraic,
    trivial, GwOutClaims.algebraic,
    trivial, InProjClaims.algebraic,
    trivial, FfnUpClaims.algebraic,
    trivial, BranchMergeClaims.algebraic,
    trivial, OutProjClaims.algebraic,
    trivial, FfnDactClaims.algebraic,
    trivial, FfnDownLossClaims.algebraic,
    trivial, DnPostBwdClaims.algebraic,
    Idealize.ShloMosaic.IdealRules.named_const.statement Cert.SwaFwdIdeal.κ "mask" .f32 0xF149F2CA#32 ⊥ rfl,
    SwaFwdClaims.algebraic⟩

end Cert.Proof
